-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v64) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v2_5)) (v6 : (c : Dev Cert.Kernel3Ideal.nD) → Buf (Elt Ideal) ((c.tc : Thread Cert.Kernel3Ideal.nD Cert.Kernel3Ideal.τ).loc Cert.Kernel3Ideal.main_v2_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v2_5) = v5 c
          ∧ r.2.mem ((c.tc : Thread Cert.Kernel3Ideal.nD Cert.Kernel3Ideal.τ).loc Cert.Kernel3Ideal.main_v2_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v23) = v4 c
          ∧ r.2.mem ((c.tc : Thread Cert.Reference3Ideal.nD Cert.Reference3Ideal.τ).loc Cert.Reference3Ideal.main_v34) = v5 c
          ∧ r.2.mem ((c.tc : Thread Cert.Reference3Ideal.nD Cert.Reference3Ideal.τ).loc Cert.Reference3Ideal.main_v35) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v26) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v12) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_v28) = v2 c
          ∧ r.2.mem ((c.tc : Thread Cert.Reference6Ideal.nD Cert.Reference6Ideal.τ).loc Cert.Reference6Ideal.main_v29) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_v27) = v1 c
          ∧ r.2.mem ((c.tc : Thread Cert.Reference7Ideal.nD Cert.Reference7Ideal.τ).loc Cert.Reference7Ideal.main_v28) = v2 c
          ∧ r.2.mem ((c.tc : Thread Cert.Reference7Ideal.nD Cert.Reference7Ideal.τ).loc Cert.Reference7Ideal.main_v29) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_v46) = v2 c
          ∧ r.2.mem ((c.tc : Thread Cert.Reference8Ideal.nD Cert.Reference8Ideal.τ).loc Cert.Reference8Ideal.main_v51) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_v46) = v2 c
          ∧ r.2.mem ((c.tc : Thread Cert.Reference9Ideal.nD Cert.Reference9Ideal.τ).loc Cert.Reference9Ideal.main_v51) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_v41) = v1 c
          ∧ r.2.mem ((c.tc : Thread Cert.Reference10Ideal.nD Cert.Reference10Ideal.τ).loc Cert.Reference10Ideal.main_v46) = v2 c
          ∧ r.2.mem ((c.tc : Thread Cert.Reference10Ideal.nD Cert.Reference10Ideal.τ).loc Cert.Reference10Ideal.main_v51) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_v41) = v1 c
          ∧ r.2.mem ((c.tc : Thread Cert.Reference11Ideal.nD Cert.Reference11Ideal.τ).loc Cert.Reference11Ideal.main_v46) = v2 c
          ∧ r.2.mem ((c.tc : Thread Cert.Reference11Ideal.nD Cert.Reference11Ideal.τ).loc Cert.Reference11Ideal.main_v51) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)) (v3 : (c : Dev Cert.Kernel12Ideal.nD) → Buf (Elt Ideal) ((c.tc : Thread Cert.Kernel12Ideal.nD Cert.Kernel12Ideal.τ).loc Cert.Kernel12Ideal.main_v2_3)) (v4 : (c : Dev Cert.Kernel12Ideal.nD) → Buf (Elt Ideal) ((c.tc : Thread Cert.Kernel12Ideal.nD Cert.Kernel12Ideal.τ).loc Cert.Kernel12Ideal.main_v2_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_v2_3) = v3 c
          ∧ r.2.mem ((c.tc : Thread Cert.Kernel12Ideal.nD Cert.Kernel12Ideal.τ).loc Cert.Kernel12Ideal.main_v2_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v175) = v0 c
          ∧ r.2.mem ((c.tc : Thread Cert.Reference12Ideal.nD Cert.Reference12Ideal.τ).loc Cert.Reference12Ideal.main_v152) = v1 c
          ∧ r.2.mem ((c.tc : Thread Cert.Reference12Ideal.nD Cert.Reference12Ideal.τ).loc Cert.Reference12Ideal.main_v128) = v2 c
          ∧ r.2.mem ((c.tc : Thread Cert.Reference12Ideal.nD Cert.Reference12Ideal.τ).loc Cert.Reference12Ideal.main_v176) = v3 c
          ∧ r.2.mem ((c.tc : Thread Cert.Reference12Ideal.nD Cert.Reference12Ideal.τ).loc Cert.Reference12Ideal.main_v177) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v63) = v0 c
          ∧ r.2.mem ((c.tc : Thread Cert.Reference13Ideal.nD Cert.Reference13Ideal.τ).loc Cert.Reference13Ideal.main_v12) = v1 c
          ∧ r.2.mem ((c.tc : Thread Cert.Reference13Ideal.nD Cert.Reference13Ideal.τ).loc Cert.Reference13Ideal.main_v64) = v2 c
          ∧ r.2.mem ((c.tc : Thread Cert.Reference13Ideal.nD Cert.Reference13Ideal.τ).loc Cert.Reference13Ideal.main_v65) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4x2048x1024 : Shape := ⟨3, ![4, 2048, 1024]⟩
abbrev S4x1024 : Shape := ⟨2, ![4, 1024]⟩
abbrev S4x2048x256 : Shape := ⟨3, ![4, 2048, 256]⟩
abbrev S1024x1024 : Shape := ⟨2, ![1024, 1024]⟩
abbrev S4x2048x512 : Shape := ⟨3, ![4, 2048, 512]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn_part1 {F : FTy → Type} [FloatOps F] (main_v13 : IVec S_ 1) (main_v16 : IVec S4x2048x512 1) : IVec S_ 1 :=
  let main_c_5 : IVec S_ 1 := constantI S_ 1 1#1
  let main_v17 : IVec S_ 1 := (fun x v => Host.reduce IntOp.andi x v reducesTo_S4x2048x512_S_d0_1_2 h_S_) main_v16 main_c_5
  let main_v18 : IVec S_ 1 := andi main_v13 main_v17
  main_v18

def fn {F : FTy → Type} [FloatOps F] (main_arg0 : FVec F S4x2048x1024 .f32) (main_arg1 : FVec F S4x2048x1024 .bf16) (main_arg2 : FVec F S4x1024 .f32) (main_arg3 : FVec F S4x2048x256 .bf16) (main_arg4 : FVec F S4x2048x256 .bf16) (main_arg5 : FVec F S1024x1024 .f32) (main_arg6 : FVec F S4x2048x512 .f32) (main_arg7 : FVec F S4x2048x1024 .bf16) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x1024 .f32 := Host.absf main_arg2
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S1024x1024 .f32 := Host.absf main_arg5
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S4x2048x512 .f32 := Host.absf main_arg6
  let main_cst_4 : FVec F S_ .f32 := constant S_ .f32 0x7F800000#32
  let main_v15 : FVec F S4x2048x512 .f32 := broadcastInDim S4x2048x512 ![] bcast_S_S4x2048x512 main_cst_4
  let main_v16 : IVec S4x2048x512 1 := cmpf .olt main_v14 main_v15
  fn_part1 (F := F) main_v13 main_v16
-- ==== Kernel.lean ====
abbrev S4x2048x1024 : Shape := ⟨3, ![4, 2048, 1024]⟩
abbrev S4x1024 : Shape := ⟨2, ![4, 1024]⟩
abbrev S1024 : Shape := ⟨1, ![1024]⟩
abbrev S1024x2944 : Shape := ⟨2, ![1024, 2944]⟩
abbrev S4x2048x512 : Shape := ⟨3, ![4, 2048, 512]⟩
abbrev S4x2048x896 : Shape := ⟨3, ![4, 2048, 896]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x896 : Shape := ⟨3, ![1, 512, 896]⟩
abbrev S512x1024 : Shape := ⟨2, ![512, 1024]⟩
abbrev S512x512 : Shape := ⟨2, ![512, 512]⟩
abbrev S512x896 : Shape := ⟨2, ![512, 896]⟩
abbrev S512x2944 : Shape := ⟨2, ![512, 2944]⟩
abbrev S512 : Shape := ⟨1, ![512]⟩
abbrev S512x1 : Shape := ⟨2, ![512, 1]⟩

abbrev nBuf : Space → Nat
  | .hbm => 16
  | .vmem => 23
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S1024, .f32⟩
  | .hbm, ⟨3, _⟩ => ⟨S1024x2944, .f32⟩
  | .hbm, ⟨4, _⟩ => ⟨S4x2048x1024, .bf16⟩
  | .hbm, ⟨5, _⟩ => ⟨S4x2048x512, .bf16⟩
  | .hbm, ⟨6, _⟩ => ⟨S4x2048x512, .bf16⟩
  | .hbm, ⟨7, _⟩ => ⟨S4x2048x896, .bf16⟩
  | .hbm, ⟨8, _⟩ => ⟨S4x2048x1024, .f32⟩
  | .hbm, ⟨9, _⟩ => ⟨S4x1x1024, .f32⟩
  | .hbm, ⟨10, _⟩ => ⟨S1x1024, .f32⟩
  | .hbm, ⟨11, _⟩ => ⟨S1024x2944, .bf16⟩
  | .hbm, ⟨12, _⟩ => ⟨S4x2048x1024, .f32⟩
  | .hbm, ⟨13, _⟩ => ⟨S4x1x1024, .f32⟩
  | .hbm, ⟨14, _⟩ => ⟨S4x1x1024, .f32⟩
  | .hbm, ⟨15, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1024x2944, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x896, .bf16⟩
  | .local _ .vmem, ⟨13, _⟩ => ⟨S1x512x896, .bf16⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x896 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S4x2048x1024 : Shape := ⟨3, ![4, 2048, 1024]⟩
abbrev S4x1024 : Shape := ⟨2, ![4, 1024]⟩
abbrev S1024 : Shape := ⟨1, ![1024]⟩
abbrev S1024x2944 : Shape := ⟨2, ![1024, 2944]⟩
abbrev S4x2048x512 : Shape := ⟨3, ![4, 2048, 512]⟩
abbrev S4x2048x896 : Shape := ⟨3, ![4, 2048, 896]⟩
abbrev S4x2048x2944 : Shape := ⟨3, ![4, 2048, 2944]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S1x1024 : Shape := ⟨2, ![1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S1024, .f32⟩
  | .hbm, ⟨3, _⟩ => ⟨S1024x2944, .f32⟩
  | .hbm, ⟨4, _⟩ => ⟨S4x2048x1024, .bf16⟩
  | .hbm, ⟨5, _⟩ => ⟨S4x2048x512, .bf16⟩
  | .hbm, ⟨6, _⟩ => ⟨S4x2048x512, .bf16⟩
  | .hbm, ⟨7, _⟩ => ⟨S4x2048x896, .bf16⟩
  | .hbm, ⟨8, _⟩ => ⟨S4x2048x1024, .f32⟩
  | .hbm, ⟨9, _⟩ => ⟨S4x2048x1024, .f32⟩
  | .hbm, ⟨10, _⟩ => ⟨S4x2048x512, .f32⟩
  | .hbm, ⟨11, _⟩ => ⟨S4x2048x512, .f32⟩
  | .hbm, ⟨12, _⟩ => ⟨S4x2048x896, .f32⟩
  | .hbm, ⟨13, _⟩ => ⟨S4x2048x2944, .f32⟩
  | .hbm, ⟨14, _⟩ => ⟨S_, .f32⟩
  | .hbm, ⟨15, _⟩ => ⟨S4x1024, .f32⟩
  | .hbm, ⟨16, _⟩ => ⟨S4x2048x1024, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1024, .f32⟩
  | .hbm, ⟨32, _⟩ => ⟨S4x2048x1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | .hbm, ⟨36, _⟩ => ⟨S4x1x1024, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x2048x1024, .f32⟩
  | .hbm, ⟨41, _⟩ => ⟨S4x2048x1024, .f32⟩
  | .hbm, ⟨42, _⟩ => ⟨S4x1x1024, .f32⟩
  | .hbm, ⟨43, _⟩ => ⟨S4x2048x1024, .f32⟩
  | .hbm, ⟨44, _⟩ => ⟨S4x2048x1024, .f32⟩
  | .hbm, ⟨45, _⟩ => ⟨S4x2048x2944, .f32⟩
  | .hbm, ⟨46, _⟩ => ⟨S4x2048x1024, .f32⟩
  | .hbm, ⟨47, _⟩ => ⟨S_, .f32⟩
  | .hbm, ⟨48, _⟩ => ⟨S4x1024, .f32⟩
  | .hbm, ⟨49, _⟩ => ⟨S4x1x1024, .f32⟩
  | .hbm, ⟨50, _⟩ => ⟨S_, .f32⟩
  | .hbm, ⟨51, _⟩ => ⟨S4x1024, .f32⟩
  | .hbm, ⟨52, _⟩ => ⟨S4x2048x1024, .f32⟩
  | .hbm, ⟨53, _⟩ => ⟨S_, .f32⟩
  | .hbm, ⟨54, _⟩ => ⟨S4x1024, .f32⟩
  | .hbm, ⟨55, _⟩ => ⟨S4x1x1024, .f32⟩
  | .hbm, ⟨56, _⟩ => ⟨S4x2048x1024, .f32⟩
  | .hbm, ⟨57, _⟩ => ⟨S4x2048x1024, .f32⟩
  | .hbm, ⟨58, _⟩ => ⟨S_, .f32⟩
  | .hbm, ⟨59, _⟩ => ⟨S4x1024, .f32⟩
  | .hbm, ⟨60, _⟩ => ⟨S4x2048x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S4x2048x1024, .f32⟩
  | .hbm, ⟨65, _⟩ => ⟨S4x2048x1024, .f32⟩
  | .hbm, ⟨66, _⟩ => ⟨S_, .f32⟩
  | .hbm, ⟨67, _⟩ => ⟨S1024, .f32⟩
  | .hbm, ⟨68, _⟩ => ⟨S4x2048x1024, .f32⟩
  | .hbm, ⟨69, _⟩ => ⟨S_, .f32⟩
  | .hbm, ⟨70, _⟩ => ⟨S4x2048, .f32⟩
  | .hbm, ⟨71, _⟩ => ⟨S4x2048x1, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1, .f32⟩
  | .hbm, ⟨76, _⟩ => ⟨S_, .f32⟩
  | .hbm, ⟨77, _⟩ => ⟨S4x2048x1, .f32⟩
  | .hbm, ⟨78, _⟩ => ⟨S4x2048x1, .f32⟩
  | .hbm, ⟨79, _⟩ => ⟨S_, .f32⟩
  | .hbm, ⟨80, _⟩ => ⟨S4x2048, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x1x1024, .f32⟩
  | .hbm, ⟨87, _⟩ => ⟨S4x1x1024, .f32⟩
  | .hbm, ⟨88, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Kernel2.lean ====
abbrev S4x2048x1024 : Shape := ⟨3, ![4, 2048, 1024]⟩
abbrev S4x2048x512 : Shape := ⟨3, ![4, 2048, 512]⟩
abbrev S4x2048x896 : Shape := ⟨3, ![4, 2048, 896]⟩
abbrev S1024x2944 : Shape := ⟨2, ![1024, 2944]⟩
abbrev S1x512x1024 : Shape := ⟨3, ![1, 512, 1024]⟩
abbrev S1x512x512 : Shape := ⟨3, ![1, 512, 512]⟩
abbrev S1x512x896 : Shape := ⟨3, ![1, 512, 896]⟩
abbrev S512x1024 : Shape := ⟨2, ![512, 1024]⟩
abbrev S1024x1024 : Shape := ⟨2, ![1024, 1024]⟩
abbrev S1024x512 : Shape := ⟨2, ![1024, 512]⟩
abbrev S512x512 : Shape := ⟨2, ![512, 512]⟩
abbrev S1024x896 : Shape := ⟨2, ![1024, 896]⟩
abbrev S512x896 : Shape := ⟨2, ![512, 896]⟩

abbrev nBuf : Space → Nat
  | .hbm => 6
  | .vmem => 12
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x512, .bf16⟩
  | .hbm, ⟨3, _⟩ => ⟨S4x2048x512, .bf16⟩
  | .hbm, ⟨4, _⟩ => ⟨S4x2048x896, .bf16⟩
  | .hbm, ⟨5, _⟩ => ⟨S1024x2944, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x896, .bf16⟩
  | .local _ .vmem, ⟨9, _⟩ => ⟨S1x512x896, .bf16⟩
  | .local _ .vmem, ⟨10, _⟩ => ⟨S1024x2944, .bf16⟩
  | .local _ .vmem, ⟨11, _⟩ => ⟨S1024x2944, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg0 : BitVec 32 := BitVec.ofNat 32 (i 0).val
  let c3_i32 : BitVec 32 := 3#32
  let v39 : BitVec 1 := Scalar.cmpi .eq arg0 c3_i32
  let arg1 : BitVec 32 := BitVec.ofNat 32 (i 1).val
  let c3_i32_32 : BitVec 32 := 3#32
  let v40 : BitVec 1 := Scalar.cmpi .eq arg1 c3_i32_32
  let v41 : BitVec 1 := Scalar.andi v39 v40
  let v42 : BitVec 32 := Scalar.extui v41
  let c0_i32_33 : BitVec 32 := 0#32
  let v43 : BitVec 1 := Scalar.cmpi .ne v42 c0_i32_33
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x2944 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Reference2Ideal.lean ====
abbrev S4x2048x1024 : Shape := ⟨3, ![4, 2048, 1024]⟩
abbrev S4x2048x512 : Shape := ⟨3, ![4, 2048, 512]⟩
abbrev S4x2048x896 : Shape := ⟨3, ![4, 2048, 896]⟩
abbrev S4x2048x2944 : Shape := ⟨3, ![4, 2048, 2944]⟩
abbrev S_ : Shape := ⟨0, ![]⟩
abbrev S1024x2944 : Shape := ⟨2, ![1024, 2944]⟩
abbrev S2944x1024 : Shape := ⟨2, ![2944, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x512, .bf16⟩
  | .hbm, ⟨3, _⟩ => ⟨S4x2048x512, .bf16⟩
  | .hbm, ⟨4, _⟩ => ⟨S4x2048x896, .bf16⟩
  | .hbm, ⟨5, _⟩ => ⟨S4x2048x1024, .f32⟩
  | .hbm, ⟨6, _⟩ => ⟨S4x2048x512, .f32⟩
  | .hbm, ⟨7, _⟩ => ⟨S4x2048x512, .f32⟩
  | .hbm, ⟨8, _⟩ => ⟨S4x2048x896, .f32⟩
  | .hbm, ⟨9, _⟩ => ⟨S4x2048x2944, .f32⟩
  | .hbm, ⟨10, _⟩ => ⟨S_, .f32⟩
  | .hbm, ⟨11, _⟩ => ⟨S1024x2944, .f32⟩
  | .hbm, ⟨12, _⟩ => ⟨S4x2048x1024, .f32⟩
  | .hbm, ⟨13, _⟩ => ⟨S4x2048x2944, .f32⟩
  | .hbm, ⟨14, _⟩ => ⟨S2944x1024, .f32⟩
  | .hbm, ⟨15, _⟩ => ⟨S1024x2944, .f32⟩
  | .hbm, ⟨16, _⟩ => ⟨S1024x2944, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel3.lean ====
abbrev S4x2048x1024 : Shape := ⟨3, ![4, 2048, 1024]⟩
abbrev S4x1024 : Shape := ⟨2, ![4, 1024]⟩
abbrev S4x2048x256 : Shape := ⟨3, ![4, 2048, 256]⟩
abbrev S1024x1024 : Shape := ⟨2, ![1024, 1024]⟩
abbrev S4x2048x512 : Shape := ⟨3, ![4, 2048, 512]⟩
abbrev S4x1x1024 : Shape := ⟨3, ![4, 1, 1024]⟩
abbrev S4x4x8x2x256 : Shape := ⟨5, ![4, 4, 8, 2, 256]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x512 : Shape := ⟨3, ![1, 512, 512]⟩
abbrev S1x4x2x2x256 : Shape := ⟨5, ![1, 4, 2, 2, 256]⟩
abbrev S512x1024 : Shape := ⟨2, ![512, 1024]⟩
abbrev S1x1024 : Shape := ⟨2, ![1, 1024]⟩
abbrev S1024 : Shape := ⟨1, ![1024]⟩
abbrev S256x1024 : Shape := ⟨2, ![256, 1024]⟩
abbrev S512x256 : Shape := ⟨2, ![512, 256]⟩
abbrev S512x512 : Shape := ⟨2, ![512, 512]⟩
abbrev S512x128 : Shape := ⟨2, ![512, 128]⟩
abbrev S128x512 : Shape := ⟨2, ![128, 512]⟩
abbrev S64x512 : Shape := ⟨2, ![64, 512]⟩
abbrev S512 : Shape := ⟨1, ![512]⟩
abbrev S1x512 : Shape := ⟨2, ![1, 512]⟩
abbrev S1x256 : Shape := ⟨2, ![1, 256]⟩
abbrev S1x1x1x1x256 : Shape := ⟨5, ![1, 1, 1, 1, 256]⟩

abbrev nBuf : Space → Nat
  | .hbm => 17
  | .vmem => 29
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .bf16⟩
  | .hbm, ⟨2, _⟩ => ⟨S4x1024, .f32⟩
  | .hbm, ⟨3, _⟩ => ⟨S4x2048x256, .bf16⟩
  | .hbm, ⟨4, _⟩ => ⟨S4x2048x256, .bf16⟩
  | .hbm, ⟨5, _⟩ => ⟨S1024x1024, .f32⟩
  | .hbm, ⟨6, _⟩ => ⟨S4x2048x512, .f32⟩
  | .hbm, ⟨7, _⟩ => ⟨S4x2048x1024, .bf16⟩
  | .hbm, ⟨8, _⟩ => ⟨S4x1x1024, .f32⟩
  | .hbm, ⟨9, _⟩ => ⟨S1024x1024, .bf16⟩
  | .hbm, ⟨10, _⟩ => ⟨S4x2048x256, .f32⟩
  | .hbm, ⟨11, _⟩ => ⟨S4x2048x512, .bf16⟩
  | .hbm, ⟨12, _⟩ => ⟨S4x2048x512, .bf16⟩
  | .hbm, ⟨13, _⟩ => ⟨S4x4x8x2x256, .f32⟩
  | .hbm, ⟨14, _⟩ => ⟨S4x2048x256, .f32⟩
  | .hbm, ⟨15, _⟩ => ⟨S1024x1024, .bf16⟩
  | .hbm, ⟨16, _⟩ => ⟨S4x1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1024x1024, .bf16⟩
  | .local _ .vmem, ⟨11, _⟩ => ⟨S1x512x512, .f32⟩
  | .local _ .vmem, ⟨12, _⟩ => ⟨S1x512x512, .f32⟩
  | .local _ .vmem, ⟨13, _⟩ => ⟨S1x512x512, .bf16⟩
  | .local _ .vmem, ⟨14, _⟩ => ⟨S1x512x512, .bf16⟩
  | .local _ .vmem, ⟨15, _⟩ => ⟨S1x512x256, .f32⟩
  | .local _ .vmem, ⟨16, _⟩ => ⟨S1x512x256, .f32⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x4x2x2x256, .f32⟩
  | .local _ .vmem, ⟨22, _⟩ => ⟨S1x4x2x2x256, .f32⟩
  | .local _ .vmem, ⟨23, _⟩ => ⟨S1x512x256, .f32⟩
  | .local _ .vmem, ⟨24, _⟩ => ⟨S1x512x256, .f32⟩
  | .local _ .vmem, ⟨25, _⟩ => ⟨S1024x1024, .bf16⟩
  | .local _ .vmem, ⟨26, _⟩ => ⟨S1x1x1024, .f32⟩
  | .local _ .vmem, ⟨27, _⟩ => ⟨S1x1x1024, .f32⟩
  | .local _ .vmem, ⟨28, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg0 : BitVec 32 := BitVec.ofNat 32 (i 0).val
  let c3_i32 : BitVec 32 := 3#32
  let v76 : BitVec 1 := Scalar.cmpi .eq arg0 c3_i32
  let arg1 : BitVec 32 := BitVec.ofNat 32 (i 1).val
  let c3_i32_58 : BitVec 32 := 3#32
  let v77 : BitVec 1 := Scalar.cmpi .eq arg1 c3_i32_58
  let v78 : BitVec 1 := Scalar.andi v76 v77
  let v79 : BitVec 32 := Scalar.extui v78
  let c0_i32_59 : BitVec 32 := 0#32
  let v80 : BitVec 1 := Scalar.cmpi .ne v79 c0_i32_59
  v80

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x2x2x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== Reference3Ideal.lean ====
abbrev S4x2048x1024 : Shape := ⟨3, ![4, 2048, 1024]⟩
abbrev S4x1024 : Shape := ⟨2, ![4, 1024]⟩
abbrev S4x2048x256 : Shape := ⟨3, ![4, 2048, 256]⟩
abbrev S1024x1024 : Shape := ⟨2, ![1024, 1024]⟩
abbrev S4x2048x512 : Shape := ⟨3, ![4, 2048, 512]⟩
abbrev S4x1x1024 : Shape := ⟨3, ![4, 1, 1024]⟩
abbrev S_ : Shape := ⟨0, ![]⟩
abbrev S4x2048x8x64 : Shape := ⟨4, ![4, 2048, 8, 64]⟩
abbrev S4x2048x8 : Shape := ⟨3, ![4, 2048, 8]⟩
abbrev S4x8x256x4x2 : Shape := ⟨5, ![4, 8, 256, 4, 2]⟩
abbrev S4x4x8x2x256 : Shape := ⟨5, ![4, 4, 8, 2, 256]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .bf16⟩
  | .hbm, ⟨2, _⟩ => ⟨S4x1024, .f32⟩
  | .hbm, ⟨3, _⟩ => ⟨S4x2048x256, .bf16⟩
  | .hbm, ⟨4, _⟩ => ⟨S4x2048x256, .bf16⟩
  | .hbm, ⟨5, _⟩ => ⟨S1024x1024, .f32⟩
  | .hbm, ⟨6, _⟩ => ⟨S4x2048x512, .f32⟩
  | .hbm, ⟨7, _⟩ => ⟨S4x2048x1024, .bf16⟩
  | .hbm, ⟨8, _⟩ => ⟨S4x2048x512, .bf16⟩
  | .hbm, ⟨9, _⟩ => ⟨S4x2048x256, .f32⟩
  | .hbm, ⟨10, _⟩ => ⟨S4x2048x256, .f32⟩
  | .hbm, ⟨11, _⟩ => ⟨S4x2048x1024, .f32⟩
  | .hbm, ⟨12, _⟩ => ⟨S4x2048x512, .f32⟩
  | .hbm, ⟨13, _⟩ => ⟨S4x1x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x1024, .f32⟩
  | .hbm, ⟨21, _⟩ => ⟨S4x1x1024, .f32⟩
  | .hbm, ⟨22, _⟩ => ⟨S_, .f32⟩
  | .hbm, ⟨23, _⟩ => ⟨S4x1024, .f32⟩
  | .hbm, ⟨24, _⟩ => ⟨S4x2048x512, .f32⟩
  | .hbm, ⟨25, _⟩ => ⟨S4x2048x512, .f32⟩
  | .hbm, ⟨26, _⟩ => ⟨S_, .f32⟩
  | .hbm, ⟨27, _⟩ => ⟨S4x2048x512, .f32⟩
  | .hbm, ⟨28, _⟩ => ⟨S4x2048x512, .f32⟩
  | .hbm, ⟨29, _⟩ => ⟨S_, .f32⟩
  | .hbm, ⟨30, _⟩ => ⟨S4x2048x512, .f32⟩
  | .hbm, ⟨31, _⟩ => ⟨S4x2048x512, .f32⟩
  | .hbm, ⟨32, _⟩ => ⟨S_, .f32⟩
  | .hbm, ⟨33, _⟩ => ⟨S4x2048x512, .f32⟩
  | .hbm, ⟨34, _⟩ => ⟨S4x2048x512, .f32⟩
  | .hbm, ⟨35, _⟩ => ⟨S4x2048x512, .f32⟩
  | .hbm, ⟨36, _⟩ => ⟨S4x2048x512, .f32⟩
  | .hbm, ⟨37, _⟩ => ⟨S4x2048x512, .f32⟩
  | .hbm, ⟨38, _⟩ => ⟨S4x2048x1024, .f32⟩
  | .hbm, ⟨39, _⟩ => ⟨S4x2048x1024, .f32⟩
  | .hbm, ⟨40, _⟩ => ⟨S1024x1024, .f32⟩
  | .hbm, ⟨41, _⟩ => ⟨S1024x1024, .f32⟩
  | .hbm, ⟨42, _⟩ => ⟨S4x2048x1024, .f32⟩
  | .hbm, ⟨43, _⟩ => ⟨S4x2048x256, .f32⟩
  | .hbm, ⟨44, _⟩ => ⟨S4x2048x512, .f32⟩
  | .hbm, ⟨45, _⟩ => ⟨S4x2048x256, .f32⟩
  | .hbm, ⟨46, _⟩ => ⟨S4x2048x512, .f32⟩
  | .hbm, ⟨47, _⟩ => ⟨S4x2048x512, .f32⟩
  | .hbm, ⟨48, _⟩ => ⟨S4x2048x512, .f32⟩
  | .hbm, ⟨49, _⟩ => ⟨S4x2048x512, .f32⟩
  | .hbm, ⟨50, _⟩ => ⟨S4x2048x512, .f32⟩
  | .hbm, ⟨51, _⟩ => ⟨S4x2048x512, .f32⟩
  | .hbm, ⟨52, _⟩ => ⟨S4x2048x512, .f32⟩
  | .hbm, ⟨53, _⟩ => ⟨S4x2048x8x64, .f32⟩
  | .hbm, ⟨54, _⟩ => ⟨S_, .f32⟩
  | .hbm, ⟨55, _⟩ => ⟨S4x2048x8, .f32⟩
  | .hbm, ⟨56, _⟩ => ⟨S4x8x256x4x2, .f32⟩
  | .hbm, ⟨57, _⟩ => ⟨S4x4x8x2x256, .f32⟩
  | .hbm, ⟨58, _⟩ => ⟨S4x2048x512, .bf16⟩
  | .hbm, ⟨59, _⟩ => ⟨S4x2048x512, .bf16⟩
  | .hbm, ⟨60, _⟩ => ⟨S1024x1024, .bf16⟩
  | .hbm, ⟨61, _⟩ => ⟨S4x1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v14_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v14_1 : Ref sig .tc := ⟨.hbm, 35, rfl⟩
abbrev main_v14_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩

abbrev nD : Nat := 1
abbrev τ : Topo := Topo.v7x

variable {F : FTy → Type} [FloatOps F]
-- ==== Kernel4.lean ====
abbrev S4x2048x1024 : Shape := ⟨3, ![4, 2048, 1024]⟩
abbrev S4x1024 : Shape := ⟨2, ![4, 1024]⟩
abbrev S1024 : Shape := ⟨1, ![1024]⟩
abbrev S1024x2944 : Shape := ⟨2, ![1024, 2944]⟩
abbrev S4x1x1024 : Shape := ⟨3, ![4, 1, 1024]⟩
abbrev S1x1024 : Shape := ⟨2, ![1, 1024]⟩
abbrev S4x2048x896 : Shape := ⟨3, ![4, 2048, 896]⟩
abbrev S1x512x1024 : Shape := ⟨3, ![1, 512, 1024]⟩
abbrev S1x1x1024 : Shape := ⟨3, ![1, 1, 1024]⟩
abbrev S1x512x896 : Shape := ⟨3, ![1, 512, 896]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x896 : Shape := ⟨2, ![1024, 896]⟩
abbrev S512x896 : Shape := ⟨2, ![512, 896]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x2944, .f32⟩
  | .hbm, ⟨5, _⟩ => ⟨S4x1x1024, .f32⟩
  | .hbm, ⟨6, _⟩ => ⟨S4x1x1024, .f32⟩
  | .hbm, ⟨7, _⟩ => ⟨S1x1024, .f32⟩
  | .hbm, ⟨8, _⟩ => ⟨S1024x2944, .bf16⟩
  | .hbm, ⟨9, _⟩ => ⟨S4x2048x1024, .bf16⟩
  | .hbm, ⟨10, _⟩ => ⟨S4x2048x1024, .bf16⟩
  | .hbm, ⟨11, _⟩ => ⟨S4x2048x896, .bf16⟩
  | .hbm, ⟨12, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2944, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x896, .bf16⟩
  | .local _ .vmem, ⟨13, _⟩ => ⟨S1x512x896, .bf16⟩
  | .local _ .vmem, ⟨14, _⟩ => ⟨S1x512x1024, .bf16⟩
  | .local _ .vmem, ⟨15, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x896 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x2048x1024 : Shape := ⟨3, ![4, 2048, 1024]⟩
abbrev S4x1024 : Shape := ⟨2, ![4, 1024]⟩
abbrev S1024 : Shape := ⟨1, ![1024]⟩
abbrev S1024x2944 : Shape := ⟨2, ![1024, 2944]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x1x1024 : Shape := ⟨3, ![4, 1, 1024]⟩
abbrev S4x2048x2944 : Shape := ⟨3, ![4, 2048, 2944]⟩
abbrev S4x2048x896 : Shape := ⟨3, ![4, 2048, 896]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x2944, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x2048x1024, .f32⟩
  | .hbm, ⟨26, _⟩ => ⟨S4x2048x1024, .f32⟩
  | .hbm, ⟨27, _⟩ => ⟨S4x1x1024, .f32⟩
  | .hbm, ⟨28, _⟩ => ⟨S4x2048x1024, .f32⟩
  | .hbm, ⟨29, _⟩ => ⟨S4x2048x1024, .f32⟩
  | .hbm, ⟨30, _⟩ => ⟨S4x2048x2944, .f32⟩
  | .hbm, ⟨31, _⟩ => ⟨S4x2048x2944, .bf16⟩
  | .hbm, ⟨32, _⟩ => ⟨S4x2048x1024, .bf16⟩
  | .hbm, ⟨33, _⟩ => ⟨S4x2048x1024, .bf16⟩
  | .hbm, ⟨34, _⟩ => ⟨S4x2048x896, .bf16⟩
  | .hbm, ⟨35, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel5.lean ====
abbrev S4x2048x1024 : Shape := ⟨3, ![4, 2048, 1024]⟩
abbrev S4x1024 : Shape := ⟨2, ![4, 1024]⟩
abbrev S4x2048x256 : Shape := ⟨3, ![4, 2048, 256]⟩
abbrev S4x2048x512 : Shape := ⟨3, ![4, 2048, 512]⟩
abbrev S1024x1024 : Shape := ⟨2, ![1024, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x512 : Shape := ⟨3, ![1, 512, 512]⟩
abbrev S512x512 : Shape := ⟨2, ![512, 512]⟩
abbrev S512x256 : Shape := ⟨2, ![512, 256]⟩
abbrev S256x1024 : Shape := ⟨2, ![256, 1024]⟩
abbrev S512x1024 : Shape := ⟨2, ![512, 1024]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x2048x256, .bf16⟩
  | .hbm, ⟨3, _⟩ => ⟨S4x2048x512, .f32⟩
  | .hbm, ⟨4, _⟩ => ⟨S4x2048x1024, .bf16⟩
  | .hbm, ⟨5, _⟩ => ⟨S4x2048x256, .bf16⟩
  | .hbm, ⟨6, _⟩ => ⟨S1024x1024, .f32⟩
  | .hbm, ⟨7, _⟩ => ⟨S4x1x1024, .f32⟩
  | .hbm, ⟨8, _⟩ => ⟨S1024x1024, .bf16⟩
  | .hbm, ⟨9, _⟩ => ⟨S4x2048x1024, .f32⟩
  | .hbm, ⟨10, _⟩ => ⟨S4x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x256, .bf16⟩
  | .local _ .vmem, ⟨5, _⟩ => ⟨S1x512x256, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .bf16⟩
  | .local _ .vmem, ⟨9, _⟩ => ⟨S1x512x512, .bf16⟩
  | .local _ .vmem, ⟨10, _⟩ => ⟨S1x512x256, .bf16⟩
  | .local _ .vmem, ⟨11, _⟩ => ⟨S1x512x256, .bf16⟩
  | .local _ .vmem, ⟨12, _⟩ => ⟨S1024x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x1024, .bf16⟩
  | .local _ .vmem, ⟨16, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S4x2048x1024 : Shape := ⟨3, ![4, 2048, 1024]⟩
abbrev S4x1024 : Shape := ⟨2, ![4, 1024]⟩
abbrev S4x2048x256 : Shape := ⟨3, ![4, 2048, 256]⟩
abbrev S4x2048x512 : Shape := ⟨3, ![4, 2048, 512]⟩
abbrev S1024x1024 : Shape := ⟨2, ![1024, 1024]⟩
abbrev S_ : Shape := ⟨0, ![]⟩
abbrev S4x1x1024 : Shape := ⟨3, ![4, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x2048x256, .bf16⟩
  | .hbm, ⟨3, _⟩ => ⟨S4x2048x512, .f32⟩
  | .hbm, ⟨4, _⟩ => ⟨S4x2048x1024, .bf16⟩
  | .hbm, ⟨5, _⟩ => ⟨S4x2048x256, .bf16⟩
  | .hbm, ⟨6, _⟩ => ⟨S1024x1024, .f32⟩
  | .hbm, ⟨7, _⟩ => ⟨S4x2048x512, .bf16⟩
  | .hbm, ⟨8, _⟩ => ⟨S4x2048x256, .f32⟩
  | .hbm, ⟨9, _⟩ => ⟨S4x2048x256, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S_, .f32⟩
  | .hbm, ⟨14, _⟩ => ⟨S4x2048x512, .f32⟩
  | .hbm, ⟨15, _⟩ => ⟨S4x2048x512, .f32⟩
  | .hbm, ⟨16, _⟩ => ⟨S_, .f32⟩
  | .hbm, ⟨17, _⟩ => ⟨S4x2048x512, .f32⟩
  | .hbm, ⟨18, _⟩ => ⟨S4x2048x512, .f32⟩
  | .hbm, ⟨19, _⟩ => ⟨S4x2048x512, .f32⟩
  | .hbm, ⟨20, _⟩ => ⟨S4x2048x512, .f32⟩
  | .hbm, ⟨21, _⟩ => ⟨S4x2048x1024, .f32⟩
  | .hbm, ⟨22, _⟩ => ⟨S4x2048x1024, .f32⟩
  | .hbm, ⟨23, _⟩ => ⟨S4x1x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩

abbrev nD : Nat := 1
abbrev τ : Topo := Topo.v7x

variable {F : FTy → Type} [FloatOps F]
-- ==== Kernel6.lean ====
abbrev S1x2048x384 : Shape := ⟨3, ![1, 2048, 384]⟩
abbrev S2x1024x384 : Shape := ⟨3, ![2, 1024, 384]⟩
abbrev S2048x384 : Shape := ⟨2, ![2048, 384]⟩
abbrev S1x256x384 : Shape := ⟨3, ![1, 256, 384]⟩
abbrev S256x384 : Shape := ⟨2, ![256, 384]⟩

abbrev nBuf : Space → Nat
  | .hbm => 11
  | .vmem => 16
  | .smem => 0
  | _ => 0

abbrev bufTy : (tb : Table) → Fin (tcTables nBuf tb) → BufTy
  | .hbm, ⟨0, _⟩ => ⟨S1x2048x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .local _ .vmem, ⟨0, _⟩ => ⟨S1x256x384, .f32⟩
  | .local _ .vmem, ⟨1, _⟩ => ⟨S1x256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S1x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S1x2048x384 : Shape := ⟨3, ![1, 2048, 384]⟩
abbrev S2x1024x384 : Shape := ⟨3, ![2, 1024, 384]⟩
abbrev S_ : Shape := ⟨0, ![]⟩
abbrev S2048x384 : Shape := ⟨2, ![2048, 384]⟩

abbrev nBuf : Space → Nat
  | .hbm => 44
  | .vmem => 0
  | .smem => 0
  | _ => 0

abbrev bufTy : (tb : Table) → Fin (tcTables nBuf tb) → BufTy
  | .hbm, ⟨0, _⟩ => ⟨S1x2048x384, .f32⟩
  | .hbm, ⟨1, _⟩ => ⟨S2x1024x384, .f32⟩
  | .hbm, ⟨2, _⟩ => ⟨S2x1024x384, .f32⟩
  | .hbm, ⟨3, _⟩ => ⟨S2x1024x384, .f32⟩
  | .hbm, ⟨4, _⟩ => ⟨S_, .f32⟩
  | .hbm, ⟨5, _⟩ => ⟨S2048x384, .f32⟩
  | .hbm, ⟨6, _⟩ => ⟨S2x1024x384, .f32⟩
  | .hbm, ⟨7, _⟩ => ⟨S_, .f32⟩
  | .hbm, ⟨8, _⟩ => ⟨S2x1024x384, .f32⟩
  | .hbm, ⟨9, _⟩ => ⟨S2x1024x384, .f32⟩
  | .hbm, ⟨10, _⟩ => ⟨S_, .f32⟩
  | .hbm, ⟨11, _⟩ => ⟨S2x1024x384, .f32⟩
  | .hbm, ⟨12, _⟩ => ⟨S2x1024x384, .f32⟩
  | .hbm, ⟨13, _⟩ => ⟨S2x1024x384, .f32⟩
  | .hbm, ⟨14, _⟩ => ⟨S_, .f32⟩
  | .hbm, ⟨15, _⟩ => ⟨S2x1024x384, .f32⟩
  | .hbm, ⟨16, _⟩ => ⟨S2x1024x384, .f32⟩
  | .hbm, ⟨17, _⟩ => ⟨S2x1024x384, .f32⟩
  | .hbm, ⟨18, _⟩ => ⟨S_, .f32⟩
  | .hbm, ⟨19, _⟩ => ⟨S2x1024x384, .f32⟩
  | .hbm, ⟨20, _⟩ => ⟨S2x1024x384, .f32⟩
  | .hbm, ⟨21, _⟩ => ⟨S2x1024x384, .f32⟩
  | .hbm, ⟨22, _⟩ => ⟨S_, .f32⟩
  | .hbm, ⟨23, _⟩ => ⟨S2x1024x384, .f32⟩
  | .hbm, ⟨24, _⟩ => ⟨S2x1024x384, .f32⟩
  | .hbm, ⟨25, _⟩ => ⟨S_, .f32⟩
  | .hbm, ⟨26, _⟩ => ⟨S2x1024x384, .f32⟩
  | .hbm, ⟨27, _⟩ => ⟨S2x1024x384, .f32⟩
  | .hbm, ⟨28, _⟩ => ⟨S2x1024x384, .f32⟩
  | .hbm, ⟨29, _⟩ => ⟨S_, .f32⟩
  | .hbm, ⟨30, _⟩ => ⟨S2x1024x384, .f32⟩
  | .hbm, ⟨31, _⟩ => ⟨S2x1024x384, .f32⟩
  | .hbm, ⟨32, _⟩ => ⟨S2x1024x384, .f32⟩
  | .hbm, ⟨33, _⟩ => ⟨S_, .f32⟩
  | .hbm, ⟨34, _⟩ => ⟨S2x1024x384, .f32⟩
  | .hbm, ⟨35, _⟩ => ⟨S2x1024x384, .f32⟩
  | .hbm, ⟨36, _⟩ => ⟨S2x1024x384, .f32⟩
  | .hbm, ⟨37, _⟩ => ⟨S_, .f32⟩
  | .hbm, ⟨38, _⟩ => ⟨S2x1024x384, .f32⟩
  | .hbm, ⟨39, _⟩ => ⟨S2x1024x384, .f32⟩
  | .hbm, ⟨40, _⟩ => ⟨S2048x384, .f32⟩
  | .hbm, ⟨41, _⟩ => ⟨S2048x384, .f32⟩
  | .hbm, ⟨42, _⟩ => ⟨S2048x384, .f32⟩
  | .hbm, ⟨43, _⟩ => ⟨S2048x384, .f32⟩
  | _, _ => ⟨S1x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel7.lean ====
abbrev S32x48x128 : Shape := ⟨3, ![32, 48, 128]⟩
abbrev S2x3072 : Shape := ⟨2, ![2, 3072]⟩
abbrev S48x128 : Shape := ⟨2, ![48, 128]⟩
abbrev S1x48x128 : Shape := ⟨3, ![1, 48, 128]⟩

abbrev nBuf : Space → Nat
  | .hbm => 11
  | .vmem => 8
  | .smem => 0
  | _ => 0

abbrev bufTy : (tb : Table) → Fin (tcTables nBuf tb) → BufTy
  | .hbm, ⟨0, _⟩ => ⟨S32x48x128, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S48x128, .f32⟩
  | .hbm, ⟨5, _⟩ => ⟨S48x128, .f32⟩
  | .hbm, ⟨6, _⟩ => ⟨S48x128, .f32⟩
  | .hbm, ⟨7, _⟩ => ⟨S48x128, .f32⟩
  | .hbm, ⟨8, _⟩ => ⟨S48x128, .f32⟩
  | .hbm, ⟨9, _⟩ => ⟨S48x128, .f32⟩
  | .hbm, ⟨10, _⟩ => ⟨S48x128, .f32⟩
  | .local _ .vmem, ⟨0, _⟩ => ⟨S32x48x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S48x128, .f32⟩
  | .local _ .vmem, ⟨5, _⟩ => ⟨S48x128, .f32⟩
  | .local _ .vmem, ⟨6, _⟩ => ⟨S48x128, .f32⟩
  | .local _ .vmem, ⟨7, _⟩ => ⟨S48x128, .f32⟩
  | _, _ => ⟨S32x48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S48x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S32x48x128 : Shape := ⟨3, ![32, 48, 128]⟩
abbrev S2x3072 : Shape := ⟨2, ![2, 3072]⟩
abbrev S_ : Shape := ⟨0, ![]⟩
abbrev S48x128 : Shape := ⟨2, ![48, 128]⟩

abbrev nBuf : Space → Nat
  | .hbm => 44
  | .vmem => 0
  | .smem => 0
  | _ => 0

abbrev bufTy : (tb : Table) → Fin (tcTables nBuf tb) → BufTy
  | .hbm, ⟨0, _⟩ => ⟨S32x48x128, .f32⟩
  | .hbm, ⟨1, _⟩ => ⟨S2x3072, .f32⟩
  | .hbm, ⟨2, _⟩ => ⟨S2x3072, .f32⟩
  | .hbm, ⟨3, _⟩ => ⟨S2x3072, .f32⟩
  | .hbm, ⟨4, _⟩ => ⟨S_, .f32⟩
  | .hbm, ⟨5, _⟩ => ⟨S48x128, .f32⟩
  | .hbm, ⟨6, _⟩ => ⟨S2x3072, .f32⟩
  | .hbm, ⟨7, _⟩ => ⟨S_, .f32⟩
  | .hbm, ⟨8, _⟩ => ⟨S2x3072, .f32⟩
  | .hbm, ⟨9, _⟩ => ⟨S2x3072, .f32⟩
  | .hbm, ⟨10, _⟩ => ⟨S_, .f32⟩
  | .hbm, ⟨11, _⟩ => ⟨S2x3072, .f32⟩
  | .hbm, ⟨12, _⟩ => ⟨S2x3072, .f32⟩
  | .hbm, ⟨13, _⟩ => ⟨S2x3072, .f32⟩
  | .hbm, ⟨14, _⟩ => ⟨S_, .f32⟩
  | .hbm, ⟨15, _⟩ => ⟨S2x3072, .f32⟩
  | .hbm, ⟨16, _⟩ => ⟨S2x3072, .f32⟩
  | .hbm, ⟨17, _⟩ => ⟨S2x3072, .f32⟩
  | .hbm, ⟨18, _⟩ => ⟨S_, .f32⟩
  | .hbm, ⟨19, _⟩ => ⟨S2x3072, .f32⟩
  | .hbm, ⟨20, _⟩ => ⟨S2x3072, .f32⟩
  | .hbm, ⟨21, _⟩ => ⟨S2x3072, .f32⟩
  | .hbm, ⟨22, _⟩ => ⟨S_, .f32⟩
  | .hbm, ⟨23, _⟩ => ⟨S2x3072, .f32⟩
  | .hbm, ⟨24, _⟩ => ⟨S2x3072, .f32⟩
  | .hbm, ⟨25, _⟩ => ⟨S_, .f32⟩
  | .hbm, ⟨26, _⟩ => ⟨S2x3072, .f32⟩
  | .hbm, ⟨27, _⟩ => ⟨S2x3072, .f32⟩
  | .hbm, ⟨28, _⟩ => ⟨S2x3072, .f32⟩
  | .hbm, ⟨29, _⟩ => ⟨S_, .f32⟩
  | .hbm, ⟨30, _⟩ => ⟨S2x3072, .f32⟩
  | .hbm, ⟨31, _⟩ => ⟨S2x3072, .f32⟩
  | .hbm, ⟨32, _⟩ => ⟨S2x3072, .f32⟩
  | .hbm, ⟨33, _⟩ => ⟨S_, .f32⟩
  | .hbm, ⟨34, _⟩ => ⟨S2x3072, .f32⟩
  | .hbm, ⟨35, _⟩ => ⟨S2x3072, .f32⟩
  | .hbm, ⟨36, _⟩ => ⟨S2x3072, .f32⟩
  | .hbm, ⟨37, _⟩ => ⟨S_, .f32⟩
  | .hbm, ⟨38, _⟩ => ⟨S2x3072, .f32⟩
  | .hbm, ⟨39, _⟩ => ⟨S2x3072, .f32⟩
  | .hbm, ⟨40, _⟩ => ⟨S48x128, .f32⟩
  | .hbm, ⟨41, _⟩ => ⟨S48x128, .f32⟩
  | .hbm, ⟨42, _⟩ => ⟨S48x128, .f32⟩
  | .hbm, ⟨43, _⟩ => ⟨S48x128, .f32⟩
  | _, _ => ⟨S32x48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel8.lean ====
abbrev S8x1024x342 : Shape := ⟨3, ![8, 1024, 342]⟩
abbrev S2x1024x342 : Shape := ⟨3, ![2, 1024, 342]⟩
abbrev S8x256x342 : Shape := ⟨3, ![8, 256, 342]⟩
abbrev S1x256x342 : Shape := ⟨3, ![1, 256, 342]⟩
abbrev S256x342 : Shape := ⟨2, ![256, 342]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x342, .bf16⟩
  | .hbm, ⟨1, _⟩ => ⟨S2x1024x342, .f32⟩
  | .hbm, ⟨2, _⟩ => ⟨S2x1024x342, .f32⟩
  | .hbm, ⟨3, _⟩ => ⟨S2x1024x342, .f32⟩
  | .hbm, ⟨4, _⟩ => ⟨S2x1024x342, .f32⟩
  | .hbm, ⟨5, _⟩ => ⟨S2x1024x342, .f32⟩
  | .hbm, ⟨6, _⟩ => ⟨S2x1024x342, .f32⟩
  | .hbm, ⟨7, _⟩ => ⟨S2x1024x342, .f32⟩
  | .hbm, ⟨8, _⟩ => ⟨S2x1024x342, .f32⟩
  | .hbm, ⟨9, _⟩ => ⟨S2x1024x342, .f32⟩
  | .hbm, ⟨10, _⟩ => ⟨S2x1024x342, .f32⟩
  | .hbm, ⟨11, _⟩ => ⟨S2x1024x342, .f32⟩
  | .local _ .vmem, ⟨0, _⟩ => ⟨S8x256x342, .bf16⟩
  | .local _ .vmem, ⟨1, _⟩ => ⟨S8x256x342, .bf16⟩
  | .local _ .vmem, ⟨2, _⟩ => ⟨S1x256x342, .f32⟩
  | .local _ .vmem, ⟨3, _⟩ => ⟨S1x256x342, .f32⟩
  | .local _ .vmem, ⟨4, _⟩ => ⟨S1x256x342, .f32⟩
  | .local _ .vmem, ⟨5, _⟩ => ⟨S1x256x342, .f32⟩
  | .local _ .vmem, ⟨6, _⟩ => ⟨S1x256x342, .f32⟩
  | .local _ .vmem, ⟨7, _⟩ => ⟨S1x256x342, .f32⟩
  | .local _ .vmem, ⟨8, _⟩ => ⟨S1x256x342, .f32⟩
  | .local _ .vmem, ⟨9, _⟩ => ⟨S1x256x342, .f32⟩
  | .local _ .vmem, ⟨10, _⟩ => ⟨S1x256x342, .f32⟩
  | .local _ .vmem, ⟨11, _⟩ => ⟨S1x256x342, .f32⟩
  | .local _ .vmem, ⟨12, _⟩ => ⟨S1x256x342, .f32⟩
  | .local _ .vmem, ⟨13, _⟩ => ⟨S1x256x342, .f32⟩
  | .local _ .vmem, ⟨14, _⟩ => ⟨S1x256x342, .f32⟩
  | .local _ .vmem, ⟨15, _⟩ => ⟨S1x256x342, .f32⟩
  | _, _ => ⟨S8x1024x342, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x342 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x342 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x342 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x342 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x342 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x342 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x342 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x342 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel8Ideal.lean ====
abbrev S8x1024x342 : Shape := ⟨3, ![8, 1024, 342]⟩
abbrev S2x1024x342 : Shape := ⟨3, ![2, 1024, 342]⟩
abbrev S8x256x342 : Shape := ⟨3, ![8, 256, 342]⟩
abbrev S1x256x342 : Shape := ⟨3, ![1, 256, 342]⟩
abbrev S256x342 : Shape := ⟨2, ![256, 342]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x342, .bf16⟩
  | .hbm, ⟨1, _⟩ => ⟨S2x1024x342, .f32⟩
  | .hbm, ⟨2, _⟩ => ⟨S2x1024x342, .f32⟩
  | .hbm, ⟨3, _⟩ => ⟨S2x1024x342, .f32⟩
  | .hbm, ⟨4, _⟩ => ⟨S2x1024x342, .f32⟩
  | .hbm, ⟨5, _⟩ => ⟨S2x1024x342, .f32⟩
  | .hbm, ⟨6, _⟩ => ⟨S2x1024x342, .f32⟩
  | .hbm, ⟨7, _⟩ => ⟨S2x1024x342, .f32⟩
  | .hbm, ⟨8, _⟩ => ⟨S2x1024x342, .f32⟩
  | .hbm, ⟨9, _⟩ => ⟨S2x1024x342, .f32⟩
  | .hbm, ⟨10, _⟩ => ⟨S2x1024x342, .f32⟩
  | .hbm, ⟨11, _⟩ => ⟨S2x1024x342, .f32⟩
  | .local _ .vmem, ⟨0, _⟩ => ⟨S8x256x342, .bf16⟩
  | .local _ .vmem, ⟨1, _⟩ => ⟨S8x256x342, .bf16⟩
  | .local _ .vmem, ⟨2, _⟩ => ⟨S1x256x342, .f32⟩
  | .local _ .vmem, ⟨3, _⟩ => ⟨S1x256x342, .f32⟩
  | .local _ .vmem, ⟨4, _⟩ => ⟨S1x256x342, .f32⟩
  | .local _ .vmem, ⟨5, _⟩ => ⟨S1x256x342, .f32⟩
  | .local _ .vmem, ⟨6, _⟩ => ⟨S1x256x342, .f32⟩
  | .local _ .vmem, ⟨7, _⟩ => ⟨S1x256x342, .f32⟩
  | .local _ .vmem, ⟨8, _⟩ => ⟨S1x256x342, .f32⟩
  | .local _ .vmem, ⟨9, _⟩ => ⟨S1x256x342, .f32⟩
  | .local _ .vmem, ⟨10, _⟩ => ⟨S1x256x342, .f32⟩
  | .local _ .vmem, ⟨11, _⟩ => ⟨S1x256x342, .f32⟩
  | .local _ .vmem, ⟨12, _⟩ => ⟨S1x256x342, .f32⟩
  | .local _ .vmem, ⟨13, _⟩ => ⟨S1x256x342, .f32⟩
  | .local _ .vmem, ⟨14, _⟩ => ⟨S1x256x342, .f32⟩
  | .local _ .vmem, ⟨15, _⟩ => ⟨S1x256x342, .f32⟩
  | _, _ => ⟨S8x1024x342, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x342 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x342 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x342 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x342 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x342 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x342 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x342 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x342 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8x1024x342 : Shape := ⟨3, ![8, 1024, 342]⟩
abbrev S2x1024x342 : Shape := ⟨3, ![2, 1024, 342]⟩
abbrev S_ : Shape := ⟨0, ![]⟩
abbrev S1024x342 : Shape := ⟨2, ![1024, 342]⟩
abbrev S1x1024x342 : Shape := ⟨3, ![1, 1024, 342]⟩

abbrev nBuf : Space → Nat
  | .hbm => 70
  | .vmem => 0
  | .smem => 0
  | _ => 0

abbrev bufTy : (tb : Table) → Fin (tcTables nBuf tb) → BufTy
  | .hbm, ⟨0, _⟩ => ⟨S8x1024x342, .bf16⟩
  | .hbm, ⟨1, _⟩ => ⟨S2x1024x342, .f32⟩
  | .hbm, ⟨2, _⟩ => ⟨S2x1024x342, .f32⟩
  | .hbm, ⟨3, _⟩ => ⟨S2x1024x342, .f32⟩
  | .hbm, ⟨4, _⟩ => ⟨S2x1024x342, .f32⟩
  | .hbm, ⟨5, _⟩ => ⟨S2x1024x342, .f32⟩
  | .hbm, ⟨6, _⟩ => ⟨S2x1024x342, .f32⟩
  | .hbm, ⟨7, _⟩ => ⟨S2x1024x342, .f32⟩
  | .hbm, ⟨8, _⟩ => ⟨S8x1024x342, .f32⟩
  | .hbm, ⟨9, _⟩ => ⟨S_, .f32⟩
  | .hbm, ⟨10, _⟩ => ⟨S1024x342, .f32⟩
  | .hbm, ⟨11, _⟩ => ⟨S1x1024x342, .f32⟩
  | .hbm, ⟨12, _⟩ => ⟨S1024x342, .f32⟩
  | .hbm, ⟨13, _⟩ => ⟨S1x1024x342, .f32⟩
  | .hbm, ⟨14, _⟩ => ⟨S1024x342, .f32⟩
  | .hbm, ⟨15, _⟩ => ⟨S1x1024x342, .f32⟩
  | .hbm, ⟨16, _⟩ => ⟨S1024x342, .f32⟩
  | .hbm, ⟨17, _⟩ => ⟨S_, .f32⟩
  | .hbm, ⟨18, _⟩ => ⟨S1024x342, .f32⟩
  | .hbm, ⟨19, _⟩ => ⟨S1024x342, .f32⟩
  | .hbm, ⟨20, _⟩ => ⟨S_, .f32⟩
  | .hbm, ⟨21, _⟩ => ⟨S1024x342, .f32⟩
  | .hbm, ⟨22, _⟩ => ⟨S1024x342, .f32⟩
  | .hbm, ⟨23, _⟩ => ⟨S1024x342, .f32⟩
  | .hbm, ⟨24, _⟩ => ⟨S_, .f32⟩
  | .hbm, ⟨25, _⟩ => ⟨S1024x342, .f32⟩
  | .hbm, ⟨26, _⟩ => ⟨S1024x342, .f32⟩
  | .hbm, ⟨27, _⟩ => ⟨S1024x342, .f32⟩
  | .hbm, ⟨28, _⟩ => ⟨S_, .f32⟩
  | .hbm, ⟨29, _⟩ => ⟨S1024x342, .f32⟩
  | .hbm, ⟨30, _⟩ => ⟨S1024x342, .f32⟩
  | .hbm, ⟨31, _⟩ => ⟨S1024x342, .f32⟩
  | .hbm, ⟨32, _⟩ => ⟨S_, .f32⟩
  | .hbm, ⟨33, _⟩ => ⟨S1024x342, .f32⟩
  | .hbm, ⟨34, _⟩ => ⟨S1024x342, .f32⟩
  | .hbm, ⟨35, _⟩ => ⟨S_, .f32⟩
  | .hbm, ⟨36, _⟩ => ⟨S1024x342, .f32⟩
  | .hbm, ⟨37, _⟩ => ⟨S1024x342, .f32⟩
  | .hbm, ⟨38, _⟩ => ⟨S1024x342, .f32⟩
  | .hbm, ⟨39, _⟩ => ⟨S_, .f32⟩
  | .hbm, ⟨40, _⟩ => ⟨S1024x342, .f32⟩
  | .hbm, ⟨41, _⟩ => ⟨S1024x342, .f32⟩
  | .hbm, ⟨42, _⟩ => ⟨S1024x342, .f32⟩
  | .hbm, ⟨43, _⟩ => ⟨S_, .f32⟩
  | .hbm, ⟨44, _⟩ => ⟨S1024x342, .f32⟩
  | .hbm, ⟨45, _⟩ => ⟨S1024x342, .f32⟩
  | .hbm, ⟨46, _⟩ => ⟨S1024x342, .f32⟩
  | .hbm, ⟨47, _⟩ => ⟨S_, .f32⟩
  | .hbm, ⟨48, _⟩ => ⟨S1024x342, .f32⟩
  | .hbm, ⟨49, _⟩ => ⟨S1024x342, .f32⟩
  | .hbm, ⟨50, _⟩ => ⟨S1x1024x342, .f32⟩
  | .hbm, ⟨51, _⟩ => ⟨S1024x342, .f32⟩
  | .hbm, ⟨52, _⟩ => ⟨S1x1024x342, .f32⟩
  | .hbm, ⟨53, _⟩ => ⟨S1x1024x342, .f32⟩
  | .hbm, ⟨54, _⟩ => ⟨S2x1024x342, .f32⟩
  | .hbm, ⟨55, _⟩ => ⟨S1x1024x342, .f32⟩
  | .hbm, ⟨56, _⟩ => ⟨S1024x342, .f32⟩
  | .hbm, ⟨57, _⟩ => ⟨S1x1024x342, .f32⟩
  | .hbm, ⟨58, _⟩ => ⟨S1x1024x342, .f32⟩
  | .hbm, ⟨59, _⟩ => ⟨S2x1024x342, .f32⟩
  | .hbm, ⟨60, _⟩ => ⟨S1x1024x342, .f32⟩
  | .hbm, ⟨61, _⟩ => ⟨S1024x342, .f32⟩
  | .hbm, ⟨62, _⟩ => ⟨S1x1024x342, .f32⟩
  | .hbm, ⟨63, _⟩ => ⟨S1x1024x342, .f32⟩
  | .hbm, ⟨64, _⟩ => ⟨S2x1024x342, .f32⟩
  | .hbm, ⟨65, _⟩ => ⟨S1x1024x342, .f32⟩
  | .hbm, ⟨66, _⟩ => ⟨S1024x342, .f32⟩
  | .hbm, ⟨67, _⟩ => ⟨S1x1024x342, .f32⟩
  | .hbm, ⟨68, _⟩ => ⟨S1x1024x342, .f32⟩
  | .hbm, ⟨69, _⟩ => ⟨S2x1024x342, .f32⟩
  | _, _ => ⟨S8x1024x342, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel9.lean ====
abbrev S8x256x96 : Shape := ⟨3, ![8, 256, 96]⟩
abbrev S2x256x96 : Shape := ⟨3, ![2, 256, 96]⟩
abbrev S1x256x96 : Shape := ⟨3, ![1, 256, 96]⟩
abbrev S256x96 : Shape := ⟨2, ![256, 96]⟩

abbrev nBuf : Space → Nat
  | .hbm => 12
  | .vmem => 8
  | .smem => 0
  | _ => 0

abbrev bufTy : (tb : Table) → Fin (tcTables nBuf tb) → BufTy
  | .hbm, ⟨0, _⟩ => ⟨S8x256x96, .bf16⟩
  | .hbm, ⟨1, _⟩ => ⟨S2x256x96, .f32⟩
  | .hbm, ⟨2, _⟩ => ⟨S2x256x96, .f32⟩
  | .hbm, ⟨3, _⟩ => ⟨S2x256x96, .f32⟩
  | .hbm, ⟨4, _⟩ => ⟨S2x256x96, .f32⟩
  | .hbm, ⟨5, _⟩ => ⟨S2x256x96, .f32⟩
  | .hbm, ⟨6, _⟩ => ⟨S2x256x96, .f32⟩
  | .hbm, ⟨7, _⟩ => ⟨S2x256x96, .f32⟩
  | .hbm, ⟨8, _⟩ => ⟨S2x256x96, .f32⟩
  | .hbm, ⟨9, _⟩ => ⟨S2x256x96, .f32⟩
  | .hbm, ⟨10, _⟩ => ⟨S2x256x96, .f32⟩
  | .hbm, ⟨11, _⟩ => ⟨S2x256x96, .f32⟩
  | .local _ .vmem, ⟨0, _⟩ => ⟨S8x256x96, .bf16⟩
  | .local _ .vmem, ⟨1, _⟩ => ⟨S1x256x96, .f32⟩
  | .local _ .vmem, ⟨2, _⟩ => ⟨S1x256x96, .f32⟩
  | .local _ .vmem, ⟨3, _⟩ => ⟨S1x256x96, .f32⟩
  | .local _ .vmem, ⟨4, _⟩ => ⟨S1x256x96, .f32⟩
  | .local _ .vmem, ⟨5, _⟩ => ⟨S1x256x96, .f32⟩
  | .local _ .vmem, ⟨6, _⟩ => ⟨S1x256x96, .f32⟩
  | .local _ .vmem, ⟨7, _⟩ => ⟨S1x256x96, .f32⟩
  | _, _ => ⟨S8x256x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel9Ideal.lean ====
abbrev S8x256x96 : Shape := ⟨3, ![8, 256, 96]⟩
abbrev S2x256x96 : Shape := ⟨3, ![2, 256, 96]⟩
abbrev S1x256x96 : Shape := ⟨3, ![1, 256, 96]⟩
abbrev S256x96 : Shape := ⟨2, ![256, 96]⟩

abbrev nBuf : Space → Nat
  | .hbm => 12
  | .vmem => 8
  | .smem => 0
  | _ => 0

abbrev bufTy : (tb : Table) → Fin (tcTables nBuf tb) → BufTy
  | .hbm, ⟨0, _⟩ => ⟨S8x256x96, .bf16⟩
  | .hbm, ⟨1, _⟩ => ⟨S2x256x96, .f32⟩
  | .hbm, ⟨2, _⟩ => ⟨S2x256x96, .f32⟩
  | .hbm, ⟨3, _⟩ => ⟨S2x256x96, .f32⟩
  | .hbm, ⟨4, _⟩ => ⟨S2x256x96, .f32⟩
  | .hbm, ⟨5, _⟩ => ⟨S2x256x96, .f32⟩
  | .hbm, ⟨6, _⟩ => ⟨S2x256x96, .f32⟩
  | .hbm, ⟨7, _⟩ => ⟨S2x256x96, .f32⟩
  | .hbm, ⟨8, _⟩ => ⟨S2x256x96, .f32⟩
  | .hbm, ⟨9, _⟩ => ⟨S2x256x96, .f32⟩
  | .hbm, ⟨10, _⟩ => ⟨S2x256x96, .f32⟩
  | .hbm, ⟨11, _⟩ => ⟨S2x256x96, .f32⟩
  | .local _ .vmem, ⟨0, _⟩ => ⟨S8x256x96, .bf16⟩
  | .local _ .vmem, ⟨1, _⟩ => ⟨S1x256x96, .f32⟩
  | .local _ .vmem, ⟨2, _⟩ => ⟨S1x256x96, .f32⟩
  | .local _ .vmem, ⟨3, _⟩ => ⟨S1x256x96, .f32⟩
  | .local _ .vmem, ⟨4, _⟩ => ⟨S1x256x96, .f32⟩
  | .local _ .vmem, ⟨5, _⟩ => ⟨S1x256x96, .f32⟩
  | .local _ .vmem, ⟨6, _⟩ => ⟨S1x256x96, .f32⟩
  | .local _ .vmem, ⟨7, _⟩ => ⟨S1x256x96, .f32⟩
  | _, _ => ⟨S8x256x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S8x256x96 : Shape := ⟨3, ![8, 256, 96]⟩
abbrev S2x256x96 : Shape := ⟨3, ![2, 256, 96]⟩
abbrev S_ : Shape := ⟨0, ![]⟩
abbrev S256x96 : Shape := ⟨2, ![256, 96]⟩
abbrev S1x256x96 : Shape := ⟨3, ![1, 256, 96]⟩

abbrev nBuf : Space → Nat
  | .hbm => 70
  | .vmem => 0
  | .smem => 0
  | _ => 0

abbrev bufTy : (tb : Table) → Fin (tcTables nBuf tb) → BufTy
  | .hbm, ⟨0, _⟩ => ⟨S8x256x96, .bf16⟩
  | .hbm, ⟨1, _⟩ => ⟨S2x256x96, .f32⟩
  | .hbm, ⟨2, _⟩ => ⟨S2x256x96, .f32⟩
  | .hbm, ⟨3, _⟩ => ⟨S2x256x96, .f32⟩
  | .hbm, ⟨4, _⟩ => ⟨S2x256x96, .f32⟩
  | .hbm, ⟨5, _⟩ => ⟨S2x256x96, .f32⟩
  | .hbm, ⟨6, _⟩ => ⟨S2x256x96, .f32⟩
  | .hbm, ⟨7, _⟩ => ⟨S2x256x96, .f32⟩
  | .hbm, ⟨8, _⟩ => ⟨S8x256x96, .f32⟩
  | .hbm, ⟨9, _⟩ => ⟨S_, .f32⟩
  | .hbm, ⟨10, _⟩ => ⟨S256x96, .f32⟩
  | .hbm, ⟨11, _⟩ => ⟨S1x256x96, .f32⟩
  | .hbm, ⟨12, _⟩ => ⟨S256x96, .f32⟩
  | .hbm, ⟨13, _⟩ => ⟨S1x256x96, .f32⟩
  | .hbm, ⟨14, _⟩ => ⟨S256x96, .f32⟩
  | .hbm, ⟨15, _⟩ => ⟨S1x256x96, .f32⟩
  | .hbm, ⟨16, _⟩ => ⟨S256x96, .f32⟩
  | .hbm, ⟨17, _⟩ => ⟨S_, .f32⟩
  | .hbm, ⟨18, _⟩ => ⟨S256x96, .f32⟩
  | .hbm, ⟨19, _⟩ => ⟨S256x96, .f32⟩
  | .hbm, ⟨20, _⟩ => ⟨S_, .f32⟩
  | .hbm, ⟨21, _⟩ => ⟨S256x96, .f32⟩
  | .hbm, ⟨22, _⟩ => ⟨S256x96, .f32⟩
  | .hbm, ⟨23, _⟩ => ⟨S256x96, .f32⟩
  | .hbm, ⟨24, _⟩ => ⟨S_, .f32⟩
  | .hbm, ⟨25, _⟩ => ⟨S256x96, .f32⟩
  | .hbm, ⟨26, _⟩ => ⟨S256x96, .f32⟩
  | .hbm, ⟨27, _⟩ => ⟨S256x96, .f32⟩
  | .hbm, ⟨28, _⟩ => ⟨S_, .f32⟩
  | .hbm, ⟨29, _⟩ => ⟨S256x96, .f32⟩
  | .hbm, ⟨30, _⟩ => ⟨S256x96, .f32⟩
  | .hbm, ⟨31, _⟩ => ⟨S256x96, .f32⟩
  | .hbm, ⟨32, _⟩ => ⟨S_, .f32⟩
  | .hbm, ⟨33, _⟩ => ⟨S256x96, .f32⟩
  | .hbm, ⟨34, _⟩ => ⟨S256x96, .f32⟩
  | .hbm, ⟨35, _⟩ => ⟨S_, .f32⟩
  | .hbm, ⟨36, _⟩ => ⟨S256x96, .f32⟩
  | .hbm, ⟨37, _⟩ => ⟨S256x96, .f32⟩
  | .hbm, ⟨38, _⟩ => ⟨S256x96, .f32⟩
  | .hbm, ⟨39, _⟩ => ⟨S_, .f32⟩
  | .hbm, ⟨40, _⟩ => ⟨S256x96, .f32⟩
  | .hbm, ⟨41, _⟩ => ⟨S256x96, .f32⟩
  | .hbm, ⟨42, _⟩ => ⟨S256x96, .f32⟩
  | .hbm, ⟨43, _⟩ => ⟨S_, .f32⟩
  | .hbm, ⟨44, _⟩ => ⟨S256x96, .f32⟩
  | .hbm, ⟨45, _⟩ => ⟨S256x96, .f32⟩
  | .hbm, ⟨46, _⟩ => ⟨S256x96, .f32⟩
  | .hbm, ⟨47, _⟩ => ⟨S_, .f32⟩
  | .hbm, ⟨48, _⟩ => ⟨S256x96, .f32⟩
  | .hbm, ⟨49, _⟩ => ⟨S256x96, .f32⟩
  | .hbm, ⟨50, _⟩ => ⟨S1x256x96, .f32⟩
  | .hbm, ⟨51, _⟩ => ⟨S256x96, .f32⟩
  | .hbm, ⟨52, _⟩ => ⟨S1x256x96, .f32⟩
  | .hbm, ⟨53, _⟩ => ⟨S1x256x96, .f32⟩
  | .hbm, ⟨54, _⟩ => ⟨S2x256x96, .f32⟩
  | .hbm, ⟨55, _⟩ => ⟨S1x256x96, .f32⟩
  | .hbm, ⟨56, _⟩ => ⟨S256x96, .f32⟩
  | .hbm, ⟨57, _⟩ => ⟨S1x256x96, .f32⟩
  | .hbm, ⟨58, _⟩ => ⟨S1x256x96, .f32⟩
  | .hbm, ⟨59, _⟩ => ⟨S2x256x96, .f32⟩
  | .hbm, ⟨60, _⟩ => ⟨S1x256x96, .f32⟩
  | .hbm, ⟨61, _⟩ => ⟨S256x96, .f32⟩
  | .hbm, ⟨62, _⟩ => ⟨S1x256x96, .f32⟩
  | .hbm, ⟨63, _⟩ => ⟨S1x256x96, .f32⟩
  | .hbm, ⟨64, _⟩ => ⟨S2x256x96, .f32⟩
  | .hbm, ⟨65, _⟩ => ⟨S1x256x96, .f32⟩
  | .hbm, ⟨66, _⟩ => ⟨S256x96, .f32⟩
  | .hbm, ⟨67, _⟩ => ⟨S1x256x96, .f32⟩
  | .hbm, ⟨68, _⟩ => ⟨S1x256x96, .f32⟩
  | .hbm, ⟨69, _⟩ => ⟨S2x256x96, .f32⟩
  | _, _ => ⟨S8x256x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel10.lean ====
abbrev S8x128x128 : Shape := ⟨3, ![8, 128, 128]⟩
abbrev S2x128x128 : Shape := ⟨3, ![2, 128, 128]⟩
abbrev S1x128x128 : Shape := ⟨3, ![1, 128, 128]⟩
abbrev S128x128 : Shape := ⟨2, ![128, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x128x128, .bf16⟩
  | .hbm, ⟨1, _⟩ => ⟨S2x128x128, .f32⟩
  | .hbm, ⟨2, _⟩ => ⟨S2x128x128, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S2x128x128, .f32⟩
  | .hbm, ⟨7, _⟩ => ⟨S2x128x128, .f32⟩
  | .hbm, ⟨8, _⟩ => ⟨S2x128x128, .f32⟩
  | .hbm, ⟨9, _⟩ => ⟨S2x128x128, .f32⟩
  | .hbm, ⟨10, _⟩ => ⟨S2x128x128, .f32⟩
  | .hbm, ⟨11, _⟩ => ⟨S2x128x128, .f32⟩
  | .local _ .vmem, ⟨0, _⟩ => ⟨S8x128x128, .bf16⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | _, _ => ⟨S8x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel10Ideal.lean ====
abbrev S8x128x128 : Shape := ⟨3, ![8, 128, 128]⟩
abbrev S2x128x128 : Shape := ⟨3, ![2, 128, 128]⟩
abbrev S1x128x128 : Shape := ⟨3, ![1, 128, 128]⟩
abbrev S128x128 : Shape := ⟨2, ![128, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x128x128, .bf16⟩
  | .hbm, ⟨1, _⟩ => ⟨S2x128x128, .f32⟩
  | .hbm, ⟨2, _⟩ => ⟨S2x128x128, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S2x128x128, .f32⟩
  | .hbm, ⟨7, _⟩ => ⟨S2x128x128, .f32⟩
  | .hbm, ⟨8, _⟩ => ⟨S2x128x128, .f32⟩
  | .hbm, ⟨9, _⟩ => ⟨S2x128x128, .f32⟩
  | .hbm, ⟨10, _⟩ => ⟨S2x128x128, .f32⟩
  | .hbm, ⟨11, _⟩ => ⟨S2x128x128, .f32⟩
  | .local _ .vmem, ⟨0, _⟩ => ⟨S8x128x128, .bf16⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | _, _ => ⟨S8x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S8x128x128 : Shape := ⟨3, ![8, 128, 128]⟩
abbrev S2x128x128 : Shape := ⟨3, ![2, 128, 128]⟩
abbrev S_ : Shape := ⟨0, ![]⟩
abbrev S128x128 : Shape := ⟨2, ![128, 128]⟩
abbrev S1x128x128 : Shape := ⟨3, ![1, 128, 128]⟩

abbrev nBuf : Space → Nat
  | .hbm => 70
  | .vmem => 0
  | .smem => 0
  | _ => 0

abbrev bufTy : (tb : Table) → Fin (tcTables nBuf tb) → BufTy
  | .hbm, ⟨0, _⟩ => ⟨S8x128x128, .bf16⟩
  | .hbm, ⟨1, _⟩ => ⟨S2x128x128, .f32⟩
  | .hbm, ⟨2, _⟩ => ⟨S2x128x128, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S2x128x128, .f32⟩
  | .hbm, ⟨7, _⟩ => ⟨S2x128x128, .f32⟩
  | .hbm, ⟨8, _⟩ => ⟨S8x128x128, .f32⟩
  | .hbm, ⟨9, _⟩ => ⟨S_, .f32⟩
  | .hbm, ⟨10, _⟩ => ⟨S128x128, .f32⟩
  | .hbm, ⟨11, _⟩ => ⟨S1x128x128, .f32⟩
  | .hbm, ⟨12, _⟩ => ⟨S128x128, .f32⟩
  | .hbm, ⟨13, _⟩ => ⟨S1x128x128, .f32⟩
  | .hbm, ⟨14, _⟩ => ⟨S128x128, .f32⟩
  | .hbm, ⟨15, _⟩ => ⟨S1x128x128, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S_, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S1x128x128, .f32⟩
  | .hbm, ⟨51, _⟩ => ⟨S128x128, .f32⟩
  | .hbm, ⟨52, _⟩ => ⟨S1x128x128, .f32⟩
  | .hbm, ⟨53, _⟩ => ⟨S1x128x128, .f32⟩
  | .hbm, ⟨54, _⟩ => ⟨S2x128x128, .f32⟩
  | .hbm, ⟨55, _⟩ => ⟨S1x128x128, .f32⟩
  | .hbm, ⟨56, _⟩ => ⟨S128x128, .f32⟩
  | .hbm, ⟨57, _⟩ => ⟨S1x128x128, .f32⟩
  | .hbm, ⟨58, _⟩ => ⟨S1x128x128, .f32⟩
  | .hbm, ⟨59, _⟩ => ⟨S2x128x128, .f32⟩
  | .hbm, ⟨60, _⟩ => ⟨S1x128x128, .f32⟩
  | .hbm, ⟨61, _⟩ => ⟨S128x128, .f32⟩
  | .hbm, ⟨62, _⟩ => ⟨S1x128x128, .f32⟩
  | .hbm, ⟨63, _⟩ => ⟨S1x128x128, .f32⟩
  | .hbm, ⟨64, _⟩ => ⟨S2x128x128, .f32⟩
  | .hbm, ⟨65, _⟩ => ⟨S1x128x128, .f32⟩
  | .hbm, ⟨66, _⟩ => ⟨S128x128, .f32⟩
  | .hbm, ⟨67, _⟩ => ⟨S1x128x128, .f32⟩
  | .hbm, ⟨68, _⟩ => ⟨S1x128x128, .f32⟩
  | .hbm, ⟨69, _⟩ => ⟨S2x128x128, .f32⟩
  | _, _ => ⟨S8x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel11.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S1x128x1024, .f32⟩
  | .hbm, ⟨51, _⟩ => ⟨S128x1024, .f32⟩
  | .hbm, ⟨52, _⟩ => ⟨S1x128x1024, .f32⟩
  | .hbm, ⟨53, _⟩ => ⟨S1x128x1024, .f32⟩
  | .hbm, ⟨54, _⟩ => ⟨S2x128x1024, .f32⟩
  | .hbm, ⟨55, _⟩ => ⟨S1x128x1024, .f32⟩
  | .hbm, ⟨56, _⟩ => ⟨S128x1024, .f32⟩
  | .hbm, ⟨57, _⟩ => ⟨S1x128x1024, .f32⟩
  | .hbm, ⟨58, _⟩ => ⟨S1x128x1024, .f32⟩
  | .hbm, ⟨59, _⟩ => ⟨S2x128x1024, .f32⟩
  | .hbm, ⟨60, _⟩ => ⟨S1x128x1024, .f32⟩
  | .hbm, ⟨61, _⟩ => ⟨S128x1024, .f32⟩
  | .hbm, ⟨62, _⟩ => ⟨S1x128x1024, .f32⟩
  | .hbm, ⟨63, _⟩ => ⟨S1x128x1024, .f32⟩
  | .hbm, ⟨64, _⟩ => ⟨S2x128x1024, .f32⟩
  | .hbm, ⟨65, _⟩ => ⟨S1x128x1024, .f32⟩
  | .hbm, ⟨66, _⟩ => ⟨S128x1024, .f32⟩
  | .hbm, ⟨67, _⟩ => ⟨S1x128x1024, .f32⟩
  | .hbm, ⟨68, _⟩ => ⟨S1x128x1024, .f32⟩
  | .hbm, ⟨69, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel12.lean ====
abbrev S4x2048x1024 : Shape := ⟨3, ![4, 2048, 1024]⟩
abbrev S4x2048x128 : Shape := ⟨3, ![4, 2048, 128]⟩
abbrev S256 : Shape := ⟨1, ![256]⟩
abbrev S128 : Shape := ⟨1, ![128]⟩
abbrev S256x1024 : Shape := ⟨2, ![256, 1024]⟩
abbrev S128x1536 : Shape := ⟨2, ![128, 1536]⟩
abbrev S4x2048x512 : Shape := ⟨3, ![4, 2048, 512]⟩
abbrev S1x256 : Shape := ⟨2, ![1, 256]⟩
abbrev S1x128 : Shape := ⟨2, ![1, 128]⟩
abbrev S1x512x512 : Shape := ⟨3, ![1, 512, 512]⟩
abbrev S1x512x128 : Shape := ⟨3, ![1, 512, 128]⟩
abbrev S1x512x1024 : Shape := ⟨3, ![1, 512, 1024]⟩
abbrev S512x512 : Shape := ⟨2, ![512, 512]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x1024 : Shape := ⟨2, ![512, 1024]⟩
abbrev S512x1536 : Shape := ⟨2, ![512, 1536]⟩

abbrev nBuf : Space → Nat
  | .hbm => 17
  | .vmem => 22
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x128, .f32⟩
  | .hbm, ⟨2, _⟩ => ⟨S4x2048x128, .f32⟩
  | .hbm, ⟨3, _⟩ => ⟨S256, .f32⟩
  | .hbm, ⟨4, _⟩ => ⟨S128, .f32⟩
  | .hbm, ⟨5, _⟩ => ⟨S256x1024, .bf16⟩
  | .hbm, ⟨6, _⟩ => ⟨S128x1536, .bf16⟩
  | .hbm, ⟨7, _⟩ => ⟨S4x2048x1024, .bf16⟩
  | .hbm, ⟨8, _⟩ => ⟨S4x2048x1024, .bf16⟩
  | .hbm, ⟨9, _⟩ => ⟨S4x2048x512, .bf16⟩
  | .hbm, ⟨10, _⟩ => ⟨S1x256, .f32⟩
  | .hbm, ⟨11, _⟩ => ⟨S1x128, .f32⟩
  | .hbm, ⟨12, _⟩ => ⟨S4x2048x512, .bf16⟩
  | .hbm, ⟨13, _⟩ => ⟨S256x1024, .f32⟩
  | .hbm, ⟨14, _⟩ => ⟨S128x1536, .f32⟩
  | .hbm, ⟨15, _⟩ => ⟨S1x256, .f32⟩
  | .hbm, ⟨16, _⟩ => ⟨S1x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x256, .f32⟩
  | .local _ .vmem, ⟨7, _⟩ => ⟨S1x128, .f32⟩
  | .local _ .vmem, ⟨8, _⟩ => ⟨S256x1024, .bf16⟩
  | .local _ .vmem, ⟨9, _⟩ => ⟨S128x1536, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S256x1024, .f32⟩
  | .local _ .vmem, ⟨19, _⟩ => ⟨S128x1536, .f32⟩
  | .local _ .vmem, ⟨20, _⟩ => ⟨S1x256, .f32⟩
  | .local _ .vmem, ⟨21, _⟩ => ⟨S1x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== Reference12Ideal.lean ====
abbrev S4x2048x1024 : Shape := ⟨3, ![4, 2048, 1024]⟩
abbrev S4x2048x128 : Shape := ⟨3, ![4, 2048, 128]⟩
abbrev S256 : Shape := ⟨1, ![256]⟩
abbrev S128 : Shape := ⟨1, ![128]⟩
abbrev S256x1024 : Shape := ⟨2, ![256, 1024]⟩
abbrev S128x1536 : Shape := ⟨2, ![128, 1536]⟩
abbrev S4x2048x512 : Shape := ⟨3, ![4, 2048, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S1x1x256 : Shape := ⟨3, ![1, 1, 256]⟩
abbrev S4x2048x8x128 : Shape := ⟨4, ![4, 2048, 8, 128]⟩
abbrev S1x1x128 : Shape := ⟨3, ![1, 1, 128]⟩
abbrev S4x2048x1536 : Shape := ⟨3, ![4, 2048, 1536]⟩
abbrev S4x2048x64 : Shape := ⟨3, ![4, 2048, 64]⟩
abbrev S4x2048x16 : Shape := ⟨3, ![4, 2048, 16]⟩
abbrev S4x2048x32 : Shape := ⟨3, ![4, 2048, 32]⟩
abbrev S4x2048x1x128 : Shape := ⟨4, ![4, 2048, 1, 128]⟩
abbrev S4x2048x8x64 : Shape := ⟨4, ![4, 2048, 8, 64]⟩
abbrev S4x2048x8x16 : Shape := ⟨4, ![4, 2048, 8, 16]⟩
abbrev S4x2048x8x32 : Shape := ⟨4, ![4, 2048, 8, 32]⟩
abbrev S1536x128 : Shape := ⟨2, ![1536, 128]⟩
abbrev S1024x256 : Shape := ⟨2, ![1024, 256]⟩
abbrev S1x256 : Shape := ⟨2, ![1, 256]⟩
abbrev S1x128 : Shape := ⟨2, ![1, 128]⟩

abbrev nBuf : Space → Nat
  | .hbm => 226
  | .vmem => 0
  | .smem => 0
  | _ => 0

abbrev hbmTy0_0 (i : Nat) : BufTy := match i % 128 with
  | 0 => ⟨S4x2048x1024, .bf16⟩
  | 1 => ⟨S4x2048x128, .f32⟩
  | 2 => ⟨S4x2048x128, .f32⟩
  | 3 => ⟨S256, .f32⟩
  | 4 => ⟨S128, .f32⟩
  | 5 => ⟨S256x1024, .bf16⟩
  | 6 => ⟨S128x1536, .bf16⟩
  | 7 => ⟨S4x2048x1024, .bf16⟩
  | 8 => ⟨S4x2048x1024, .bf16⟩
  | 9 => ⟨S4x2048x512, .bf16⟩
  | 10 => ⟨S4x2048x1024, .f32⟩
  | 11 => ⟨S256x1024, .f32⟩
  | 12 => ⟨S128x1536, .f32⟩
  | 13 => ⟨S4x2048x1024, .f32⟩
  | 14 => ⟨S4x2048x1024, .f32⟩
  | 15 => ⟨S4x2048x512, .f32⟩
  | 16 => ⟨S4x2048x256, .f32⟩
  | 17 => ⟨S4x2048x128, .f32⟩
  | 18 => ⟨S4x2048x128, .f32⟩
  | 19 => ⟨S4x2048x256, .f32⟩
  | 20 => ⟨S_, .f32⟩
  | 21 => ⟨S4x2048, .f32⟩
  | 22 => ⟨S4x2048x1, .f32⟩
  | 23 => ⟨S_, .f32⟩
  | 24 => ⟨S4x2048x1, .f32⟩
  | 25 => ⟨S4x2048x1, .f32⟩
  | 26 => ⟨S_, .f32⟩
  | 27 => ⟨S4x2048x1, .f32⟩
  | 28 => ⟨S4x2048x1, .f32⟩
  | 29 => ⟨S4x2048x1, .f32⟩
  | 30 => ⟨S4x2048x1, .f32⟩
  | 31 => ⟨S_, .f32⟩
  | 32 => ⟨S4x2048x1, .f32⟩
  | 33 => ⟨S4x2048x1, .f32⟩
  | 34 => ⟨S4x2048x256, .f32⟩
  | 35 => ⟨S4x2048x256, .f32⟩
  | 36 => ⟨S1x1x256, .f32⟩
  | 37 => ⟨S4x2048x256, .f32⟩
  | 38 => ⟨S4x2048x256, .f32⟩
  | 39 => ⟨S4x2048x1024, .f32⟩
  | 40 => ⟨S4x2048x8x128, .f32⟩
  | 41 => ⟨S4x2048x128, .f32⟩
  | 42 => ⟨S_, .f32⟩
  | 43 => ⟨S4x2048, .f32⟩
  | 44 => ⟨S4x2048x1, .f32⟩
  | 45 => ⟨S_, .f32⟩
  | 46 => ⟨S4x2048x1, .f32⟩
  | 47 => ⟨S4x2048x1, .f32⟩
  | 48 => ⟨S_, .f32⟩
  | 49 => ⟨S4x2048x1, .f32⟩
  | 50 => ⟨S4x2048x1, .f32⟩
  | 51 => ⟨S4x2048x1, .f32⟩
  | 52 => ⟨S4x2048x1, .f32⟩
  | 53 => ⟨S_, .f32⟩
  | 54 => ⟨S4x2048x1, .f32⟩
  | 55 => ⟨S4x2048x1, .f32⟩
  | 56 => ⟨S4x2048x128, .f32⟩
  | 57 => ⟨S4x2048x128, .f32⟩
  | 58 => ⟨S1x1x128, .f32⟩
  | 59 => ⟨S4x2048x128, .f32⟩
  | 60 => ⟨S4x2048x128, .f32⟩
  | 61 => ⟨S4x2048x1536, .f32⟩
  | 62 => ⟨S4x2048x1024, .f32⟩
  | 63 => ⟨S4x2048x512, .f32⟩
  | 64 => ⟨S4x2048x64, .f32⟩
  | 65 => ⟨S4x2048x16, .f32⟩
  | 66 => ⟨S4x2048x16, .f32⟩
  | 67 => ⟨S4x2048x32, .f32⟩
  | 68 => ⟨S_, .f32⟩
  | 69 => ⟨S4x2048x64, .f32⟩
  | 70 => ⟨S4x2048x16, .f32⟩
  | 71 => ⟨S_, .f32⟩
  | 72 => ⟨S4x2048x32, .f32⟩
  | 73 => ⟨S4x2048x128, .f32⟩
  | 74 => ⟨S_, .f32⟩
  | 75 => ⟨S4x2048x64, .f32⟩
  | 76 => ⟨S_, .f32⟩
  | 77 => ⟨S4x2048x32, .f32⟩
  | 78 => ⟨S4x2048x128, .f32⟩
  | 79 => ⟨S4x2048x128, .f32⟩
  | 80 => ⟨S4x2048x128, .f32⟩
  | 81 => ⟨S4x2048x64, .f32⟩
  | 82 => ⟨S4x2048x32, .f32⟩
  | 83 => ⟨S4x2048x32, .f32⟩
  | 84 => ⟨S_, .f32⟩
  | 85 => ⟨S4x2048x64, .f32⟩
  | 86 => ⟨S_, .f32⟩
  | 87 => ⟨S4x2048x32, .f32⟩
  | 88 => ⟨S4x2048x128, .f32⟩
  | 89 => ⟨S_, .f32⟩
  | 90 => ⟨S4x2048x64, .f32⟩
  | 91 => ⟨S_, .f32⟩
  | 92 => ⟨S4x2048x32, .f32⟩
  | 93 => ⟨S4x2048x1x128, .f32⟩
  | 94 => ⟨S4x2048x1x128, .f32⟩
  | 95 => ⟨S4x2048x8x64, .f32⟩
  | 96 => ⟨S4x2048x8x16, .f32⟩
  | 97 => ⟨S4x2048x8x16, .f32⟩
  | 98 => ⟨S4x2048x8x32, .f32⟩
  | 99 => ⟨S_, .f32⟩
  | 100 => ⟨S4x2048x8x64, .f32⟩
  | 101 => ⟨S4x2048x8x16, .f32⟩
  | 102 => ⟨S_, .f32⟩
  | 103 => ⟨S4x2048x8x32, .f32⟩
  | 104 => ⟨S4x2048x8x128, .f32⟩
  | 105 => ⟨S_, .f32⟩
  | 106 => ⟨S4x2048x8x64, .f32⟩
  | 107 => ⟨S_, .f32⟩
  | 108 => ⟨S4x2048x8x32, .f32⟩
  | 109 => ⟨S4x2048x8x128, .f32⟩
  | 110 => ⟨S4x2048x8x128, .f32⟩
  | 111 => ⟨S4x2048x8x128, .f32⟩
  | 112 => ⟨S4x2048x8x128, .f32⟩
  | 113 => ⟨S4x2048x8x128, .f32⟩
  | 114 => ⟨S4x2048x8x128, .f32⟩
  | 115 => ⟨S4x2048x1x128, .f32⟩
  | 116 => ⟨S4x2048x8x128, .f32⟩
  | 117 => ⟨S4x2048x8x128, .f32⟩
  | 118 => ⟨S4x2048x1024, .f32⟩
  | 119 => ⟨S4x2048x1024, .f32⟩
  | 120 => ⟨S4x2048x8x128, .f32⟩
  | 121 => ⟨S4x2048x8x128, .f32⟩
  | 122 => ⟨S_, .f32⟩
  | 123 => ⟨S4x2048x128, .f32⟩
  | 124 => ⟨S4x2048x1x128, .f32⟩
  | 125 => ⟨S_, .f32⟩
  | 126 => ⟨S4x2048x128, .f32⟩
  | 127 => ⟨S4x2048x1024, .f32⟩
  | _ => ⟨S4x2048x1024, .bf16⟩

abbrev hbmTy0_1 (i : Nat) : BufTy := match i % 128 with
  | 0 => ⟨S4x2048x8x128, .f32⟩
  | 1 => ⟨S4x2048x8x128, .f32⟩
  | 2 => ⟨S4x2048x8x128, .f32⟩
  | 3 => ⟨S4x2048x8x128, .f32⟩
  | 4 => ⟨S4x2048x8x64, .f32⟩
  | 5 => ⟨S4x2048x8x16, .f32⟩
  | 6 => ⟨S4x2048x8x16, .f32⟩
  | 7 => ⟨S4x2048x8x32, .f32⟩
  | 8 => ⟨S4x2048x8x16, .f32⟩
  | 9 => ⟨S_, .f32⟩
  | 10 => ⟨S4x2048x8x64, .f32⟩
  | 11 => ⟨S_, .f32⟩
  | 12 => ⟨S4x2048x8x32, .f32⟩
  | 13 => ⟨S4x2048x8x128, .f32⟩
  | 14 => ⟨S4x2048x8x128, .f32⟩
  | 15 => ⟨S4x2048x64, .f32⟩
  | 16 => ⟨S4x2048x32, .f32⟩
  | 17 => ⟨S4x2048x32, .f32⟩
  | 18 => ⟨S_, .f32⟩
  | 19 => ⟨S4x2048x64, .f32⟩
  | 20 => ⟨S_, .f32⟩
  | 21 => ⟨S4x2048x32, .f32⟩
  | 22 => ⟨S4x2048x128, .f32⟩
  | 23 => ⟨S4x2048x128, .f32⟩
  | 24 => ⟨S4x2048x128, .f32⟩
  | 25 => ⟨S4x2048x64, .f32⟩
  | 26 => ⟨S4x2048x16, .f32⟩
  | 27 => ⟨S4x2048x16, .f32⟩
  | 28 => ⟨S4x2048x32, .f32⟩
  | 29 => ⟨S4x2048x16, .f32⟩
  | 30 => ⟨S_, .f32⟩
  | 31 => ⟨S4x2048x64, .f32⟩
  | 32 => ⟨S_, .f32⟩
  | 33 => ⟨S4x2048x32, .f32⟩
  | 34 => ⟨S4x2048x128, .f32⟩
  | 35 => ⟨S4x2048x128, .f32⟩
  | 36 => ⟨S4x2048x1536, .f32⟩
  | 37 => ⟨S1536x128, .f32⟩
  | 38 => ⟨S128x1536, .f32⟩
  | 39 => ⟨S4x2048x128, .f32⟩
  | 40 => ⟨S4x2048x128, .f32⟩
  | 41 => ⟨S_, .f32⟩
  | 42 => ⟨S128, .f32⟩
  | 43 => ⟨S1x1x128, .f32⟩
  | 44 => ⟨S4x2048x128, .f32⟩
  | 45 => ⟨S4x2048x128, .f32⟩
  | 46 => ⟨S_, .f32⟩
  | 47 => ⟨S128, .f32⟩
  | 48 => ⟨S4x2048x128, .f32⟩
  | 49 => ⟨S_, .f32⟩
  | 50 => ⟨S4x2048, .f32⟩
  | 51 => ⟨S4x2048x1, .f32⟩
  | 52 => ⟨S4x2048x128, .f32⟩
  | 53 => ⟨S4x2048x128, .f32⟩
  | 54 => ⟨S4x2048x1, .f32⟩
  | 55 => ⟨S_, .f32⟩
  | 56 => ⟨S4x2048x1, .f32⟩
  | 57 => ⟨S4x2048x1, .f32⟩
  | 58 => ⟨S_, .f32⟩
  | 59 => ⟨S4x2048, .f32⟩
  | 60 => ⟨S4x2048x128, .f32⟩
  | 61 => ⟨S4x2048x128, .f32⟩
  | 62 => ⟨S4x2048x128, .f32⟩
  | 63 => ⟨S4x2048x128, .f32⟩
  | 64 => ⟨S4x2048x128, .f32⟩
  | 65 => ⟨S4x2048x1024, .f32⟩
  | 66 => ⟨S1024x256, .f32⟩
  | 67 => ⟨S256x1024, .f32⟩
  | 68 => ⟨S4x2048x256, .f32⟩
  | 69 => ⟨S4x2048x256, .f32⟩
  | 70 => ⟨S_, .f32⟩
  | 71 => ⟨S256, .f32⟩
  | 72 => ⟨S1x1x256, .f32⟩
  | 73 => ⟨S4x2048x256, .f32⟩
  | 74 => ⟨S4x2048x256, .f32⟩
  | 75 => ⟨S_, .f32⟩
  | 76 => ⟨S256, .f32⟩
  | 77 => ⟨S4x2048x256, .f32⟩
  | 78 => ⟨S_, .f32⟩
  | 79 => ⟨S4x2048, .f32⟩
  | 80 => ⟨S4x2048x1, .f32⟩
  | 81 => ⟨S4x2048x256, .f32⟩
  | 82 => ⟨S4x2048x256, .f32⟩
  | 83 => ⟨S4x2048x1, .f32⟩
  | 84 => ⟨S_, .f32⟩
  | 85 => ⟨S4x2048x1, .f32⟩
  | 86 => ⟨S4x2048x1, .f32⟩
  | 87 => ⟨S_, .f32⟩
  | 88 => ⟨S4x2048, .f32⟩
  | 89 => ⟨S4x2048x256, .f32⟩
  | 90 => ⟨S4x2048x256, .f32⟩
  | 91 => ⟨S4x2048x256, .f32⟩
  | 92 => ⟨S4x2048x256, .f32⟩
  | 93 => ⟨S4x2048x256, .f32⟩
  | 94 => ⟨S4x2048x512, .f32⟩
  | 95 => ⟨S4x2048x512, .bf16⟩
  | 96 => ⟨S1x256, .f32⟩
  | 97 => ⟨S1x128, .f32⟩
  | _ => ⟨S4x2048x1024, .bf16⟩

abbrev hbmTy (i : Nat) : BufTy := match i / 128 with
  | 0 => hbmTy0_0 i
  | 1 => hbmTy0_1 i
  | _ => ⟨S4x2048x1024, .bf16⟩

abbrev bufTy : (tb : Table) → Fin (tcTables nBuf tb) → BufTy
  | .hbm, ⟨i, _⟩ => hbmTy i
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_15 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_cst_18 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_cst_20 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_21 : Ref sig .tc := ⟨.hbm, 137, rfl⟩
abbrev main_v105 : Ref sig .tc := ⟨.hbm, 138, rfl⟩
abbrev main_cst_22 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_23 : Ref sig .tc := ⟨.hbm, 146, rfl⟩
abbrev main_v112 : Ref sig .tc := ⟨.hbm, 147, rfl⟩
abbrev main_cst_24 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_25 : Ref sig .tc := ⟨.hbm, 158, rfl⟩
abbrev main_v122 : Ref sig .tc := ⟨.hbm, 159, rfl⟩
abbrev main_cst_26 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_27 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_28 : Ref sig .tc := ⟨.hbm, 174, rfl⟩
abbrev main_v135 : Ref sig .tc := ⟨.hbm, 175, rfl⟩
abbrev main_v136 : Ref sig .tc := ⟨.hbm, 176, rfl⟩
abbrev main_cst_29 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_cst_30 : Ref sig .tc := ⟨.hbm, 183, rfl⟩
abbrev main_v142 : Ref sig .tc := ⟨.hbm, 184, rfl⟩
abbrev main_v143 : Ref sig .tc := ⟨.hbm, 185, rfl⟩
abbrev main_cst_31 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_32 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_33 : Ref sig .tc := ⟨.hbm, 203, rfl⟩
abbrev main_v159 : Ref sig .tc := ⟨.hbm, 204, rfl⟩
abbrev main_v160 : Ref sig .tc := ⟨.hbm, 205, rfl⟩
abbrev main_cst_34 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_cst_35 : Ref sig .tc := ⟨.hbm, 212, rfl⟩
abbrev main_v166 : Ref sig .tc := ⟨.hbm, 213, rfl⟩
abbrev main_v167 : Ref sig .tc := ⟨.hbm, 214, rfl⟩
abbrev main_cst_36 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩

abbrev nD : Nat := 1
abbrev τ : Topo := Topo.v7x

variable {F : FTy → Type} [FloatOps F]
-- ==== Kernel13.lean ====
abbrev S4x2048x1024 : Shape := ⟨3, ![4, 2048, 1024]⟩
abbrev S4x1024 : Shape := ⟨2, ![4, 1024]⟩
abbrev S4x2048x256 : Shape := ⟨3, ![4, 2048, 256]⟩
abbrev S4x2048x512 : Shape := ⟨3, ![4, 2048, 512]⟩
abbrev S1024x1024 : Shape := ⟨2, ![1024, 1024]⟩
abbrev S1024 : Shape := ⟨1, ![1024]⟩
abbrev S4x1x1024 : Shape := ⟨3, ![4, 1, 1024]⟩
abbrev S1x1024 : Shape := ⟨2, ![1, 1024]⟩
abbrev S1x1 : Shape := ⟨2, ![1, 1]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x512 : Shape := ⟨3, ![1, 512, 512]⟩
abbrev S512x512 : Shape := ⟨2, ![512, 512]⟩
abbrev S512x256 : Shape := ⟨2, ![512, 256]⟩
abbrev S256x1024 : Shape := ⟨2, ![256, 1024]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 16
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x2048x256, .bf16⟩
  | .hbm, ⟨3, _⟩ => ⟨S4x2048x512, .f32⟩
  | .hbm, ⟨4, _⟩ => ⟨S4x2048x1024, .bf16⟩
  | .hbm, ⟨5, _⟩ => ⟨S4x2048x256, .bf16⟩
  | .hbm, ⟨6, _⟩ => ⟨S1024x1024, .f32⟩
  | .hbm, ⟨7, _⟩ => ⟨S1024, .f32⟩
  | .hbm, ⟨8, _⟩ => ⟨S4x2048x1024, .f32⟩
  | .hbm, ⟨9, _⟩ => ⟨S4x1x1024, .f32⟩
  | .hbm, ⟨10, _⟩ => ⟨S1024x1024, .bf16⟩
  | .hbm, ⟨11, _⟩ => ⟨S1x1024, .f32⟩
  | .hbm, ⟨12, _⟩ => ⟨S4x2048x1024, .f32⟩
  | .hbm, ⟨13, _⟩ => ⟨S4x2048x1024, .bf16⟩
  | .hbm, ⟨14, _⟩ => ⟨S1x1, .f32⟩
  | .hbm, ⟨15, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x256, .bf16⟩
  | .local _ .vmem, ⟨5, _⟩ => ⟨S1x512x256, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .bf16⟩
  | .local _ .vmem, ⟨9, _⟩ => ⟨S1x512x512, .bf16⟩
  | .local _ .vmem, ⟨10, _⟩ => ⟨S1x512x256, .bf16⟩
  | .local _ .vmem, ⟨11, _⟩ => ⟨S1x512x256, .bf16⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x1, .f32⟩
  | .local _ .vmem, ⟨21, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference13Ideal.lean ====
abbrev S4x2048x1024 : Shape := ⟨3, ![4, 2048, 1024]⟩
abbrev S4x1024 : Shape := ⟨2, ![4, 1024]⟩
abbrev S4x2048x256 : Shape := ⟨3, ![4, 2048, 256]⟩
abbrev S4x2048x512 : Shape := ⟨3, ![4, 2048, 512]⟩
abbrev S1024x1024 : Shape := ⟨2, ![1024, 1024]⟩
abbrev S1024 : Shape := ⟨1, ![1024]⟩
abbrev S_ : Shape := ⟨0, ![]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S1x1 : Shape := ⟨2, ![1, 1]⟩
abbrev S1x1024 : Shape := ⟨2, ![1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x1024, .f32⟩
  | .hbm, ⟨2, _⟩ => ⟨S4x2048x256, .bf16⟩
  | .hbm, ⟨3, _⟩ => ⟨S4x2048x512, .f32⟩
  | .hbm, ⟨4, _⟩ => ⟨S4x2048x1024, .bf16⟩
  | .hbm, ⟨5, _⟩ => ⟨S4x2048x256, .bf16⟩
  | .hbm, ⟨6, _⟩ => ⟨S1024x1024, .f32⟩
  | .hbm, ⟨7, _⟩ => ⟨S1024, .f32⟩
  | .hbm, ⟨8, _⟩ => ⟨S4x2048x1024, .f32⟩
  | .hbm, ⟨9, _⟩ => ⟨S4x2048x512, .bf16⟩
  | .hbm, ⟨10, _⟩ => ⟨S4x2048x256, .f32⟩
  | .hbm, ⟨11, _⟩ => ⟨S4x2048x256, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S_, .f32⟩
  | .hbm, ⟨16, _⟩ => ⟨S4x2048x512, .f32⟩
  | .hbm, ⟨17, _⟩ => ⟨S4x2048x512, .f32⟩
  | .hbm, ⟨18, _⟩ => ⟨S_, .f32⟩
  | .hbm, ⟨19, _⟩ => ⟨S4x2048x512, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S4x2048x1024, .f32⟩
  | .hbm, ⟨24, _⟩ => ⟨S4x2048x1024, .f32⟩
  | .hbm, ⟨25, _⟩ => ⟨S4x1x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .bf16⟩
  | .hbm, ⟨30, _⟩ => ⟨S4x2048x1024, .f32⟩
  | .hbm, ⟨31, _⟩ => ⟨S_, .f32⟩
  | .hbm, ⟨32, _⟩ => ⟨S4x2048, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x1, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .f32⟩
  | .hbm, ⟨45, _⟩ => ⟨S4x2048x1024, .f32⟩
  | .hbm, ⟨46, _⟩ => ⟨S4x2048x1024, .f32⟩
  | .hbm, ⟨47, _⟩ => ⟨S1x1x1024, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S_, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S4x2048, .f32⟩
  | .hbm, ⟨57, _⟩ => ⟨S_, .f32⟩
  | .hbm, ⟨58, _⟩ => ⟨S4x2048, .f32⟩
  | .hbm, ⟨59, _⟩ => ⟨S4x2048, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S4x2048, .f32⟩
  | .hbm, ⟨68, _⟩ => ⟨S_, .f32⟩
  | .hbm, ⟨69, _⟩ => ⟨S4x2048, .f32⟩
  | .hbm, ⟨70, _⟩ => ⟨S4x2048, .f32⟩
  | .hbm, ⟨71, _⟩ => ⟨S4x2048x1024, .f32⟩
  | .hbm, ⟨72, _⟩ => ⟨S4x2048x1024, .f32⟩
  | .hbm, ⟨73, _⟩ => ⟨S4x2048x1024, .f32⟩
  | .hbm, ⟨74, _⟩ => ⟨S_, .f32⟩
  | .hbm, ⟨75, _⟩ => ⟨S1024, .f32⟩
  | .hbm, ⟨76, _⟩ => ⟨S1x1x1024, .f32⟩
  | .hbm, ⟨77, _⟩ => ⟨S4x2048x1024, .f32⟩
  | .hbm, ⟨78, _⟩ => ⟨S4x2048x1024, .f32⟩
  | .hbm, ⟨79, _⟩ => ⟨S_, .f32⟩
  | .hbm, ⟨80, _⟩ => ⟨S1024, .f32⟩
  | .hbm, ⟨81, _⟩ => ⟨S4x2048x1024, .f32⟩
  | .hbm, ⟨82, _⟩ => ⟨S_, .f32⟩
  | .hbm, ⟨83, _⟩ => ⟨S4x2048, .f32⟩
  | .hbm, ⟨84, _⟩ => ⟨S4x2048x1, .f32⟩
  | .hbm, ⟨85, _⟩ => ⟨S4x2048x1024, .f32⟩
  | .hbm, ⟨86, _⟩ => ⟨S4x2048x1024, .f32⟩
  | .hbm, ⟨87, _⟩ => ⟨S4x2048x1, .f32⟩
  | .hbm, ⟨88, _⟩ => ⟨S_, .f32⟩
  | .hbm, ⟨89, _⟩ => ⟨S4x2048x1, .f32⟩
  | .hbm, ⟨90, _⟩ => ⟨S4x2048x1, .f32⟩
  | .hbm, ⟨91, _⟩ => ⟨S_, .f32⟩
  | .hbm, ⟨92, _⟩ => ⟨S4x2048, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S4x2048x1024, .f32⟩
  | .hbm, ⟨97, _⟩ => ⟨S4x2048x1024, .f32⟩
  | .hbm, ⟨98, _⟩ => ⟨S1x1, .f32⟩
  | .hbm, ⟨99, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_3 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_cst_8 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_12 : Ref sig .tc := ⟨.hbm, 79, rfl⟩
abbrev main_v49 : Ref sig .tc := ⟨.hbm, 80, rfl⟩
abbrev main_v50 : Ref sig .tc := ⟨.hbm, 81, rfl⟩
abbrev main_cst_13 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_14 : Ref sig .tc := ⟨.hbm, 88, rfl⟩
abbrev main_v56 : Ref sig .tc := ⟨.hbm, 89, rfl⟩
abbrev main_v57 : Ref sig .tc := ⟨.hbm, 90, rfl⟩
abbrev main_cst_15 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== Proof.Block.lean ====
/-
  What one grid point leaves in the four output blocks, as terms of its input blocks and, for the three sums, of what
  the point before left. Three cases: the first point of all resets all three sums, the first point of a sequence
  resets the two sums of that sequence, every other point adds to all three.
-/
module

public import proofs.«01_k».proof.Proof.Gen.KernelIdeal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The point's gradient at the projection's input: the incoming gradient's four column groups side by side, times
    the transposed weight. -/
def dhAt (c : Dev nD) (t : Fin cfg0.N) : FVec F S512x1024 .f32 :=
  k0_pay5 (iblk m c 4 t) (iblk m c 5 t) (iblk m c 6 t) (iblk m c 7 t) (iblk m c 3 t)

/-- The point's block of `dx`. -/
def dxAt (c : Dev nD) (t : Fin cfg0.N) : FVec F S1x512x1024 .f32 :=
  k0_pay1 (dhAt m c t) (k0_pay7 (iblk m c 0 t)) (k0_pay8 (k0_pay6 (iblk m c 0 t)) (k0_pay7 (iblk m c 0 t)))
    (k0_pay9 (iblk m c 2 t)) (k0_pay10 (iblk m c 1 t)) (iblk m c 8 t)

/-- One step of the shift's sum from `acc`. -/
def shiftStep (c : Dev nD) (t : Fin cfg0.N) (acc : Vec F S1x1x1024 .f32) : Vec F S1x1x1024 .f32 :=
  k0_pay11 (dhAt m c t) acc

/-- One step of the scale's sum from `acc`. -/
def scaleStep (c : Dev nD) (t : Fin cfg0.N) (acc : Vec F S1x1x1024 .f32) : Vec F S1x1x1024 .f32 :=
  k0_pay12 (dhAt m c t) (k0_pay6 (iblk m c 0 t)) (k0_pay7 (iblk m c 0 t)) (iblk m c 2 t) acc

/-- One step of the norm weight's sum from `acc`. -/
def normStep (c : Dev nD) (t : Fin cfg0.N) (acc : Vec F S1x1024 .f32) : Vec F S1x1024 .f32 :=
  k0_pay13 (dhAt m c t) (k0_pay6 (iblk m c 0 t)) (k0_pay7 (iblk m c 0 t)) (iblk m c 1 t) acc

/-- What the point before `t` left. -/
abbrev prev (c : Dev nD) (t : Fin cfg0.N) := outsAt0 m c (t.val - 1) (Nat.lt_of_le_of_lt (Nat.sub_le _ _) t.isLt)

set_option maxHeartbeats 1000000 in
theorem outs_B (c : Dev nD) (t : Fin cfg0.N) (h0 : ¬t.val % 16 = 0) (h1 : ¬t.val % 4 = 0) :
    outsAt0 m c t.val t.isLt = (dxAt m c t, shiftStep m c t (prev m c t).2.1, scaleStep m c t (prev m c t).2.2.1,
      normStep m c t (prev m c t).2.2.2) := by
  rw [outsAt0_B m c t h0 h1]
  unfold out0_B_9 out0_B_10 out0_B_11 out0_B_12
  rw [View.read_writes_eq_canon _ _ _ (fun y => cover0_B_9 (y := y) ..), View.read_writes_eq_canon _ _ _ (fun y => cover0_B_10 (y := y) ..),
    View.read_writes_eq_canon _ _ _ (fun y => cover0_B_11 (y := y) ..), View.read_writes_eq_canon _ _ _ (fun y => cover0_B_12 (y := y) ..)]
  unfold kernelRun0_B
  dsimp only
  sl_unfold_words
  rw [View.canon_unit_zero hz3, View.canon_unit_zero hz3, View.canon_unit_zero hz3, View.canon_unit_zero hz2]
  simp only [View.readAt_eq_ld, Memref.IsWhole.read_unread, View.ld_unit_zero (S := S1x512x1024) hz3, View.ld_unit_zero (S := S1x1x1024) hz3,
    View.ld_unit_zero (S := S1x1024) hz2, View.ld_unit_zero (S := S1024x2944) hz2, View.ld_unit_zero (S := S1x512x512) hz3,
    View.ld_unit_zero (S := S1x512x896) hz3]
  rfl

set_option maxHeartbeats 1000000 in
theorem outs_C (c : Dev nD) (t : Fin cfg0.N) (h0 : ¬t.val % 16 = 0) (h1 : t.val % 4 = 0) :
    outsAt0 m c t.val t.isLt = (dxAt m c t, shiftStep m c t k0_pay3, scaleStep m c t k0_pay4,
      normStep m c t (prev m c t).2.2.2) := by
  rw [outsAt0_C m c t h0 h1]
  unfold out0_C_9 out0_C_10 out0_C_11 out0_C_12
  rw [View.read_writes_eq_canon _ _ _ (fun y => cover0_C_9 (y := y) ..), View.read_writes_eq_canon _ _ _ (fun y => cover0_C_10 (y := y) ..),
    View.read_writes_eq_canon _ _ _ (fun y => cover0_C_11 (y := y) ..), View.read_writes_eq_canon _ _ _ (fun y => cover0_C_12 (y := y) ..)]
  unfold kernelRun0_C
  dsimp only
  sl_unfold_words
  rw [View.canon_unit_zero hz3, View.canon_cons_unit_zero (S := S1x1x1024) hz3, View.canon_cons_unit_zero (S := S1x1x1024) hz3, View.canon_unit_zero hz2]
  simp only [View.readAt_eq_ld, Memref.IsWhole.read_unread, View.ld_unit_zero (S := S1x512x1024) hz3, View.ld_unit_zero (S := S1x1x1024) hz3,
    View.ld_unit_zero (S := S1x1024) hz2, View.ld_unit_zero (S := S1024x2944) hz2, View.ld_unit_zero (S := S1x512x512) hz3,
    View.ld_unit_zero (S := S1x512x896) hz3, View.readCov_unit_zero (S := S1x1x1024) _ hz3]
  rfl

set_option maxHeartbeats 1000000 in
theorem outs_A (c : Dev nD) (t : Fin cfg0.N) (h0 : t.val % 16 = 0) (h1 : t.val % 4 = 0) :
    outsAt0 m c t.val t.isLt = (dxAt m c t, shiftStep m c t k0_pay3, scaleStep m c t k0_pay4, normStep m c t k0_pay2) := by
  rw [outsAt0_A m c t h0 h1]
  unfold out0_A_9 out0_A_10 out0_A_11 out0_A_12
  rw [View.read_writes_eq_canon _ _ _ (fun y => cover0_A_9 (y := y) ..), View.read_writes_eq_canon _ _ _ (fun y => cover0_A_10 (y := y) ..),
    View.read_writes_eq_canon _ _ _ (fun y => cover0_A_11 (y := y) ..), View.read_writes_eq_canon _ _ _ (fun y => cover0_A_12 (y := y) ..)]
  unfold kernelRun0_A
  dsimp only
  sl_unfold_words
  rw [View.canon_unit_zero hz3, View.canon_cons_unit_zero (S := S1x1x1024) hz3, View.canon_cons_unit_zero (S := S1x1x1024) hz3, View.canon_cons_unit_zero (S := S1x1024) hz2]
  simp only [View.readAt_eq_ld, Memref.IsWhole.read_unread, View.ld_unit_zero (S := S1x512x1024) hz3, View.ld_unit_zero (S := S1x1x1024) hz3,
    View.ld_unit_zero (S := S1x1024) hz2, View.ld_unit_zero (S := S1024x2944) hz2, View.ld_unit_zero (S := S1x512x512) hz3,
    View.ld_unit_zero (S := S1x512x896) hz3, View.readCov_unit_zero (S := S1x1x1024) _ hz3, View.readCov_unit_zero (S := S1x1024) _ hz2]
  rfl

end Cert.KernelIdeal.Value
-- ==== Proof.Reads.lean ====
/-
  What the input blocks of a grid point hold, element by element, in terms of the kernel's arguments: point `t` is block
  `t % 4` of 512 rows of sequence `t / 4`; the weights come whole.
-/
module

public import proofs.«01_k».proof.Proof.Block
public import Idealize.ShloMosaic.Lib.Pointwise
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The sequence of point `t`. -/
abbrev seqOf (t : Fin cfg0.N) : Fin 4 := ⟨t.val / 4, by have := t.isLt; have : cfg0.N = 16 := N_0; omega⟩
/-- Row `r` of point `t`'s block, as a row of its sequence. -/
abbrev rowOf (t : Fin cfg0.N) (r : Fin 512) : Fin 2048 := ⟨t.val % 4 * 512 + r.val, by have := r.isLt; omega⟩

/-- The block of each window at point `t`: the token windows take block `(t / 4, t % 4)`, the per-sequence ones block
    `t / 4`, the weights their only one. -/
theorem idx : ∀ t : Fin cfg0.N,
    win0_0.index t = ![t.val / 4, t.val % 4, 0] ∧ win0_1.index t = ![t.val / 4, 0, 0] ∧ win0_2.index t = ![0, 0]
    ∧ win0_3.index t = ![0, 0] ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] ∧ win0_9.index t = ![t.val / 4, t.val % 4, 0]
    ∧ win0_10.index t = ![t.val / 4, 0, 0] ∧ win0_11.index t = ![t.val / 4, 0, 0] ∧ win0_12.index t = ![0, 0] :=
  (by decide +kernel : ∀ t : Fin grid0.N,
    win0_0.index t = ![t.val / 4, t.val % 4, 0] ∧ win0_1.index t = ![t.val / 4, 0, 0] ∧ win0_2.index t = ![0, 0]
    ∧ win0_3.index t = ![0, 0] ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] ∧ win0_9.index t = ![t.val / 4, t.val % 4, 0]
    ∧ win0_10.index t = ![t.val / 4, 0, 0] ∧ win0_11.index t = ![t.val / 4, 0, 0] ∧ win0_12.index t = ![0, 0])

theorem readTok (c : Dev nD) (t : Fin cfg0.N) (r : Fin 512) :
    (∀ l : Fin 1024, (iblk m c 0 t : Vec Ideal S1x512x1024 .f32) (ix3 0 r l)
      = m ((c : Thread nD τ).loc main_arg0) (ix3 (seqOf t) (rowOf t r) l))
    ∧ (∀ l : Fin 1024, (iblk m c 4 t : Vec Ideal S1x512x1024 .bf16) (ix3 0 r l)
      = m ((c : Thread nD τ).loc main_arg4) (ix3 (seqOf t) (rowOf t r) l))
    ∧ (∀ l : Fin 512, (iblk m c 5 t : Vec Ideal S1x512x512 .bf16) (ix3 0 r l)
      = m ((c : Thread nD τ).loc main_arg5) (ix3 (seqOf t) (rowOf t r) l))
    ∧ (∀ l : Fin 512, (iblk m c 6 t : Vec Ideal S1x512x512 .bf16) (ix3 0 r l)
      = m ((c : Thread nD τ).loc main_arg6) (ix3 (seqOf t) (rowOf t r) l))
    ∧ (∀ l : Fin 896, (iblk m c 7 t : Vec Ideal S1x512x896 .bf16) (ix3 0 r l)
      = m ((c : Thread nD τ).loc main_arg7) (ix3 (seqOf t) (rowOf t r) l))
    ∧ (∀ l : Fin 1024, (iblk m c 8 t : Vec Ideal S1x512x1024 .f32) (ix3 0 r l)
      = m ((c : Thread nD τ).loc main_arg8) (ix3 (seqOf t) (rowOf t r) l)) := by
  refine ⟨fun l => ?_, fun l => ?_, fun l => ?_, fun l => ?_, fun l => ?_, fun l => ?_⟩ <;>
    blk_ext [iblk, V, idx t]

theorem readScale (c : Dev nD) (t : Fin cfg0.N) (l : Fin 1024) :
    (iblk m c 1 t : Vec Ideal S1x1x1024 .f32) (ix3 0 0 l) = m ((c : Thread nD τ).loc main_arg1) (ix2 (seqOf t) l) := by
  blk_ext! [iblk, V, idx t]
theorem readNorm (c : Dev nD) (t : Fin cfg0.N) (l : Fin 1024) :
    (iblk m c 2 t : Vec Ideal S1x1024 .f32) (ix2 0 l) = m ((c : Thread nD τ).loc main_arg2) (ix1 l) := by
  blk_ext! [iblk, V, idx t]
theorem readW (c : Dev nD) (t : Fin cfg0.N) (l : Fin 1024) (k : Fin 2944) :
    (iblk m c 3 t : Vec Ideal S1024x2944 .bf16) (ix2 l k) = m ((c : Thread nD τ).loc main_arg3) (ix2 l k) := by
  blk_ext! [iblk, V, idx t]

end Cert.KernelIdeal.Value
-- ==== Proof.Norm.lean ====
/-
  The arithmetic of one row of the root-mean-square norm's backward pass over the extended reals: the closed form a
  kernel uses against the chain rule's form. `x` is the row, `g` the gradient at the normalised row, `o` what is added
  on the residual path. No value is excluded: a row with an infinite entry has reciprocal root `0`, and both forms are `o`.
-/
module

public import Idealize.ShloMosaic.PureOps.Ideal
public import Idealize.ShloMosaic.PureOps.Ideal.Laws

@[expose] public section

noncomputable section

open Idealize.ShloMosaic

namespace Cert.Norm

/-- The row's length, `1024`. -/
abbrev len : EReal := Ideal.ofBits FTy.f32 1149239296#32
/-- The norm's small constant. -/
abbrev eps : EReal := Ideal.ofBits FTy.f32 897988541#32
/-- `-1/2`. -/
abbrev mhalf : EReal := Ideal.ofBits FTy.f32 3204448256#32

theorem len_eq : len = ((1024 : ℝ) : EReal) := by
  simp [len, Ideal.ofBits, Ideal.ieee, -EReal.coe_mul]; norm_num

theorem mhalf_eq : mhalf = ((-(1 / 2) : ℝ) : EReal) := by
  simp [mhalf, Ideal.ofBits, Ideal.ieee, -EReal.coe_mul]; norm_num

theorem eps_pos : ∃ e : ℝ, 0 < e ∧ eps = (e : EReal) := by
  refine ⟨8796093 * 2 ^ (-43 : ℤ), by positivity, ?_⟩
  simp [eps, Ideal.ofBits, Ideal.ieee, -EReal.coe_mul]

/-- The row's mean square plus the small constant. -/
def ms (x : Fin 1024 → EReal) : EReal := Ideal.div (∑ k, x k * x k) len + eps
/-- The reciprocal root of it. -/
def rs (x : Fin 1024 → EReal) : EReal := Ideal.rsqrt (ms x)

/-- The closed form of the gradient at entry `l`. -/
def closed (x g : Fin 1024 → EReal) (o : EReal) (l : Fin 1024) : EReal :=
  o + rs x * (g l - x l * rs x * Ideal.div (∑ k, g k * (x k * rs x)) len)

/-- The chain rule's common factor: the gradient at the row's sum of squares. -/
def inner (x g : Fin 1024 → EReal) : EReal :=
  Ideal.div ((∑ k, x k * g k) * (mhalf * Ideal.div (rs x) (ms x))) len

/-- The chain rule's form of the gradient at entry `l`: through the product, and twice through the square. -/
def chain (x g : Fin 1024 → EReal) (o : EReal) (l : Fin 1024) : EReal :=
  o + g l * rs x + x l * inner x g + inner x g * x l

theorem sq_nonneg (a : EReal) : 0 ≤ a * a := by
  induction a using EReal.rec with
  | bot => simp
  | top => simp
  | coe r => rw [← EReal.coe_mul]; exact_mod_cast mul_self_nonneg r

theorem real_of_sq_lt (a : EReal) (h : a * a ≠ ⊤) : ∃ r : ℝ, a = r := by
  induction a using EReal.rec with
  | bot => simp at h
  | top => simp at h
  | coe r => exact ⟨r, rfl⟩

theorem div_len (y : EReal) : Ideal.div y len = y * ((1 / 1024 : ℝ) : EReal) := by
  rw [len_eq]; exact Ideal.div_coe (by norm_num) y

/-- Either the mean square is infinite, or it is a positive real and every entry of the row is real. -/
theorem ms_cases (x : Fin 1024 → EReal) :
    ms x = ⊤ ∨ ∃ ρ : ℝ, 0 < ρ ∧ ms x = ρ ∧ ∀ k, ∃ r : ℝ, x k = r := by
  have hs : 0 ≤ ∑ k, x k * x k := Finset.sum_nonneg fun k _ => sq_nonneg (x k)
  obtain ⟨e, he, hee⟩ := eps_pos
  unfold ms
  rw [div_len, hee]
  generalize hS : ∑ k, x k * x k = S at hs
  induction S using EReal.rec with
  | bot => simp at hs
  | top =>
    left
    rw [EReal.top_mul_coe_of_pos (by norm_num)]
    rfl
  | coe s =>
    right
    have hs' : 0 ≤ s := by exact_mod_cast hs
    refine ⟨s * (1 / 1024) + e, by positivity, by push_cast; rfl, fun k => real_of_sq_lt _ fun ht => ?_⟩
    have := Finset.single_le_sum (fun j _ => sq_nonneg (x j)) (Finset.mem_univ k)
    rw [hS, ht] at this
    exact absurd this (by simp)

/-- A positive real times a sum of products, taken inside. -/
theorem sum_mul_pos {n : ℕ} (x g : Fin n → EReal) {r : ℝ} (hr : 0 < r) :
    ∑ k, g k * (x k * r) = (r : EReal) * ∑ k, x k * g k := by
  have h0 : (0 : EReal) ≤ (r : EReal) := by exact_mod_cast hr.le
  have key : ∀ s : Finset (Fin n), (∑ k ∈ s, g k * (x k * r)) = (r : EReal) * ∑ k ∈ s, x k * g k := by
    intro s
    induction s using Finset.induction_on with
    | empty => simp
    | insert a s ha ih =>
      rw [Finset.sum_insert ha, Finset.sum_insert ha, ih, EReal.left_distrib_of_nonneg_of_ne_top h0 (EReal.coe_ne_top r)]
      congr 1
      ac_rfl
  exact key _

/-- Half a real multiple of any extended real, twice. -/
theorem half_add_half (a : ℝ) (T : EReal) : ((a / 2 : ℝ) : EReal) * T + ((a / 2 : ℝ) : EReal) * T = (a : EReal) * T := by
  rcases lt_trichotomy a 0 with h | h | h
  · have h2 : a / 2 < 0 := by linarith
    induction T using EReal.rec with
    | bot => rw [EReal.coe_mul_bot_of_neg h, EReal.coe_mul_bot_of_neg h2]; rfl
    | top => rw [EReal.coe_mul_top_of_neg h, EReal.coe_mul_top_of_neg h2]; rfl
    | coe t => rw [← EReal.coe_mul, ← EReal.coe_mul, ← EReal.coe_add]; congr 1; ring
  · subst h; simp
  · have h2 : 0 < a / 2 := by linarith
    induction T using EReal.rec with
    | bot => rw [EReal.coe_mul_bot_of_pos h, EReal.coe_mul_bot_of_pos h2]; rfl
    | top => rw [EReal.coe_mul_top_of_pos h, EReal.coe_mul_top_of_pos h2]; rfl
    | coe t => rw [← EReal.coe_mul, ← EReal.coe_mul, ← EReal.coe_add]; congr 1; ring

/-- The two forms agree on every row of extended reals. -/
theorem closed_eq_chain (x g : Fin 1024 → EReal) (o : EReal) (l : Fin 1024) : closed x g o l = chain x g o l := by
  unfold closed chain inner
  rcases ms_cases x with h | ⟨ρ, hρ, h, hx⟩
  · have hr : rs x = 0 := by unfold rs; rw [h]; rfl
    rw [hr, h]
    have hd : Ideal.div (0 : EReal) ⊤ = 0 := by unfold Ideal.div; simp
    rw [hd, div_len, div_len]
    simp
  · obtain ⟨a, ha⟩ := hx l
    have hrs : rs x = (((√ρ)⁻¹ : ℝ) : EReal) := by
      unfold rs; rw [h, Ideal.rsqrt_coe, if_neg (not_lt.mpr hρ.le), if_neg hρ.ne']
    have hq : 0 < (√ρ)⁻¹ := inv_pos.mpr (Real.sqrt_pos.mpr hρ)
    have hqq : (√ρ)⁻¹ * (√ρ)⁻¹ = 1 / ρ := by rw [← mul_inv, Real.mul_self_sqrt hρ.le, one_div]
    generalize (√ρ)⁻¹ = q at hrs hq hqq
    rw [hrs, h, ha, mhalf_eq, sum_mul_pos x g hq]
    generalize ∑ k, x k * g k = T
    rw [div_len, div_len, Ideal.div_coe hρ.ne', sub_eq_add_neg,
      EReal.left_distrib_of_nonneg_of_ne_top (by exact_mod_cast hq.le) (EReal.coe_ne_top q)]
    have e1 : (q : EReal) * -(↑a * ↑q * (↑q * T * ((1 / 1024 : ℝ) : EReal))) = ((-(a * q * q * q / 1024) : ℝ) : EReal) * T := by
      have : ((-(a * q * q * q / 1024) : ℝ) : EReal) = -((q : EReal) * (a * q * (q * ((1 / 1024 : ℝ) : EReal)))) := by
        norm_cast; ring
      rw [this, EReal.neg_mul, mul_neg]
      congr 1
      ac_rfl
    have e2 : T * (((-(1 / 2) : ℝ) : EReal) * (↑q * ((1 / ρ : ℝ) : EReal))) * ((1 / 1024 : ℝ) : EReal)
        = ((-(q * q * q / 1024) / 2 : ℝ) : EReal) * T := by
      have : ((-(q * q * q / 1024) / 2 : ℝ) : EReal) = ((-(1 / 2) : ℝ) : EReal) * (↑q * ((1 / ρ : ℝ) : EReal)) * ((1 / 1024 : ℝ) : EReal) := by
        rw [← hqq]; norm_cast; ring
      rw [this]
      ac_rfl
    have e3 : (a : EReal) * (((-(q * q * q / 1024) / 2 : ℝ) : EReal) * T) = ((-(a * q * q * q / 1024) / 2 : ℝ) : EReal) * T := by
      rw [← mul_assoc]
      congr 1
      norm_cast; ring
    rw [e1, e2, mul_comm _ (a : EReal), e3, add_assoc, half_add_half, mul_comm (g l), add_assoc]

end Cert.Norm
-- ==== Proof.Spec.lean ====
/-
  What the backward pass of the projection's input side computes, as functions of the arguments' entries: `d_proj` is
  the four gradients side by side, `dh` its product with the weight's transpose, and the four results follow from `dh`
  through the modulation `h = norm(x) * nw * (1 + scale) + shift`.
-/
module

public import proofs.«01_k».proof.Proof.Norm

@[expose] public section

noncomputable section

namespace Cert.Spec

/-- The arguments, entry by entry: sequence, row, column. -/
structure Args where
  x : Fin 4 → Fin 2048 → Fin 1024 → EReal
  scale : Fin 4 → Fin 1024 → EReal
  norm : Fin 1024 → EReal
  w : Fin 1024 → Fin 2944 → EReal
  ret : Fin 4 → Fin 2048 → Fin 1024 → EReal
  mla : Fin 4 → Fin 2048 → Fin 512 → EReal
  mz : Fin 4 → Fin 2048 → Fin 512 → EReal
  gla : Fin 4 → Fin 2048 → Fin 896 → EReal
  dxo : Fin 4 → Fin 2048 → Fin 1024 → EReal

variable (A : Args) (b : Fin 4) (s : Fin 2048)

/-- The four gradients side by side. -/
def dproj (k : Fin 2944) : EReal :=
  if h : k.val < 1024 then A.ret b s ⟨k.val, h⟩
  else if h : k.val - 1024 < 512 then A.mla b s ⟨k.val - 1024, h⟩
  else if h : k.val - 1024 - 512 < 512 then A.mz b s ⟨k.val - 1024 - 512, h⟩
  else A.gla b s ⟨k.val - 1024 - 512 - 512, by omega⟩

/-- The gradient at the projection's input. -/
def dh (l : Fin 1024) : EReal := ∑ k, dproj A b s k * A.w l k

/-- The gradient at the normalised row. -/
def g (l : Fin 1024) : EReal := dh A b s l * (1 + A.scale b l) * A.norm l

/-- The normalised row. -/
def xh (l : Fin 1024) : EReal := A.x b s l * Norm.rs (A.x b s)

def dx (l : Fin 1024) : EReal := Norm.chain (A.x b s) (g A b s) (A.dxo b s l) l
def dshift (l : Fin 1024) : EReal := ∑ s, dh A b s l
def dscale (l : Fin 1024) : EReal := ∑ s, dh A b s l * xh A b s l * A.norm l
def dnorm (l : Fin 1024) : EReal := ∑ b, ∑ s, dh A b s l * xh A b s l * (1 + A.scale b l)

end Cert.Spec
-- ==== Proof.Point.lean ====
/-
  What one grid point computes, entry by entry, in terms of the arguments: its block of `dx`, and what it adds to each of
  the three sums.
-/
module

public import proofs.«01_k».proof.Proof.Reads
public import proofs.«01_k».proof.Proof.Spec

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The kernel's arguments on a device. -/
def args (c : Dev nD) : Spec.Args where
  x := fun b s l => m ((c : Thread nD τ).loc main_arg0) (ix3 b s l)
  scale := fun b l => m ((c : Thread nD τ).loc main_arg1) (ix2 b l)
  norm := fun l => m ((c : Thread nD τ).loc main_arg2) (ix1 l)
  w := fun l k => m ((c : Thread nD τ).loc main_arg3) (ix2 l k)
  ret := fun b s l => m ((c : Thread nD τ).loc main_arg4) (ix3 b s l)
  mla := fun b s l => m ((c : Thread nD τ).loc main_arg5) (ix3 b s l)
  mz := fun b s l => m ((c : Thread nD τ).loc main_arg6) (ix3 b s l)
  gla := fun b s l => m ((c : Thread nD τ).loc main_arg7) (ix3 b s l)
  dxo := fun b s l => m ((c : Thread nD τ).loc main_arg8) (ix3 b s l)

theorem dhAt_apply (c : Dev nD) (t : Fin cfg0.N) (r : Fin 512) (l : Fin 1024) :
    dhAt m c t (ix2 r l) = Spec.dh (args m c) (seqOf t) (rowOf t r) l := by
  obtain ⟨-, h4, h5, h6, h7, -⟩ := readTok m c t r
  pointwise [dhAt, k0_pay5]
  simp only [h4, h5, h6, h7, readW]
  rfl

theorem dxAt_apply (c : Dev nD) (t : Fin cfg0.N) (r : Fin 512) (l : Fin 1024) :
    dxAt m c t (ix3 0 r l) = Spec.dx (args m c) (seqOf t) (rowOf t r) l := by
  obtain ⟨h0, -, -, -, -, h8⟩ := readTok m c t r
  pointwise [dxAt, k0_pay1, k0_pay6, k0_pay7, k0_pay8, k0_pay9, k0_pay10]
  simp only [h0, h8, readNorm, readScale, dhAt_apply]
  have hg : Spec.g (args m c) (seqOf t) (rowOf t r) = fun k => Spec.dh (args m c) (seqOf t) (rowOf t r) k
      * (args m c).norm k * (1 + (args m c).scale (seqOf t) k) := funext fun k => mul_right_comm _ _ _
  unfold Spec.dx
  rw [← Norm.closed_eq_chain, hg]
  rfl

theorem shiftStep_apply (c : Dev nD) (t : Fin cfg0.N) (acc : Vec Ideal S1x1x1024 .f32) (l : Fin 1024) :
    shiftStep m c t acc (ix3 0 0 l) = acc (ix3 0 0 l) + ∑ r, Spec.dh (args m c) (seqOf t) (rowOf t r) l := by
  pointwise [shiftStep, k0_pay11]
  simp only [dhAt_apply]

theorem scaleStep_apply (c : Dev nD) (t : Fin cfg0.N) (acc : Vec Ideal S1x1x1024 .f32) (l : Fin 1024) :
    scaleStep m c t acc (ix3 0 0 l) = acc (ix3 0 0 l) + ∑ r,
      Spec.dh (args m c) (seqOf t) (rowOf t r) l * Spec.xh (args m c) (seqOf t) (rowOf t r) l * (args m c).norm l := by
  have h0 := fun r => (readTok m c t r).1
  pointwise [scaleStep, k0_pay12, k0_pay6, k0_pay7, k0_pay8, k0_pay9, k0_pay10]
  simp only [h0, readNorm, dhAt_apply]
  rfl

theorem normStep_apply (c : Dev nD) (t : Fin cfg0.N) (acc : Vec Ideal S1x1024 .f32) (l : Fin 1024) :
    normStep m c t acc (ix2 0 l) = acc (ix2 0 l) + ∑ r,
      Spec.dh (args m c) (seqOf t) (rowOf t r) l * Spec.xh (args m c) (seqOf t) (rowOf t r) l
        * (1 + (args m c).scale (seqOf t) l) := by
  have h0 := fun r => (readTok m c t r).1
  pointwise [normStep, k0_pay13, k0_pay6, k0_pay7, k0_pay8, k0_pay9, k0_pay10]
  simp only [h0, readScale, dhAt_apply]
  rfl

end Cert.KernelIdeal.Value
-- ==== Proof.Arrays.lean ====
/-
  The kernel's four results, each array whole: `dx` from its blocks, the three sums from the points of their runs.
-/
module

public import proofs.«01_k».proof.Proof.Point

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The first output at any point is its block of `dx`. -/
theorem out_dx (c : Dev nD) (t : Fin cfg0.N) : (outsAt0 m c t.val t.isLt).1 = dxAt m c t := by
  by_cases h1 : t.val % 4 = 0
  · by_cases h0 : t.val % 16 = 0
    · rw [outs_A m c t h0 h1]
    · rw [outs_C m c t h0 h1]
  · rw [outs_B m c t (by omega) h1]

/-- At the first block of a sequence the two per-sequence sums start from zero. -/
theorem out_first (c : Dev nD) (t : Fin cfg0.N) (h1 : t.val % 4 = 0) :
    (outsAt0 m c t.val t.isLt).2.1 = shiftStep m c t (k0_pay3 (F := Ideal))
    ∧ (outsAt0 m c t.val t.isLt).2.2.1 = scaleStep m c t (k0_pay4 (F := Ideal)) := by
  by_cases h0 : t.val % 16 = 0
  · rw [outs_A m c t h0 h1]; exact ⟨rfl, rfl⟩
  · rw [outs_C m c t h0 h1]; exact ⟨rfl, rfl⟩

/-- At every point but the first the norm weight's sum goes on. -/
theorem out_norm (c : Dev nD) (t : Fin cfg0.N) (h0 : ¬t.val % 16 = 0) :
    (outsAt0 m c t.val t.isLt).2.2.2 = normStep m c t (prev m c t).2.2.2 := by
  by_cases h1 : t.val % 4 = 0
  · rw [outs_C m c t h0 h1]
  · rw [outs_B m c t h0 h1]

theorem final_dx (c : Dev nD) : (dats m 0 c).arrAt 9 cfg0.N
    = (fun y => Spec.dx (args m c) (y 0) (y 1) (y 2) : FVec Ideal S4x2048x1024 .f32) := by
  refine (dats m 0 c).arrAt_eq_of_covers 9 _ (by decide +kernel) fun t hf y => ?_
  blk_simp
  rw [after0_9, out_dx]
  idx_vars y
  obtain rfl : y0 = 0 := Subsingleton.elim _ _
  refine (dxAt_apply m c t y1 y2).trans (congr (congr (congrArg (Spec.dx (args m c)) ?_) ?_) ?_) <;>
    (apply Fin.ext; blk_simp [idx t] <;> simp)

/-- A sum over the four blocks of a sequence of sums over their rows is the sum over the sequence's rows. -/
theorem sum_seq (f : Fin 4 → Fin 2048 → EReal) (t : Fin cfg0.N) (ht : t.val % 4 = 4 - 1) :
    ∑ s : Fin 4, ∑ r : Fin 512, f (seqOf ⟨4 * (t.val / 4) + s.val, Pipeline.run_point_lt_of_flush t ht s⟩)
      (rowOf ⟨4 * (t.val / 4) + s.val, Pipeline.run_point_lt_of_flush t ht s⟩ r) = ∑ s, f (seqOf t) s := by
  refine Fin.sum_mul_add_congr fun s k hl => ?_
  have := s.isLt
  congr 1 <;> apply Fin.ext <;> simp only <;> omega

theorem final_shift (c : Dev nD) : (dats m 0 c).arrAt 10 cfg0.N
    = (fun y => Spec.dshift (args m c) (y 0) (y 2) : FVec Ideal S4x1x1024 .f32) := by
  refine (dats m 0 c).arrAt_eq_of_covers 10 _ (by decide +kernel) fun t hf y => ?_
  have ht := (flush0_10 t).mp hf
  blk_simp
  rw [after0_10]
  idx_vars y
  obtain ⟨rfl, rfl⟩ : y0 = 0 ∧ y1 = 0 := ⟨Subsingleton.elim _ _, Subsingleton.elim _ _⟩
  refine (Pipeline.eq_sum_fin_of_reset_step_apply_of_flush (fun n h l => (outsAt0 m c n h).2.1 (ix3 0 0 l)) 4
    (fun _ => 0) (fun t l => ∑ r, Spec.dh (args m c) (seqOf t) (rowOf t r) l)
    (fun t h l => by rw [(out_first m c t h).1, shiftStep_apply]; pointwise [k0_pay3])
    (fun t h l => by rw [outs_B m c t (by omega) h]; exact shiftStep_apply m c t _ l) t ht y2).trans ?_
  rw [zero_add]
  refine (sum_seq (fun b s => Spec.dh (args m c) b s y2) t ht).trans
    (show Spec.dshift (args m c) (seqOf t) y2 = _ from congr (congrArg (Spec.dshift (args m c)) ?_) ?_) <;> (apply Fin.ext; blk_simp [idx t] <;> simp)

theorem final_scale (c : Dev nD) : (dats m 0 c).arrAt 11 cfg0.N
    = (fun y => Spec.dscale (args m c) (y 0) (y 2) : FVec Ideal S4x1x1024 .f32) := by
  refine (dats m 0 c).arrAt_eq_of_covers 11 _ (by decide +kernel) fun t hf y => ?_
  have ht := (flush0_11 t).mp hf
  blk_simp
  rw [after0_11]
  idx_vars y
  obtain ⟨rfl, rfl⟩ : y0 = 0 ∧ y1 = 0 := ⟨Subsingleton.elim _ _, Subsingleton.elim _ _⟩
  refine (Pipeline.eq_sum_fin_of_reset_step_apply_of_flush (fun n h l => (outsAt0 m c n h).2.2.1 (ix3 0 0 l)) 4
    (fun _ => 0) (fun t l => ∑ r, Spec.dh (args m c) (seqOf t) (rowOf t r) l
      * Spec.xh (args m c) (seqOf t) (rowOf t r) l * (args m c).norm l)
    (fun t h l => by rw [(out_first m c t h).2, scaleStep_apply]; pointwise [k0_pay4])
    (fun t h l => by rw [outs_B m c t (by omega) h]; exact scaleStep_apply m c t _ l) t ht y2).trans ?_
  rw [zero_add]
  refine (sum_seq (fun b s => Spec.dh (args m c) b s y2 * Spec.xh (args m c) b s y2 * (args m c).norm y2) t ht).trans
    (show Spec.dscale (args m c) (seqOf t) y2 = _ from congr (congrArg (Spec.dscale (args m c)) ?_) ?_) <;> (apply Fin.ext; blk_simp [idx t] <;> simp)

theorem final_norm (c : Dev nD) : (dats m 0 c).arrAt 12 cfg0.N
    = (fun y => Spec.dnorm (args m c) (y 1) : FVec Ideal S1x1024 .f32) := by
  refine (dats m 0 c).arrAt_eq_of_covers 12 _ (by decide +kernel) fun t hf y => ?_
  have ht := (flush0_12 t).mp hf
  have hN : cfg0.N = 16 := N_0
  have htl := t.isLt
  blk_simp
  rw [after0_12]
  idx_vars y
  obtain rfl : y0 = 0 := Subsingleton.elim _ _
  refine (Pipeline.eq_sum_fin_of_reset_step_apply_last (fun n h l => (outsAt0 m c n h).2.2.2 (ix2 0 l)) 16
    (fun _ => 0) (fun t l => ∑ r, Spec.dh (args m c) (seqOf t) (rowOf t r) l
      * Spec.xh (args m c) (seqOf t) (rowOf t r) l * (1 + (args m c).scale (seqOf t) l))
    (fun t h l => by rw [outs_A m c t h (by omega)]; refine (normStep_apply m c t _ l).trans ?_; pointwise [k0_pay2])
    (fun t h l => by rw [out_norm m c t h]; exact normStep_apply m c t _ l) (le_of_eq hN) t (by omega) y1).trans ?_
  rw [zero_add]
  refine Eq.trans (Fin.sum_points_lanes_congr (A := 4) (L := 2048) 4
    (g := fun b s => Spec.dh (args m c) b s y1 * Spec.xh (args m c) b s y1 * (1 + (args m c).scale b y1))
    (fun t k ha hl => rfl)) (show Spec.dnorm (args m c) y1 = _ from congrArg (Spec.dnorm (args m c)) ?_)
  apply Fin.ext; blk_simp [idx t] <;> simp

end Cert.KernelIdeal.Value
-- ==== Proof.Ref.lean ====
/-
  The reference's four results, entry by entry, in terms of its arguments.
-/
module

public import proofs.«01_k».proof.Proof.Gen.ReferenceIdeal.Run
public import proofs.«01_k».proof.Proof.Spec
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

variable (m : (ℓ : Loc nD τ sig) → Buf (Elt Ideal) ℓ)

/-- A sum over the first two axes of an array of three, at an entry of the third. -/
theorem sum_first_two {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  refine congrArg (init + ·) ((Finset.sum_filter_eq_sum_of_fiber _ (fun k : Fin n0 × Fin n1 => ix3 k.1 k.2 j)
    (fun _ _ e => Prod.ext (congrFun e 0) (congrFun e 1)) (fun i => ?_) v).trans (by simp only [Fintype.sum_prod_type]))
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
  · rintro ⟨k, rfl⟩
    funext b
    match b with
    | ⟨0, _⟩ => rfl

/-- The reference's arguments on a device. -/
def args (c : Dev nD) : Spec.Args where
  x := fun b s l => m ((c.tc : Thread nD τ).loc main_arg0) (ix3 b s l)
  scale := fun b l => m ((c.tc : Thread nD τ).loc main_arg1) (ix2 b l)
  norm := fun l => m ((c.tc : Thread nD τ).loc main_arg2) (ix1 l)
  w := fun l k => m ((c.tc : Thread nD τ).loc main_arg3) (ix2 l k)
  ret := fun b s l => m ((c.tc : Thread nD τ).loc main_arg4) (ix3 b s l)
  mla := fun b s l => m ((c.tc : Thread nD τ).loc main_arg5) (ix3 b s l)
  mz := fun b s l => m ((c.tc : Thread nD τ).loc main_arg6) (ix3 b s l)
  gla := fun b s l => m ((c.tc : Thread nD τ).loc main_arg7) (ix3 b s l)
  dxo := fun b s l => m ((c.tc : Thread nD τ).loc main_arg8) (ix3 b s l)

set_option maxHeartbeats 4000000 in
/-- The four results of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v61) = (fun y => Spec.dx (args m c) (y 0) (y 1) (y 2) : FVec Ideal S4x2048x1024 .f32)
      ∧ r.2.mem ((c.tc : Thread nD τ).loc main_v62) = (fun y => Spec.dshift (args m c) (y 0) (y 2) : FVec Ideal S4x1x1024 .f32)
      ∧ r.2.mem ((c.tc : Thread nD τ).loc main_v63) = (fun y => Spec.dscale (args m c) (y 0) (y 2) : FVec Ideal S4x1x1024 .f32)
      ∧ r.2.mem ((c.tc : Thread nD τ).loc main_v64) = (fun y => Spec.dnorm (args m c) (y 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ?_) (run m ρ)
  obtain ⟨h0, h1, h2, h3, hk⟩ := h c
  refine ⟨h0.trans (funext fun y => ?_), h1.trans (funext fun y => ?_), h2.trans (funext fun y => ?_), h3.trans (funext fun y => ?_), hk⟩ <;>
    clear h0 h1 h2 h3 hk h
  · unfold res_main_v61
    clean_types
    idx_vars y
    pointwise
    simp only [Fin.sum_univ_one, Spec.dx, Norm.chain, Norm.inner]
    rfl
  · clean_types
    idx_vars y
    pointwise
    simp only [Fin.sum_univ_one]
    rfl
  · clean_types
    idx_vars y
    pointwise
    simp only [Fin.sum_univ_one]
    exact Finset.sum_congr rfl fun s _ => (mul_comm _ _).trans (mul_assoc _ _ _).symm
  · clean_types
    idx_vars y
    pointwise [sum_first_two]
    simp only [Fin.sum_univ_one]
    exact Finset.sum_congr rfl fun b _ => Finset.sum_congr rfl fun s _ => (mul_left_comm _ _ _).trans (mul_assoc _ _ _).symm

end Cert.ReferenceIdeal.Value
-- ==== Proof.BackClaim.lean ====
/-
  The claims about the projection's input-side gradient: the reference's frame, and that the idealized kernel and the
  reference leave the same four arrays on every input.
-/
module

public import proofs.«01_k».proof.Proof.Arrays
public import proofs.«01_k».proof.Proof.Ref
public import proofs.«01_k».proof.Defs
public import Idealize.ShloMosaic.Adequacy
public import Idealize.ShloMosaic.Init

@[expose] public section

noncomputable section

open Idealize.ShloMosaic Idealize.SL.Sem

namespace Cert.BackClaim

/-- The reference leaves its arguments as they were; it has no semaphores. -/
theorem frame_reference : quiescent_ReferenceIdeal := fun m ρ _ =>
  (θ_run _ _ _).mono (fun r h => ⟨fun c => (h c).2.2.2.2, sem_eq_zero_of_no_sems rfl r.2⟩)
    (Cert.ReferenceIdeal.Value.run_spec m ρ)

/-- Both runs leave the four arrays of the specification at the kernel's arguments. -/
theorem same_results : algebraic_KernelIdeal_ReferenceIdeal := fun m ρ m' ρ' _ hag => by
  have e : ∀ c, Cert.ReferenceIdeal.Value.args m' c = Cert.KernelIdeal.Value.args m c := fun c => by
    obtain ⟨h0, h1, h2, h3, h4, h5, h6, h7, h8⟩ := hag c
    unfold Cert.ReferenceIdeal.Value.args
    rw [h0, h1, h2, h3, h4, h5, h6, h7, h8]
    rfl
  refine ⟨fun c y => Spec.dx (Cert.KernelIdeal.Value.args m c) (y 0) (y 1) (y 2),
    fun c y => Spec.dshift (Cert.KernelIdeal.Value.args m c) (y 0) (y 2),
    fun c y => Spec.dscale (Cert.KernelIdeal.Value.args m c) (y 0) (y 2),
    fun c y => Spec.dnorm (Cert.KernelIdeal.Value.args m c) (y 1),
    (θ_run _ _ _).mono (fun r h c => ?_) (Cert.KernelIdeal.Value.run_blocks m ρ),
    (θ_run _ _ _).mono (fun r h c => ?_) (Cert.ReferenceIdeal.Value.run_spec m' ρ')⟩
  · obtain ⟨h0, h1, h2, h3, hk⟩ := h c
    exact ⟨h0.trans (Cert.KernelIdeal.Value.final_dx m c), h1.trans (Cert.KernelIdeal.Value.final_shift m c),
      h2.trans (Cert.KernelIdeal.Value.final_scale m c), h3.trans (Cert.KernelIdeal.Value.final_norm m c), hk⟩
  · have hc := h c
    rw [e c] at hc
    exact hc

end Cert.BackClaim
-- ==== Proof.WeightSpec.lean ====
/-
  The projection weight's gradient, as a function of the arguments' entries: over all rows of all sequences, the
  normalized input's entry times the incoming gradient's.
-/
module

public import Idealize.ShloMosaic.PureOps.Ideal
public import Idealize.ShloMosaic.PureOps.Ideal.Laws

@[expose] public section

noncomputable section

open Idealize.ShloMosaic

namespace Cert.Weight

/-- The arguments' entries: sequence, row, column. -/
structure Args where
  h : Fin 4 → Fin 2048 → Fin 1024 → EReal
  ret : Fin 4 → Fin 2048 → Fin 1024 → EReal
  mla : Fin 4 → Fin 2048 → Fin 512 → EReal
  mz : Fin 4 → Fin 2048 → Fin 512 → EReal
  gla : Fin 4 → Fin 2048 → Fin 896 → EReal

variable (A : Args) (b : Fin 4) (s : Fin 2048)

/-- The incoming gradient: its four column groups side by side. -/
def dproj (k : Fin 2944) : EReal :=
  if h : k.val < 1024 then A.ret b s ⟨k.val, h⟩
  else if h : k.val - 1024 < 512 then A.mla b s ⟨k.val - 1024, h⟩
  else if h : k.val - 1024 - 512 < 512 then A.mz b s ⟨k.val - 1024 - 512, h⟩
  else A.gla b s ⟨k.val - 1024 - 512 - 512, by omega⟩

/-- The gradient. -/
def dw (l : Fin 1024) (k : Fin 2944) : EReal := ∑ b, ∑ s, A.h b s l * dproj A b s k

theorem dproj_ret (k : Fin 1024) (i : Fin 2944) (e : i.val = k.val) : dproj A b s i = A.ret b s k := by
  obtain ⟨i, hi⟩ := i
  obtain rfl := e
  unfold dproj; rw [dif_pos k.isLt]

theorem dproj_mla (k : Fin 512) (i : Fin 2944) (e : i.val = 1024 + k.val) : dproj A b s i = A.mla b s k := by
  obtain ⟨i, hi⟩ := i
  obtain rfl := e
  unfold dproj
  rw [dif_neg (by simp only; omega), dif_pos (by simp only; omega)]
  exact congrArg _ (Fin.ext (by simp only; omega))

theorem dproj_mz (k : Fin 512) (i : Fin 2944) (e : i.val = 1536 + k.val) : dproj A b s i = A.mz b s k := by
  obtain ⟨i, hi⟩ := i
  obtain rfl := e
  unfold dproj
  rw [dif_neg (by simp only; omega), dif_neg (by simp only; omega), dif_pos (by simp only; omega)]
  exact congrArg _ (Fin.ext (by simp only; omega))

theorem dproj_gla (k : Fin 896) (i : Fin 2944) (e : i.val = 2048 + k.val) : dproj A b s i = A.gla b s k := by
  obtain ⟨i, hi⟩ := i
  obtain rfl := e
  unfold dproj
  rw [dif_neg (by simp only; omega), dif_neg (by simp only; omega), dif_neg (by simp only; omega)]
  exact congrArg _ (Fin.ext (by simp only; omega))

end Cert.Weight
-- ==== Proof.WeightPoint.lean ====
/-
  The projection weight's gradient kernel: what one grid point adds to the running sum, and what the last one writes
  out. The sum is kept in a scratch array whose four groups of columns are added to one after the other; the first point
  zeroes it. Point `t` is block `t % 4` of 512 rows of sequence `t / 4`.
-/
module

public import proofs.«01_k».proof.Proof.Gen.Kernel2Ideal.Value
public import proofs.«01_k».proof.Proof.WeightSpec
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel2Ideal.Value

open Cert.Kernel2Ideal Cert.Kernel2Ideal.Gen

variable (m : (ℓ : Loc nD τ sig) → Buf (Elt Ideal) ℓ)

/-- The sequence of point `t`. -/
abbrev seqOf (t : Fin cfg0.N) : Fin 4 := ⟨t.val / 4, by have := t.isLt; have : cfg0.N = 16 := N_0; omega⟩
/-- Row `r` of point `t`'s block, as a row of its sequence. -/
abbrev rowOf (t : Fin cfg0.N) (r : Fin 512) : Fin 2048 := ⟨t.val % 4 * 512 + r.val, by have := r.isLt; omega⟩

/-- The kernel's arguments on a device. -/
def args (c : Dev nD) : Weight.Args where
  h := fun b s l => m ((c : Thread nD τ).loc main_arg0) (ix3 b s l)
  ret := fun b s l => m ((c : Thread nD τ).loc main_arg1) (ix3 b s l)
  mla := fun b s l => m ((c : Thread nD τ).loc main_arg2) (ix3 b s l)
  mz := fun b s l => m ((c : Thread nD τ).loc main_arg3) (ix3 b s l)
  gla := fun b s l => m ((c : Thread nD τ).loc main_arg4) (ix3 b s l)

/-- The block of each window at point `t`. -/
theorem idx : ∀ t : Fin cfg0.N,
    win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 0] ∧ win0_5.index t = ![0, 0] :=
  (by decide +kernel : ∀ t : Fin grid0.N,
    win0_0.index t = ![t.val / 4, t.val % 4, 0] ∧ win0_1.index t = ![t.val / 4, t.val % 4, 0]
    ∧ win0_2.index t = ![t.val / 4, t.val % 4, 0] ∧ win0_3.index t = ![t.val / 4, t.val % 4, 0]
    ∧ win0_4.index t = ![t.val / 4, t.val % 4, 0] ∧ win0_5.index t = ![0, 0])

theorem readH (c : Dev nD) (t : Fin cfg0.N) (r : Fin 512) (l : Fin 1024) :
    (iblk m c 0 t : Vec Ideal S1x512x1024 .bf16) (ix3 0 r l) = (args m c).h (seqOf t) (rowOf t r) l := by
  unfold args; blk_ext [iblk, V, idx t]
theorem readRet (c : Dev nD) (t : Fin cfg0.N) (r : Fin 512) (l : Fin 1024) :
    (iblk m c 1 t : Vec Ideal S1x512x1024 .bf16) (ix3 0 r l) = (args m c).ret (seqOf t) (rowOf t r) l := by
  unfold args; blk_ext [iblk, V, idx t]
theorem readMla (c : Dev nD) (t : Fin cfg0.N) (r : Fin 512) (l : Fin 512) :
    (iblk m c 2 t : Vec Ideal S1x512x512 .bf16) (ix3 0 r l) = (args m c).mla (seqOf t) (rowOf t r) l := by
  unfold args; blk_ext [iblk, V, idx t]
theorem readMz (c : Dev nD) (t : Fin cfg0.N) (r : Fin 512) (l : Fin 512) :
    (iblk m c 3 t : Vec Ideal S1x512x512 .bf16) (ix3 0 r l) = (args m c).mz (seqOf t) (rowOf t r) l := by
  unfold args; blk_ext [iblk, V, idx t]
theorem readGla (c : Dev nD) (t : Fin cfg0.N) (r : Fin 512) (l : Fin 896) :
    (iblk m c 4 t : Vec Ideal S1x512x896 .bf16) (ix3 0 r l) = (args m c).gla (seqOf t) (rowOf t r) l := by
  unfold args; blk_ext [iblk, V, idx t]

/-- What point `t` adds. -/
def term (c : Dev nD) (t : Fin cfg0.N) (l : Fin 1024) (k : Fin 2944) : EReal :=
  ∑ r, (args m c).h (seqOf t) (rowOf t r) l * Weight.dproj (args m c) (seqOf t) (rowOf t r) k

/-- The running sum after point `t`, from what was there before. -/
def step (c : Dev nD) (t : Fin cfg0.N) (acc : Vec Ideal S1024x2944 .f32) : Vec Ideal S1024x2944 .f32 :=
  fun y => acc y + term m c t (y 0) (y 1)

/-- The four groups of columns, each the old group plus its product, are blocks of `step`. -/
theorem blocks (c : Dev nD) (t : Fin cfg0.N) (acc : Vec Ideal S1024x2944 .f32) :
    (∀ x, k0_pay2 (F := Ideal) (k0_pay5 (iblk m c 0 t))
        (View.ld acc (Rect.unit ![0, 2048] ![1024, 896] inb_S1024x2944_S1024x896_0_2048)) (iblk m c 4 t) x
      = step m c t acc ((Rect.unit (s := S1024x2944) ![0, 2048] ![1024, 896] inb_S1024x2944_S1024x896_0_2048).emb x))
    ∧ (∀ x, k0_pay1 (F := Ideal)
        (View.ld acc (Rect.unit ![0, 1536] ![1024, 512] inb_S1024x2944_S1024x512_0_1536)) (k0_pay8 (iblk m c 0 t) (iblk m c 3 t)) x
      = step m c t acc ((Rect.unit (s := S1024x2944) ![0, 1536] ![1024, 512] inb_S1024x2944_S1024x512_0_1536).emb x))
    ∧ (∀ x, k0_pay7 (F := Ideal) (iblk m c 0 t)
        (View.ld acc (Rect.unit ![0, 1024] ![1024, 512] inb_S1024x2944_S1024x512_0_1024)) (iblk m c 2 t) x
      = step m c t acc ((Rect.unit (s := S1024x2944) ![0, 1024] ![1024, 512] inb_S1024x2944_S1024x512_0_1024).emb x))
    ∧ (∀ x, k0_pay6 (F := Ideal) (iblk m c 0 t)
        (View.ld acc (Rect.unit ![0, 0] ![1024, 1024] inb_S1024x2944_S1024x1024_0_0)) (iblk m c 1 t) x
      = step m c t acc ((Rect.unit (s := S1024x2944) ![0, 0] ![1024, 1024] inb_S1024x2944_S1024x1024_0_0).emb x)) := by
  have e : ∀ (o w : ℕ) (inb : ∀ a, (![0, o] : Fin 2 → ℕ) a + (![1024, w] : Fin 2 → ℕ) a ≤ S1024x2944.size a) (a : Fin 1024) (b : Fin w) (hb : o + b.val < 2944),
      (Rect.unit (s := S1024x2944) ![0, o] ![1024, w] inb).emb (ix2 a b) = (ix2 a ⟨o + b.val, hb⟩ : S1024x2944.Idx) := by
    intro o w inb a b hb
    funext i
    apply Fin.ext
    match i with
    | ⟨0, _⟩ => show 0 + 1 * a.val = a.val; omega
    | ⟨1, _⟩ => show o + 1 * b.val = o + b.val; omega
  refine ⟨fun x => ?_, fun x => ?_, fun x => ?_, fun x => ?_⟩
  · idx_vars x
    rw [e _ _ _ _ _ (by omega)]
    pointwise [k0_pay2, k0_pay5]
    simp only [step, term, readH, readGla]
    exact congrArg (_ + ·) (Finset.sum_congr rfl fun r _ => congrArg (_ * ·) (Weight.dproj_gla _ _ _ _ _ rfl).symm)
  · idx_vars x
    rw [e _ _ _ _ _ (by omega)]
    pointwise [k0_pay1, k0_pay8, k0_pay5]
    simp only [step, term, readH, readMz]
    exact congrArg (_ + ·) (Finset.sum_congr rfl fun r _ => congrArg (_ * ·) (Weight.dproj_mz _ _ _ _ _ rfl).symm)
  · idx_vars x
    rw [e _ _ _ _ _ (by omega)]
    pointwise [k0_pay7, k0_pay5]
    simp only [step, term, readH, readMla]
    exact congrArg (_ + ·) (Finset.sum_congr rfl fun r _ => congrArg (_ * ·) (Weight.dproj_mla _ _ _ _ _ rfl).symm)
  · idx_vars x
    rw [e _ _ _ _ _ (by omega)]
    pointwise [k0_pay6, k0_pay5]
    simp only [step, term, readH, readRet]
    exact congrArg (_ + ·) (Finset.sum_congr rfl fun r _ => congrArg (_ * ·) (Weight.dproj_ret _ _ _ _ _ rfl).symm)

/-- What the point before `t` left in the running sum. -/
abbrev prev (c : Dev nD) (t : Fin cfg0.N) : Vec Ideal S1024x2944 .f32 :=
  (outsAt0 m c (t.val - 1) (Nat.lt_of_le_of_lt (Nat.sub_le _ _) t.isLt)).2

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
theorem sum_B (c : Dev nD) (t : Fin cfg0.N) (h0 : ¬t.val % 16 = 0) (h1 : ¬t.val % 16 = 15) :
    (outsAt0 m c t.val t.isLt).2 = step m c t (prev m c t) := by
  rw [outsAt0_B m c t h0 h1]
  dsimp only
  unfold sout0_B_0
  rw [View.read_writes_eq_canon _ _ _ (fun y => scover0_B_0 (y := y) ..)]
  funext y
  refine View.canon_apply_of_pieces (step m c t (prev m c t)) _ (View.PiecesOf.mem ?_) y (scover0_B_0 (y := y) ..)
  unfold kernelRun0_B
  dsimp only
  sl_unfold_words
  simp only [View.readAt_eq_ld, Memref.IsWhole.read_unread, read_unread_whole, View.ld_unit_zero (S := S1x512x1024) hz3,
    View.ld_unit_zero (S := S1x512x512) hz3, View.ld_unit_zero (S := S1x512x896) hz3]
  obtain ⟨b0, b1, b2, b3⟩ := blocks m c t (prev m c t)
  exact ⟨b0, b1, b2, b3, trivial⟩

set_option maxHeartbeats 1000000 in
theorem sum_C (c : Dev nD) (t : Fin cfg0.N) (h0 : ¬t.val % 16 = 0) (h1 : t.val % 16 = 15) :
    (outsAt0 m c t.val t.isLt).2 = step m c t (prev m c t) := by
  rw [outsAt0_C m c t h0 h1]
  dsimp only
  unfold sout0_C_0
  rw [View.read_writes_eq_canon _ _ _ (fun y => scover0_C_0 (y := y) ..)]
  funext y
  refine View.canon_apply_of_pieces (step m c t (prev m c t)) _ (View.PiecesOf.mem ?_) y (scover0_C_0 (y := y) ..)
  unfold kernelRun0_C
  dsimp only
  sl_unfold_words
  simp only [View.readAt_eq_ld, Memref.IsWhole.read_unread, read_unread_whole, View.ld_unit_zero (S := S1x512x1024) hz3,
    View.ld_unit_zero (S := S1x512x512) hz3, View.ld_unit_zero (S := S1x512x896) hz3]
  obtain ⟨b0, b1, b2, b3⟩ := blocks m c t (prev m c t)
  exact ⟨b0, b1, b2, b3, trivial⟩

set_option maxHeartbeats 1000000 in
/-- The last point writes the sum out. -/
theorem out_C (c : Dev nD) (t : Fin cfg0.N) (h0 : ¬t.val % 16 = 0) (h1 : t.val % 16 = 15) :
    (outsAt0 m c t.val t.isLt).1 = fun y => (outsAt0 m c t.val t.isLt).2 y := by
  rw [outsAt0_C m c t h0 h1]
  dsimp only
  unfold out0_C_5 sout0_C_0
  rw [View.read_writes_eq_canon _ _ _ (fun y => cover0_C_5 (y := y) ..), View.read_writes_eq_canon _ _ _ (fun y => scover0_C_0 (y := y) ..)]
  unfold kernelRun0_C
  dsimp only
  sl_unfold_words
  rw [View.canon_unit_zero hz2, View.readCov_eq_canon']
  funext y
  idx_vars y
  pointwise [k0_pay3]

/-- The covered columns. -/
theorem tiled (y : S1024x2944.Idx) {w0 w1 w2 w3} :
    ∃ p ∈ ([⟨Rect.unit ![0, 2048] ![1024, 896] inb_S1024x2944_S1024x896_0_2048, w3⟩, ⟨Rect.unit ![0, 1536] ![1024, 512] inb_S1024x2944_S1024x512_0_1536, w2⟩,
      ⟨Rect.unit ![0, 1024] ![1024, 512] inb_S1024x2944_S1024x512_0_1024, w1⟩, ⟨Rect.unit ![0, 0] ![1024, 1024] inb_S1024x2944_S1024x1024_0_0, w0⟩]
        : List (View.Piece (Elt Ideal) S1024x2944 .f32)), y ∈ p.1.set :=
  View.cover_of_tiledBy _ ![1024, 128] (by sl_kernel_rfl) y

set_option maxHeartbeats 1000000 in
theorem sum_A (c : Dev nD) (t : Fin cfg0.N) (h0 : t.val % 16 = 0) (h1 : ¬t.val % 16 = 15) :
    (outsAt0 m c t.val t.isLt).2 = step m c t (k0_pay4 (F := Ideal)) := by
  rw [outsAt0_A m c t h0 h1]
  dsimp only
  unfold sout0_A_0
  rw [View.read_writes_eq_canon _ _ _ (fun y => scover0_A_0 (y := y) ..)]
  funext y
  unfold kernelRun0_A
  dsimp only
  sl_unfold_words
  simp (disch := decide) only [View.readAt_eq_ld, Memref.IsWhole.read_unread, read_unread_whole, View.ld_unit_zero (S := S1x512x1024) hz3,
    View.ld_unit_zero (S := S1x512x512) hz3, View.ld_unit_zero (S := S1x512x896) hz3, ↓View.readCov_skip, ↓View.readCov_fill]
  obtain ⟨b0, b1, b2, b3⟩ := blocks m c t (k0_pay4 (F := Ideal))
  exact View.canon_append_of_piecesOf (step m c t (k0_pay4 (F := Ideal))) [_] [_, _, _, _] ⟨b0, b1, b2, b3, trivial⟩ y (tiled y)

/-- At every point but the first the sum goes on. -/
theorem sum_on (c : Dev nD) (t : Fin cfg0.N) (h0 : ¬t.val % 16 = 0) : (outsAt0 m c t.val t.isLt).2 = step m c t (prev m c t) := by
  by_cases h1 : t.val % 16 = 15
  · exact sum_C m c t h0 h1
  · exact sum_B m c t h0 h1

/-- The result, whole. -/
theorem final (c : Dev nD) : (dats m 0 c).arrAt 5 cfg0.N
    = (fun y => Weight.dw (args m c) (y 0) (y 1) : FVec Ideal S1024x2944 .bf16) := by
  refine (dats m 0 c).arrAt_eq_of_covers 5 _ (by decide +kernel) fun t hf y => ?_
  have ht := (flush0_5 t).mp hf
  have hN : cfg0.N = 16 := N_0
  have htl := t.isLt
  blk_simp
  rw [after0_5, out_C m c t (by omega) ht]
  idx_vars y
  refine (Pipeline.eq_sum_fin_of_reset_step_apply_last (fun n h i => (outsAt0 m c n h).2 i) 16
    (fun _ => 0) (fun t i => term m c t (i 0) (i 1))
    (fun t h i => by rw [sum_A m c t h (by omega)]; exact congrArg (· + _) (by idx_vars i; pointwise [k0_pay4]))
    (fun t h i => by rw [sum_on m c t h]; rfl) (le_of_eq hN) t (by omega) (ix2 y0 y1)).trans ?_
  rw [zero_add]
  refine Eq.trans (Fin.sum_points_lanes_congr (A := 4) (L := 2048) 4
    (g := fun b s => (args m c).h b s y0 * Weight.dproj (args m c) b s y1)
    (fun t k ha hl => rfl)) (show Weight.dw (args m c) y0 y1 = _ from congr (congrArg (Weight.dw (args m c)) ?_) ?_) <;>
    (apply Fin.ext; blk_simp [idx t] <;> simp)

end Cert.Kernel2Ideal.Value
-- ==== Proof.WeightClaim.lean ====
/-
  The claims about the projection weight's gradient: the reference's result entry by entry, its frame, and that the
  idealized kernel and the reference leave the same array on every input.
-/
module

public import proofs.«01_k».proof.Proof.WeightPoint
public import proofs.«01_k».proof.Proof.Gen.Reference2Ideal.Run
public import Idealize.ShloMosaic.Lib.Tactic.CleanTypes
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem

namespace Cert.Reference2Ideal.Value

open Cert.Reference2Ideal Cert.Reference2Ideal.Gen

variable (m : (ℓ : Loc nD τ sig) → Buf (Elt Ideal) ℓ)

/-- The reference's arguments on a device. -/
def args (c : Dev nD) : Weight.Args where
  h := fun b s l => m ((c.tc : Thread nD τ).loc main_arg0) (ix3 b s l)
  ret := fun b s l => m ((c.tc : Thread nD τ).loc main_arg1) (ix3 b s l)
  mla := fun b s l => m ((c.tc : Thread nD τ).loc main_arg2) (ix3 b s l)
  mz := fun b s l => m ((c.tc : Thread nD τ).loc main_arg3) (ix3 b s l)
  gla := fun b s l => m ((c.tc : Thread nD τ).loc main_arg4) (ix3 b s l)

set_option maxHeartbeats 4000000 in
/-- The result of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v10) = (fun y => Weight.dw (args m c) (y 0) (y 1) : FVec Ideal S1024x2944 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (run m ρ)
  obtain ⟨h0, hk⟩ := h c
  refine ⟨h0.trans (funext fun y => ?_), hk⟩
  clear h0 hk h
  clean_types
  idx_vars y
  pointwise
  exact Finset.sum_congr rfl fun b _ => Finset.sum_congr rfl fun s _ => mul_comm _ _

end Cert.Reference2Ideal.Value

namespace Cert.WeightClaim

/-- The reference leaves its arguments as they were; it has no semaphores. -/
theorem frame_reference : quiescent_Reference2Ideal := fun m ρ _ =>
  (θ_run _ _ _).mono (fun r h => ⟨fun c => (h c).2, sem_eq_zero_of_no_sems rfl r.2⟩)
    (Cert.Reference2Ideal.Value.run_spec m ρ)

/-- Both runs leave the array of the specification at the kernel's arguments. -/
theorem same_results : algebraic_Kernel2Ideal_Reference2Ideal := fun m ρ m' ρ' _ hag => by
  have e : ∀ c, Cert.Reference2Ideal.Value.args m' c = Cert.Kernel2Ideal.Value.args m c := fun c => by
    obtain ⟨h0, h1, h2, h3, h4⟩ := hag c
    unfold Cert.Reference2Ideal.Value.args
    rw [h0, h1, h2, h3, h4]
    rfl
  refine ⟨fun c y => Weight.dw (Cert.Kernel2Ideal.Value.args m c) (y 0) (y 1),
    (θ_run _ _ _).mono (fun r h c => ?_) (Cert.Kernel2Ideal.Value.run_blocks m ρ),
    (θ_run _ _ _).mono (fun r h c => ?_) (Cert.Reference2Ideal.Value.run_spec m' ρ')⟩
  · obtain ⟨h0, hk⟩ := h c
    exact ⟨h0.trans (Cert.Kernel2Ideal.Value.final m c), hk⟩
  · have hc := h c
    rw [e c] at hc
    exact hc

end Cert.WeightClaim
-- ==== Proof.MixSpec.lean ====
/-
  The output product of a layer, as functions of the arguments' entries: the three branches side by side, the middle one
  gated, times the output weight.
-/
module

public import Idealize.ShloMosaic.PureOps.Ideal
public import Idealize.ShloMosaic.PureOps.Ideal.Laws

@[expose] public section

noncomputable section

open Idealize.ShloMosaic

namespace Cert.Mix

/-- The logistic function. -/
def sig (z : EReal) : EReal := Ideal.div 1 (1 + Ideal.exp (-z))

/-- The gate. -/
def silu (z : EReal) : EReal := z * sig z

/-- What is multiplied by the output weight, entry by entry: sequence, row, column. -/
structure Branches where
  r : Fin 4 → Fin 2048 → Fin 256 → EReal
  o : Fin 4 → Fin 2048 → Fin 512 → EReal
  z : Fin 4 → Fin 2048 → Fin 512 → EReal
  g : Fin 4 → Fin 2048 → Fin 256 → EReal
  w : Fin 1024 → Fin 1024 → EReal

variable (A : Branches) (b : Fin 4) (s : Fin 2048)

/-- The three branches side by side. -/
def mixed (k : Fin 1024) : EReal :=
  if h : k.val < 256 then A.r b s ⟨k.val, h⟩
  else if h : k.val - 256 < 512 then A.o b s ⟨k.val - 256, h⟩ * silu (A.z b s ⟨k.val - 256, h⟩)
  else A.g b s ⟨k.val - 256 - 512, by omega⟩

/-- The product with the output weight. -/
def y (l : Fin 1024) : EReal := ∑ k, mixed A b s k * A.w k l

/-- A sum over 1024 columns, by the three groups. -/
theorem sum_groups {M : Type} [AddCommMonoid M] (f : Fin 1024 → M) :
    ∑ k, f k = (∑ k : Fin 256, f ⟨k.val, by omega⟩) + (∑ k : Fin 512, f ⟨256 + k.val, by omega⟩)
      + ∑ k : Fin 256, f ⟨768 + k.val, by omega⟩ :=
  ((Fin.sum_univ_add (a := 768) (b := 256) f).trans
    (congrArg (· + _) (Fin.sum_univ_add (a := 256) (b := 512) fun k => f (Fin.castAdd 256 k))))

theorem mixed_r (k : Fin 256) : mixed A b s ⟨k.val, by omega⟩ = A.r b s k := by
  unfold mixed; rw [dif_pos k.isLt]

theorem mixed_o (k : Fin 512) : mixed A b s ⟨256 + k.val, by omega⟩ = A.o b s k * silu (A.z b s k) := by
  unfold mixed
  have e : (⟨256 + k.val - 256, by omega⟩ : Fin 512) = k := Fin.ext (by simp)
  rw [dif_neg (by simp), dif_pos (by simp), e]

theorem mixed_g (k : Fin 256) : mixed A b s ⟨768 + k.val, by omega⟩ = A.g b s k := by
  unfold mixed
  rw [dif_neg (by simp only; omega), dif_neg (by simp only; omega)]
  exact congrArg _ (Fin.ext (by simp only; omega))

/-- The product by the three groups. -/
theorem y_groups (l : Fin 1024) : y A b s l
    = (∑ k, A.r b s k * A.w ⟨k.val, by omega⟩ l) + (∑ k, A.o b s k * silu (A.z b s k) * A.w ⟨256 + k.val, by omega⟩ l)
      + ∑ k, A.g b s k * A.w ⟨768 + k.val, by omega⟩ l := by
  unfold y
  rw [sum_groups]
  simp only [mixed_r, mixed_o, mixed_g]

end Cert.Mix
-- ==== Proof.OutSpec.lean ====
/-
  The gradient of the output product and of the gated branches, as functions of the arguments' entries.
-/
module

public import proofs.«01_k».proof.Proof.MixSpec

@[expose] public section

noncomputable section

open Idealize.ShloMosaic

namespace Cert.Out

open Cert.Mix

/-- The arguments: the incoming gradient, the saved product, the gate, the branches and the output weight. -/
structure Args where
  mix : Branches
  dx : Fin 4 → Fin 2048 → Fin 1024 → EReal
  y : Fin 4 → Fin 2048 → Fin 1024 → EReal
  gate : Fin 4 → Fin 1024 → EReal

variable (A : Args) (b : Fin 4) (s : Fin 2048)

/-- The gradient of the product. -/
def dy (l : Fin 1024) : EReal := A.dx b s l * A.gate b l
/-- The gradient of the three branches side by side. -/
def dmixed (k : Fin 1024) : EReal := ∑ l, dy A b s l * A.mix.w k l
/-- The same with the factors in the other order. -/
theorem dmixed_eq (k : Fin 1024) : ∑ l, A.gate b l * A.dx b s l * A.mix.w k l = dmixed A b s k :=
  Finset.sum_congr rfl fun _ _ => congrArg (· * _) (mul_comm _ _)
/-- Its middle part, the gradient of the gated branch. -/
def dm (k : Fin 512) : EReal := dmixed A b s ⟨256 + k.val, by omega⟩
def dr (k : Fin 256) : EReal := dmixed A b s ⟨k.val, by omega⟩
def dg (k : Fin 256) : EReal := dmixed A b s ⟨768 + k.val, by omega⟩
/-- The gradient of the attention's output. -/
def dout (k : Fin 512) : EReal := dm A b s k * silu (A.mix.z b s k)
/-- The gradient of what the gate is taken of. -/
def dz (k : Fin 512) : EReal := dm A b s k * A.mix.o b s k
  * (sig (A.mix.z b s k) * (1 + A.mix.z b s k * (1 - sig (A.mix.z b s k))))
/-- The attention's row sums, by head: pair `p`, half `h`; by row: group `n` of 256, row `l` of the group. -/
def delta (p : Fin 4) (n : Fin 8) (h : Fin 2) (l : Fin 256) : EReal :=
  ∑ k : Fin 64, dout A b ⟨n.val * 256 + l.val, by omega⟩ ⟨128 * p.val + 64 * h.val + k.val, by omega⟩
    * A.mix.o b ⟨n.val * 256 + l.val, by omega⟩ ⟨128 * p.val + 64 * h.val + k.val, by omega⟩
/-- The gradient of the gate. -/
def dgate (l : Fin 1024) : EReal := ∑ s, A.dx b s l * A.y b s l
/-- The gradient of the output weight. -/
def dw (k l : Fin 1024) : EReal := ∑ b, ∑ s, mixed A.mix b s k * dy A b s l

end Cert.Out
-- ==== Proof.OutReads.lean ====
/-
  The output product's gradient kernel: what one grid point reads. Point `t` is block `t % 4` of 512 rows of sequence
  `t / 4`; the weight comes whole.
-/
module

public import proofs.«01_k».proof.Proof.Gen.Kernel3Ideal.Value
public import proofs.«01_k».proof.Proof.OutSpec
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel3Ideal.Value

open Cert.Kernel3Ideal Cert.Kernel3Ideal.Gen

variable (m : (ℓ : Loc nD τ sig) → Buf (Elt Ideal) ℓ)

/-- The sequence of point `t`. -/
abbrev seqOf (t : Fin cfg0.N) : Fin 4 := ⟨t.val / 4, by have := t.isLt; have : cfg0.N = 16 := N_0; omega⟩
/-- Row `r` of point `t`'s block, as a row of its sequence. -/
abbrev rowOf (t : Fin cfg0.N) (r : Fin 512) : Fin 2048 := ⟨t.val % 4 * 512 + r.val, by have := r.isLt; omega⟩

/-- The kernel's arguments on a device. -/
def args (c : Dev nD) : Out.Args where
  mix := {
    r := fun b s k => m ((c : Thread nD τ).loc main_arg3) (ix3 b s k)
    o := fun b s k => m ((c : Thread nD τ).loc main_arg6) (ix3 b s k)
    z := fun b s k => m ((c : Thread nD τ).loc main_arg7) (ix3 b s ⟨512 + k.val, by omega⟩)
    g := fun b s k => m ((c : Thread nD τ).loc main_arg4) (ix3 b s k)
    w := fun k l => m ((c : Thread nD τ).loc main_arg5) (ix2 k l) }
  dx := fun b s l => m ((c : Thread nD τ).loc main_arg0) (ix3 b s l)
  y := fun b s l => m ((c : Thread nD τ).loc main_arg1) (ix3 b s l)
  gate := fun b l => m ((c : Thread nD τ).loc main_arg2) (ix2 b l)

/-- The block of each window at point `t`. -/
theorem idx : ∀ t : Fin cfg0.N,
    win0_0.index t = ![t.val / 4, t.val % 4, 0] ∧ win0_1.index t = ![t.val / 4, t.val % 4, 0] ∧ win0_2.index t = ![t.val / 4, 0, 0]
    ∧ win0_3.index t = ![t.val / 4, t.val % 4, 0] ∧ win0_4.index t = ![t.val / 4, t.val % 4, 0] ∧ win0_5.index t = ![0, 0]
    ∧ win0_6.index t = ![t.val / 4, t.val % 4, 0] ∧ win0_7.index t = ![t.val / 4, t.val % 4, 1] ∧ win0_8.index t = ![t.val / 4, t.val % 4, 0]
    ∧ win0_9.index t = ![t.val / 4, t.val % 4, 0] ∧ win0_10.index t = ![t.val / 4, t.val % 4, 0] ∧ win0_11.index t = ![t.val / 4, 0, t.val % 4, 0, 0]
    ∧ win0_12.index t = ![t.val / 4, t.val % 4, 0] ∧ win0_13.index t = ![0, 0] ∧ win0_14.index t = ![t.val / 4, 0, 0] :=
  (by decide +kernel : ∀ t : Fin grid0.N,
    win0_0.index t = ![t.val / 4, t.val % 4, 0] ∧ win0_1.index t = ![t.val / 4, t.val % 4, 0] ∧ win0_2.index t = ![t.val / 4, 0, 0]
    ∧ win0_3.index t = ![t.val / 4, t.val % 4, 0] ∧ win0_4.index t = ![t.val / 4, t.val % 4, 0] ∧ win0_5.index t = ![0, 0]
    ∧ win0_6.index t = ![t.val / 4, t.val % 4, 0] ∧ win0_7.index t = ![t.val / 4, t.val % 4, 1] ∧ win0_8.index t = ![t.val / 4, t.val % 4, 0]
    ∧ win0_9.index t = ![t.val / 4, t.val % 4, 0] ∧ win0_10.index t = ![t.val / 4, t.val % 4, 0] ∧ win0_11.index t = ![t.val / 4, 0, t.val % 4, 0, 0]
    ∧ win0_12.index t = ![t.val / 4, t.val % 4, 0] ∧ win0_13.index t = ![0, 0] ∧ win0_14.index t = ![t.val / 4, 0, 0])

theorem readDx (c : Dev nD) (t : Fin cfg0.N) (r : Fin 512) (l : Fin 1024) :
    (iblk m c 0 t : Vec Ideal S1x512x1024 .f32) (ix3 0 r l) = (args m c).dx (seqOf t) (rowOf t r) l := by
  unfold args; blk_ext [iblk, V, idx t]
theorem readY (c : Dev nD) (t : Fin cfg0.N) (r : Fin 512) (l : Fin 1024) :
    (iblk m c 1 t : Vec Ideal S1x512x1024 .bf16) (ix3 0 r l) = (args m c).y (seqOf t) (rowOf t r) l := by
  unfold args; blk_ext [iblk, V, idx t]
theorem readGate (c : Dev nD) (t : Fin cfg0.N) (l : Fin 1024) :
    (iblk m c 2 t : Vec Ideal S1x1x1024 .f32) (ix3 0 0 l) = (args m c).gate (seqOf t) l := by
  unfold args; blk_ext! [iblk, V, idx t]
theorem readR (c : Dev nD) (t : Fin cfg0.N) (r : Fin 512) (k : Fin 256) :
    (iblk m c 3 t : Vec Ideal S1x512x256 .bf16) (ix3 0 r k) = (args m c).mix.r (seqOf t) (rowOf t r) k := by
  unfold args; blk_ext [iblk, V, idx t]
theorem readG (c : Dev nD) (t : Fin cfg0.N) (r : Fin 512) (k : Fin 256) :
    (iblk m c 4 t : Vec Ideal S1x512x256 .bf16) (ix3 0 r k) = (args m c).mix.g (seqOf t) (rowOf t r) k := by
  unfold args; blk_ext [iblk, V, idx t]
theorem readW (c : Dev nD) (t : Fin cfg0.N) (k l : Fin 1024) :
    (iblk m c 5 t : Vec Ideal S1024x1024 .bf16) (ix2 k l) = (args m c).mix.w k l := by
  unfold args; blk_ext! [iblk, V, idx t]
theorem readO (c : Dev nD) (t : Fin cfg0.N) (r : Fin 512) (k : Fin 512) :
    (iblk m c 6 t : Vec Ideal S1x512x512 .f32) (ix3 0 r k) = (args m c).mix.o (seqOf t) (rowOf t r) k := by
  unfold args; blk_ext [iblk, V, idx t]
theorem readZ (c : Dev nD) (t : Fin cfg0.N) (r : Fin 512) (k : Fin 512) :
    (iblk m c 7 t : Vec Ideal S1x512x512 .bf16) (ix3 0 r k) = (args m c).mix.z (seqOf t) (rowOf t r) k := by
  unfold args; blk_ext [iblk, V, idx t]

end Cert.Kernel3Ideal.Value
-- ==== Proof.OutRows.lean ====
/-
  The output product's gradient kernel: the row sums it writes, one store for each pair of heads, group of 256 rows and
  half of the pair, are the sums over the 64 columns of the head.
-/
module

public import proofs.«01_k».proof.Proof.OutReads
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel3Ideal.Value

open Cert.Kernel3Ideal Cert.Kernel3Ideal.Gen

/-- The row sums of a block: pair, group of rows, half, row of the group. -/
def rowSums (P : FVec Ideal S512x512 .f32) : Vec Ideal S1x4x2x2x256 .f32 := fun y =>
  ∑ k : Fin 64, P (ix2 ⟨(y 2).val * 256 + (y 4).val, by have := (y 2).isLt; have := (y 4).isLt; change (y 2).val < 2 at *; change (y 4).val < 256 at *; omega⟩
    ⟨128 * (y 1).val + 64 * (y 3).val + k.val, by have := (y 1).isLt; have := (y 3).isLt; change (y 1).val < 4 at *; change (y 3).val < 2 at *; omega⟩)

theorem emb_row (p n h : ℕ) (hp : p < 4) (hn : n < 2) (hh : h < 2)
    (inb : ∀ a, (![0, p, n, h, 0] : Fin 5 → ℕ) a + (![1, 1, 1, 1, 256] : Fin 5 → ℕ) a ≤ S1x4x2x2x256.size a)
    (a b d e : Fin 1) (l : Fin 256) :
    (Rect.unit (s := S1x4x2x2x256) ![0, p, n, h, 0] ![1, 1, 1, 1, 256] inb).emb (ix5 a b d e l)
      = (ix5 0 ⟨p, hp⟩ ⟨n, hn⟩ ⟨h, hh⟩ l : S1x4x2x2x256.Idx) := by
  funext i
  apply Fin.ext
  match i with
  | ⟨0, _⟩ => show 0 + 1 * a.val = 0; omega
  | ⟨1, _⟩ => show p + 1 * b.val = p; omega
  | ⟨2, _⟩ => show n + 1 * d.val = n; omega
  | ⟨3, _⟩ => show h + 1 * e.val = h; omega
  | ⟨4, _⟩ => show 0 + 1 * l.val = l.val; omega

set_option maxHeartbeats 4000000 in
/-- The sixteen stores. -/
theorem row_pieces (O Q : FVec Ideal S512x512 .f32) (P : FVec Ideal S512x512 .f32) (hP : k0_pay30 O Q = P) :
    View.PiecesOf (Val := Elt Ideal) (s := S1x4x2x2x256) (e := .f32) (rowSums P) [
      ⟨Rect.unit ![0, 3, 1, 1, 0] ![1, 1, 1, 1, 256] inb_S1x4x2x2x256_S1x1x1x1x256_0_3_1_1_0, k0_pay8 P⟩,
      ⟨Rect.unit ![0, 3, 1, 0, 0] ![1, 1, 1, 1, 256] inb_S1x4x2x2x256_S1x1x1x1x256_0_3_1_0_0, k0_pay7 P⟩,
      ⟨Rect.unit ![0, 3, 0, 1, 0] ![1, 1, 1, 1, 256] inb_S1x4x2x2x256_S1x1x1x1x256_0_3_0_1_0, k0_pay6 P⟩,
      ⟨Rect.unit ![0, 3, 0, 0, 0] ![1, 1, 1, 1, 256] inb_S1x4x2x2x256_S1x1x1x1x256_0_3_0_0_0, k0_pay5 P⟩,
      ⟨Rect.unit ![0, 2, 1, 1, 0] ![1, 1, 1, 1, 256] inb_S1x4x2x2x256_S1x1x1x1x256_0_2_1_1_0, k0_pay1 (k0_pay53 P)⟩,
      ⟨Rect.unit ![0, 2, 1, 0, 0] ![1, 1, 1, 1, 256] inb_S1x4x2x2x256_S1x1x1x1x256_0_2_1_0_0, k0_pay52 P⟩,
      ⟨Rect.unit ![0, 2, 0, 1, 0] ![1, 1, 1, 1, 256] inb_S1x4x2x2x256_S1x1x1x1x256_0_2_0_1_0, k0_pay51 P⟩,
      ⟨Rect.unit ![0, 2, 0, 0, 0] ![1, 1, 1, 1, 256] inb_S1x4x2x2x256_S1x1x1x1x256_0_2_0_0_0, k0_pay50 P⟩,
      ⟨Rect.unit ![0, 1, 1, 1, 0] ![1, 1, 1, 1, 256] inb_S1x4x2x2x256_S1x1x1x1x256_0_1_1_1_0, k0_pay46 (k0_pay41 P)⟩,
      ⟨Rect.unit ![0, 1, 1, 0, 0] ![1, 1, 1, 1, 256] inb_S1x4x2x2x256_S1x1x1x1x256_0_1_1_0_0, k0_pay45 (k0_pay44 P)⟩,
      ⟨Rect.unit ![0, 1, 0, 1, 0] ![1, 1, 1, 1, 256] inb_S1x4x2x2x256_S1x1x1x1x256_0_1_0_1_0, k0_pay43 P⟩,
      ⟨Rect.unit ![0, 1, 0, 0, 0] ![1, 1, 1, 1, 256] inb_S1x4x2x2x256_S1x1x1x1x256_0_1_0_0_0, k0_pay42 P⟩,
      ⟨Rect.unit ![0, 0, 1, 1, 0] ![1, 1, 1, 1, 256] inb_S1x4x2x2x256_S1x1x1x1x256_0_0_1_1_0, k0_pay38 (k0_pay33 O Q)⟩,
      ⟨Rect.unit ![0, 0, 1, 0, 0] ![1, 1, 1, 1, 256] inb_S1x4x2x2x256_S1x1x1x1x256_0_0_1_0_0, k0_pay37 (k0_pay32 O Q)⟩,
      ⟨Rect.unit ![0, 0, 0, 1, 0] ![1, 1, 1, 1, 256] inb_S1x4x2x2x256_S1x1x1x1x256_0_0_0_1_0, k0_pay36 (k0_pay35 O Q)⟩,
      ⟨Rect.unit ![0, 0, 0, 0, 0] ![1, 1, 1, 1, 256] inb_S1x4x2x2x256_S1x1x1x1x256_0_0_0_0_0, k0_pay34 O Q⟩] := by
  subst hP
  refine ⟨?_, ?_, ?_, ?_, ?_, ?_, ?_, ?_, ?_, ?_, ?_, ?_, ?_, ?_, ?_, ?_, trivial⟩ <;>
    (intro x
     idx_vars x
     rw [emb_row _ _ _ (by decide) (by decide) (by decide)]
     unfold rowSums
     pointwise [k0_pay1, k0_pay2, k0_pay3, k0_pay4, k0_pay5, k0_pay6, k0_pay7, k0_pay8, k0_pay31, k0_pay32, k0_pay33, k0_pay34,
       k0_pay35, k0_pay36, k0_pay37, k0_pay38, k0_pay39, k0_pay40, k0_pay41, k0_pay42, k0_pay43, k0_pay44, k0_pay45, k0_pay46,
       k0_pay47, k0_pay48, k0_pay49, k0_pay50, k0_pay51, k0_pay52, k0_pay53])
  all_goals exact Finset.sum_congr rfl fun k _ => congrArg _ (congrArg (ix2 _) (Fin.ext (by simp only; omega)))

end Cert.Kernel3Ideal.Value
-- ==== Proof.OutPoint.lean ====
/-
  The output product's gradient kernel: what one grid point leaves in its blocks, and what it adds to the two running
  sums, by the three kinds of point: the first of all, the first of a sequence, the others, the last of which writes the
  weight's gradient out.
-/
module

public import proofs.«01_k».proof.Proof.OutRows
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel3Ideal.Value

open Cert.Kernel3Ideal Cert.Kernel3Ideal.Gen

variable (m : (ℓ : Loc nD τ sig) → Buf (Elt Ideal) ℓ)

theorem hz2 : (![0, 0] : Fin 2 → Nat) = fun _ => 0 := funext fun a => by fin_cases a <;> rfl

/-- The gradient of the product, by rows of the point's block. -/
def dyAt (c : Dev nD) (t : Fin cfg0.N) : FVec Ideal S512x1024 .bf16 := k0_pay13 (iblk m c 0 t) (iblk m c 2 t)
/-- The three groups of the weight's rows. -/
def wr (c : Dev nD) (t : Fin cfg0.N) : Vec Ideal S256x1024 .bf16 :=
  View.ld (iblk m c 5 t : Vec Ideal S1024x1024 .bf16) (Rect.unit ![0, 0] ![256, 1024] inb_S1024x1024_S256x1024_0_0)
def wm (c : Dev nD) (t : Fin cfg0.N) : Vec Ideal S512x1024 .bf16 :=
  View.ld (iblk m c 5 t : Vec Ideal S1024x1024 .bf16) (Rect.unit ![256, 0] ![512, 1024] inb_S1024x1024_S512x1024_256_0)
def wg (c : Dev nD) (t : Fin cfg0.N) : Vec Ideal S256x1024 .bf16 :=
  View.ld (iblk m c 5 t : Vec Ideal S1024x1024 .bf16) (Rect.unit ![768, 0] ![256, 1024] inb_S1024x1024_S256x1024_768_0)

/-- The five blocks a point leaves. -/
def drAt (c : Dev nD) (t : Fin cfg0.N) : Vec Ideal S1x512x256 .f32 := k0_pay15 (k0_pay14 (iblk m c 0 t) (iblk m c 2 t) (wr m c t))
def doutAt (c : Dev nD) (t : Fin cfg0.N) : FVec Ideal S512x512 .f32 := k0_pay25 (dyAt m c t) (k0_pay18 (iblk m c 7 t)) (wm m c t)
def dzAt (c : Dev nD) (t : Fin cfg0.N) : Vec Ideal S1x512x512 .bf16 :=
  k0_pay28 (k0_pay18 (iblk m c 7 t)) (k0_pay26 (dyAt m c t) (k0_pay17 (iblk m c 6 t)) (wm m c t)) (k0_pay27 (k0_pay18 (iblk m c 7 t)))
def dgAt (c : Dev nD) (t : Fin cfg0.N) : Vec Ideal S1x512x256 .f32 := k0_pay16 (dyAt m c t) (wg m c t)
def deltaAt (c : Dev nD) (t : Fin cfg0.N) : Vec Ideal S1x4x2x2x256 .f32 := rowSums (k0_pay30 (k0_pay17 (iblk m c 6 t)) (doutAt m c t))
/-- The gate's running sum after a point, from what was there before. -/
def gateStep (c : Dev nD) (t : Fin cfg0.N) (acc : Vec Ideal S1x1x1024 .f32) : Vec Ideal S1x1x1024 .f32 := k0_pay12 (iblk m c 0 t) acc (iblk m c 1 t)

theorem dyAt_apply (c : Dev nD) (t : Fin cfg0.N) (r : Fin 512) (l : Fin 1024) :
    dyAt m c t (ix2 r l) = Out.dy (args m c) (seqOf t) (rowOf t r) l := by
  pointwise [dyAt, k0_pay13, k0_pay11]
  rw [readDx, readGate]; rfl

theorem drAt_apply (c : Dev nD) (t : Fin cfg0.N) (r : Fin 512) (k : Fin 256) :
    drAt m c t (ix3 0 r k) = Out.dr (args m c) (seqOf t) (rowOf t r) k := by
  have h := dyAt_apply m c t r
  unfold dyAt at h
  pointwise [drAt, k0_pay15, k0_pay14, wr]
  simp only [h, readW]
  rfl

theorem dgAt_apply (c : Dev nD) (t : Fin cfg0.N) (r : Fin 512) (k : Fin 256) :
    dgAt m c t (ix3 0 r k) = Out.dg (args m c) (seqOf t) (rowOf t r) k := by
  pointwise [dgAt, k0_pay16, wg]
  simp only [dyAt_apply, readW]
  rfl

theorem dmAt_apply (c : Dev nD) (t : Fin cfg0.N) (r : Fin 512) (k : Fin 512) :
    k0_pay24 (dyAt m c t) (wm m c t) (ix2 r k) = Out.dm (args m c) (seqOf t) (rowOf t r) k := by
  pointwise [k0_pay24, wm]
  simp only [dyAt_apply, readW]
  rfl

theorem doutAt_apply (c : Dev nD) (t : Fin cfg0.N) (r : Fin 512) (k : Fin 512) :
    doutAt m c t (ix2 r k) = Out.dout (args m c) (seqOf t) (rowOf t r) k := by
  have h := dmAt_apply m c t r k
  have e : doutAt m c t (ix2 r k) = k0_pay24 (dyAt m c t) (wm m c t) (ix2 r k) * Mix.silu ((args m c).mix.z (seqOf t) (rowOf t r) k) := by
    generalize hd : k0_pay24 (dyAt m c t) (wm m c t) = d
    unfold doutAt k0_pay25
    rw [hd]
    pointwise [k0_pay18]
    simp only [readZ, Mix.silu, Mix.sig, zero_sub]
  rw [e, h]; rfl

theorem dzAt_apply (c : Dev nD) (t : Fin cfg0.N) (r : Fin 512) (k : Fin 512) :
    dzAt m c t (ix3 0 r k) = Out.dz (args m c) (seqOf t) (rowOf t r) k := by
  have h := dmAt_apply m c t r k
  have e : dzAt m c t (ix3 0 r k) = k0_pay24 (dyAt m c t) (wm m c t) (ix2 r k) * (args m c).mix.o (seqOf t) (rowOf t r) k
      * (Mix.sig ((args m c).mix.z (seqOf t) (rowOf t r) k) * (1 + (args m c).mix.z (seqOf t) (rowOf t r) k * (1 - Mix.sig ((args m c).mix.z (seqOf t) (rowOf t r) k)))) := by
    generalize hd : k0_pay24 (dyAt m c t) (wm m c t) = d
    unfold dzAt k0_pay26
    rw [hd]
    pointwise [k0_pay28, k0_pay27, k0_pay18, k0_pay17]
    simp only [readZ, readO, Mix.sig, zero_sub]
  rw [e, h]; rfl

theorem gateStep_apply (c : Dev nD) (t : Fin cfg0.N) (acc : Vec Ideal S1x1x1024 .f32) (l : Fin 1024) :
    gateStep m c t acc (ix3 0 0 l) = acc (ix3 0 0 l) + ∑ r, (args m c).dx (seqOf t) (rowOf t r) l * (args m c).y (seqOf t) (rowOf t r) l := by
  pointwise [gateStep, k0_pay12, k0_pay11]
  simp only [readDx, readY]

/-- What the point before `t` left. -/
abbrev prev (c : Dev nD) (t : Fin cfg0.N) := outsAt0 m c (t.val - 1) (Nat.lt_of_le_of_lt (Nat.sub_le _ _) t.isLt)

set_option maxHeartbeats 2000000 in
/-- The blocks that do not depend on the points before. -/
theorem outs (c : Dev nD) (t : Fin cfg0.N) : (outsAt0 m c t.val t.isLt).1 = drAt m c t
    ∧ (outsAt0 m c t.val t.isLt).2.1 = k0_pay29 (doutAt m c t) ∧ (outsAt0 m c t.val t.isLt).2.2.1 = dzAt m c t
    ∧ (outsAt0 m c t.val t.isLt).2.2.2.2.1 = dgAt m c t := by
  by_cases h1 : t.val % 4 = 0
  · by_cases h0 : t.val % 16 = 0
    · rw [outsAt0_A m c t h0 h1 (by omega)]
      frame_out
      exact ⟨rfl, rfl, rfl, rfl⟩
    · rw [outsAt0_C m c t h0 h1 (by omega)]
      frame_out
      exact ⟨rfl, rfl, rfl, rfl⟩
  · by_cases h2 : t.val % 16 = 15
    · rw [outsAt0_D m c t (by omega) h1 h2]
      frame_out
      exact ⟨rfl, rfl, rfl, rfl⟩
    · rw [outsAt0_B m c t (by omega) h1 h2]
      frame_out
      exact ⟨rfl, rfl, rfl, rfl⟩

set_option maxHeartbeats 2000000 in
theorem out_rows (c : Dev nD) (t : Fin cfg0.N) : (outsAt0 m c t.val t.isLt).2.2.2.1 = deltaAt m c t := by
  have h := row_pieces (k0_pay17 (iblk m c 6 t)) (doutAt m c t) _ rfl
  funext y
  by_cases h1 : t.val % 4 = 0
  · by_cases h0 : t.val % 16 = 0
    · rw [outsAt0_A m c t h0 h1 (by omega)]
      frame_out
      exact View.canon_apply_of_pieces (deltaAt m c t) _ h.mem y (View.cover_of_tiledBy _ ![1, 1, 1, 1, 256] (by sl_kernel_rfl) y)
    · rw [outsAt0_C m c t h0 h1 (by omega)]
      frame_out
      exact View.canon_apply_of_pieces (deltaAt m c t) _ h.mem y (View.cover_of_tiledBy _ ![1, 1, 1, 1, 256] (by sl_kernel_rfl) y)
  · by_cases h2 : t.val % 16 = 15
    · rw [outsAt0_D m c t (by omega) h1 h2]
      frame_out
      exact View.canon_apply_of_pieces (deltaAt m c t) _ h.mem y (View.cover_of_tiledBy _ ![1, 1, 1, 1, 256] (by sl_kernel_rfl) y)
    · rw [outsAt0_B m c t (by omega) h1 h2]
      frame_out
      exact View.canon_apply_of_pieces (deltaAt m c t) _ h.mem y (View.cover_of_tiledBy _ ![1, 1, 1, 1, 256] (by sl_kernel_rfl) y)

/-- The gate's sum starts from zero at the first block of a sequence and goes on at the others. -/
theorem gate_first (c : Dev nD) (t : Fin cfg0.N) (h1 : t.val % 4 = 0) :
    (outsAt0 m c t.val t.isLt).2.2.2.2.2.2.1 = gateStep m c t (k0_pay10 (F := Ideal)) := by
  by_cases h0 : t.val % 16 = 0
  · rw [outsAt0_A m c t h0 h1 (by omega)]; frame_out; rfl
  · rw [outsAt0_C m c t h0 h1 (by omega)]; frame_out; rfl

theorem gate_on (c : Dev nD) (t : Fin cfg0.N) (h1 : ¬t.val % 4 = 0) :
    (outsAt0 m c t.val t.isLt).2.2.2.2.2.2.1 = gateStep m c t (prev m c t).2.2.2.2.2.2.1 := by
  by_cases h2 : t.val % 16 = 15
  · rw [outsAt0_D m c t (by omega) h1 h2]; frame_out; rfl
  · rw [outsAt0_B m c t (by omega) h1 h2]; frame_out; rfl

end Cert.Kernel3Ideal.Value
-- ==== Proof.OutArrays.lean ====
/-
  The output product's gradient kernel: the other six results, each array whole.
-/
module

public import proofs.«01_k».proof.Proof.OutPoint
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel3Ideal.Value

open Cert.Kernel3Ideal Cert.Kernel3Ideal.Gen

variable (m : (ℓ : Loc nD τ sig) → Buf (Elt Ideal) ℓ)

theorem dout_block (c : Dev nD) (t : Fin cfg0.N) (r : Fin 512) (k : Fin 512) :
    k0_pay29 (doutAt m c t) (ix3 0 r k) = Out.dout (args m c) (seqOf t) (rowOf t r) k := by
  rw [← doutAt_apply]
  pointwise [k0_pay29]

/-- The row sums of a point's block, as rows of its sequence. -/
theorem delta_block (c : Dev nD) (t : Fin cfg0.N) (p : Fin 4) (n : Fin 2) (h : Fin 2) (l : Fin 256) :
    deltaAt m c t (ix5 0 p n h l) = Out.delta (args m c) (seqOf t) p ⟨t.val % 4 * 2 + n.val, by omega⟩ h l := by
  unfold deltaAt rowSums Out.delta
  refine Finset.sum_congr rfl fun k _ => ?_
  have e : rowOf t ⟨n.val * 256 + l.val, by omega⟩ = ⟨(t.val % 4 * 2 + n.val) * 256 + l.val, by omega⟩ := Fin.ext (by simp only; omega)
  have h1 := doutAt_apply m c t ⟨n.val * 256 + l.val, by omega⟩ ⟨128 * p.val + 64 * h.val + k.val, by omega⟩
  have h2 := readO m c t ⟨n.val * 256 + l.val, by omega⟩ ⟨128 * p.val + 64 * h.val + k.val, by omega⟩
  rw [e] at h1 h2
  rw [← h1, ← h2]
  pointwise [k0_pay30, k0_pay17]

theorem final_dr (c : Dev nD) : (dats m 0 c).arrAt 8 cfg0.N
    = (fun y => Out.dr (args m c) (y 0) (y 1) (y 2) : FVec Ideal S4x2048x256 .f32) := by
  refine (dats m 0 c).arrAt_eq_of_covers 8 _ (by decide +kernel) fun t hf y => ?_
  blk_simp
  rw [after0_8, (outs m c t).1]
  idx_vars y
  obtain rfl : y0 = 0 := Subsingleton.elim _ _
  refine (drAt_apply m c t y1 y2).trans (congr (congr (congrArg (Out.dr (args m c)) ?_) ?_) ?_) <;>
    (apply Fin.ext; blk_simp [idx t] <;> simp)

theorem final_dout (c : Dev nD) : (dats m 0 c).arrAt 9 cfg0.N
    = (fun y => Out.dout (args m c) (y 0) (y 1) (y 2) : FVec Ideal S4x2048x512 .bf16) := by
  refine (dats m 0 c).arrAt_eq_of_covers 9 _ (by decide +kernel) fun t hf y => ?_
  blk_simp
  rw [after0_9, (outs m c t).2.1]
  idx_vars y
  obtain rfl : y0 = 0 := Subsingleton.elim _ _
  refine (dout_block m c t y1 y2).trans (congr (congr (congrArg (Out.dout (args m c)) ?_) ?_) ?_) <;>
    (apply Fin.ext; blk_simp [idx t] <;> simp)

theorem final_dz (c : Dev nD) : (dats m 0 c).arrAt 10 cfg0.N
    = (fun y => Out.dz (args m c) (y 0) (y 1) (y 2) : FVec Ideal S4x2048x512 .bf16) := by
  refine (dats m 0 c).arrAt_eq_of_covers 10 _ (by decide +kernel) fun t hf y => ?_
  blk_simp
  rw [after0_10, (outs m c t).2.2.1]
  idx_vars y
  obtain rfl : y0 = 0 := Subsingleton.elim _ _
  refine (dzAt_apply m c t y1 y2).trans (congr (congr (congrArg (Out.dz (args m c)) ?_) ?_) ?_) <;>
    (apply Fin.ext; blk_simp [idx t] <;> simp)

theorem final_dg (c : Dev nD) : (dats m 0 c).arrAt 12 cfg0.N
    = (fun y => Out.dg (args m c) (y 0) (y 1) (y 2) : FVec Ideal S4x2048x256 .f32) := by
  refine (dats m 0 c).arrAt_eq_of_covers 12 _ (by decide +kernel) fun t hf y => ?_
  blk_simp
  rw [after0_12, (outs m c t).2.2.2]
  idx_vars y
  obtain rfl : y0 = 0 := Subsingleton.elim _ _
  refine (dgAt_apply m c t y1 y2).trans (congr (congr (congrArg (Out.dg (args m c)) ?_) ?_) ?_) <;>
    (apply Fin.ext; blk_simp [idx t] <;> simp)

theorem final_delta (c : Dev nD) : (dats m 0 c).arrAt 11 cfg0.N
    = (fun y => Out.delta (args m c) (y 0) (y 1) (y 2) (y 3) (y 4) : FVec Ideal S4x4x8x2x256 .f32) := by
  refine (dats m 0 c).arrAt_eq_of_covers 11 _ (by decide +kernel) fun t hf y => ?_
  blk_simp
  rw [after0_11, out_rows]
  idx_vars y
  obtain rfl : y0 = 0 := Subsingleton.elim _ _
  refine (delta_block m c t y1 y2 y3 y4).trans (congr (congr (congr (congr (congrArg (Out.delta (args m c)) ?_) ?_) ?_) ?_) ?_) <;>
    (apply Fin.ext; blk_simp [idx t] <;> simp)

theorem final_dgate (c : Dev nD) : (dats m 0 c).arrAt 14 cfg0.N
    = (fun y => Out.dgate (args m c) (y 0) (y 2) : FVec Ideal S4x1x1024 .f32) := by
  refine (dats m 0 c).arrAt_eq_of_covers 14 _ (by decide +kernel) fun t hf y => ?_
  have ht := (flush0_14 t).mp hf
  blk_simp
  rw [after0_14]
  idx_vars y
  obtain ⟨rfl, rfl⟩ : y0 = 0 ∧ y1 = 0 := ⟨Subsingleton.elim _ _, Subsingleton.elim _ _⟩
  refine (Pipeline.eq_sum_fin_of_reset_step_apply_of_flush (fun n h l => (outsAt0 m c n h).2.2.2.2.2.2.1 (ix3 0 0 l)) 4
    (fun _ => 0) (fun t l => ∑ r, (args m c).dx (seqOf t) (rowOf t r) l * (args m c).y (seqOf t) (rowOf t r) l)
    (fun t h l => by rw [gate_first m c t h, gateStep_apply]; pointwise [k0_pay10])
    (fun t h l => by rw [gate_on m c t h]; exact gateStep_apply m c t _ l) t ht y2).trans ?_
  rw [zero_add]
  refine (Fin.sum_mul_add_congr (f := fun s => (args m c).dx (seqOf t) s y2 * (args m c).y (seqOf t) s y2) fun s k hl => ?_).trans
    (show Out.dgate (args m c) (seqOf t) y2 = _ from congr (congrArg (Out.dgate (args m c)) ?_) ?_)
  · have hs := s.isLt
    have e1 : seqOf ⟨4 * (t.val / 4) + s.val, Pipeline.run_point_lt_of_flush t ht s⟩ = seqOf t := Fin.ext (by simp only; omega)
    have e2 : rowOf ⟨4 * (t.val / 4) + s.val, Pipeline.run_point_lt_of_flush t ht s⟩ k = ⟨s.val * 512 + k.val, hl⟩ := Fin.ext (by simp only; omega)
    rw [e1, e2]
  all_goals (apply Fin.ext; blk_simp [idx t] <;> simp)

end Cert.Kernel3Ideal.Value
-- ==== Proof.OutSums.lean ====
/-
  The output weight's gradient: the running sum in the scratch array, whose three groups of rows are added to one after
  the other, from zero at the first point to the last point, which writes it out.
-/
module

public import proofs.«01_k».proof.Proof.OutPoint
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel3Ideal.Value

open Cert.Kernel3Ideal Cert.Kernel3Ideal.Gen

variable (m : (ℓ : Loc nD τ sig) → Buf (Elt Ideal) ℓ)

/-- What point `t` adds. -/
def term (c : Dev nD) (t : Fin cfg0.N) (k l : Fin 1024) : EReal :=
  ∑ r, Mix.mixed (args m c).mix (seqOf t) (rowOf t r) k * Out.dy (args m c) (seqOf t) (rowOf t r) l

/-- The running sum after point `t`, from what was there before. -/
def step (c : Dev nD) (t : Fin cfg0.N) (acc : Vec Ideal S1024x1024 .f32) : Vec Ideal S1024x1024 .f32 :=
  fun y => acc y + term m c t (y 0) (y 1)

/-- The three groups of rows, each the old group plus its product, are blocks of `step`. -/
theorem blocks (c : Dev nD) (t : Fin cfg0.N) (acc : Vec Ideal S1024x1024 .f32) :
    View.PiecesOf (Val := Elt Ideal) (s := S1024x1024) (e := .f32) (step m c t acc) [
      ⟨Rect.unit ![768, 0] ![256, 1024] inb_S1024x1024_S256x1024_768_0,
        k0_pay22 (dyAt m c t) (View.ld acc (Rect.unit ![768, 0] ![256, 1024] inb_S1024x1024_S256x1024_768_0)) (iblk m c 4 t)⟩,
      ⟨Rect.unit ![256, 0] ![512, 1024] inb_S1024x1024_S512x1024_256_0,
        k0_pay21 (dyAt m c t) (k0_pay17 (iblk m c 6 t)) (k0_pay18 (iblk m c 7 t))
          (View.ld acc (Rect.unit ![256, 0] ![512, 1024] inb_S1024x1024_S512x1024_256_0)) (k0_pay20 (iblk m c 7 t))⟩,
      ⟨Rect.unit ![0, 0] ![256, 1024] inb_S1024x1024_S256x1024_0_0,
        k0_pay19 (dyAt m c t) (View.ld acc (Rect.unit ![0, 0] ![256, 1024] inb_S1024x1024_S256x1024_0_0)) (iblk m c 3 t)⟩] := by
  have e : ∀ (o w : ℕ) (inb : ∀ a, (![o, 0] : Fin 2 → ℕ) a + (![w, 1024] : Fin 2 → ℕ) a ≤ S1024x1024.size a) (a : Fin w) (b : Fin 1024) (ha : o + a.val < 1024),
      (Rect.unit (s := S1024x1024) ![o, 0] ![w, 1024] inb).emb (ix2 a b) = (ix2 ⟨o + a.val, ha⟩ b : S1024x1024.Idx) := by
    intro o w inb a b ha
    funext i
    apply Fin.ext
    match i with
    | ⟨0, _⟩ => show o + 1 * a.val = o + a.val; omega
    | ⟨1, _⟩ => show 0 + 1 * b.val = b.val; omega
  refine ⟨fun x => ?_, fun x => ?_, fun x => ?_, trivial⟩
  · idx_vars x
    rw [e _ _ _ _ _ (by omega)]
    pointwise [k0_pay22]
    simp only [step, term, readG, dyAt_apply]
    exact congrArg (_ + ·) (Finset.sum_congr rfl fun r _ => congrArg (· * _) (Mix.mixed_g _ _ _ _).symm)
  · idx_vars x
    rw [e _ _ _ _ _ (by omega)]
    pointwise [k0_pay21, k0_pay17, k0_pay18, k0_pay20]
    simp only [step, term, readO, readZ, dyAt_apply, zero_sub]
    exact congrArg (_ + ·) (Finset.sum_congr rfl fun r _ => congrArg (· * _) (Mix.mixed_o _ _ _ _).symm)
  · idx_vars x
    rw [e _ _ _ _ _ (by omega)]
    pointwise [k0_pay19]
    simp only [step, term, readR, dyAt_apply]
    exact congrArg₂ (· + ·) (by simp) (Finset.sum_congr rfl fun r _ => congrArg (· * _) ((congrArg _ (Fin.ext (by simp))).trans (Mix.mixed_r _ _ _ _)).symm)

/-- The rows the three stores cover. -/
theorem covered (y : S1024x1024.Idx) {w0 w1 w2} :
    ∃ p ∈ ([⟨Rect.unit ![768, 0] ![256, 1024] inb_S1024x1024_S256x1024_768_0, w2⟩, ⟨Rect.unit ![256, 0] ![512, 1024] inb_S1024x1024_S512x1024_256_0, w1⟩,
      ⟨Rect.unit ![0, 0] ![256, 1024] inb_S1024x1024_S256x1024_0_0, w0⟩]
        : List (View.Piece (Elt Ideal) S1024x1024 .f32)), y ∈ p.1.set :=
  View.cover_of_tiledBy _ ![256, 1024] (by sl_kernel_rfl) y

set_option maxHeartbeats 2000000 in
theorem sum_A (c : Dev nD) (t : Fin cfg0.N) (h0 : t.val % 16 = 0) :
    (outsAt0 m c t.val t.isLt).2.2.2.2.2.2.2 = step m c t (k0_pay9 (F := Ideal)) := by
  rw [outsAt0_A m c t h0 (by omega) (by omega)]
  funext y
  frame_out
  simp (disch := decide) only [↓View.readCov_skip, ↓View.readCov_fill]
  exact View.canon_append_of_piecesOf (step m c t (k0_pay9 (F := Ideal))) [_] [_, _, _] (blocks m c t _) y (covered y)

set_option maxHeartbeats 2000000 in
/-- At every point but the first the sum goes on. -/
theorem sum_on (c : Dev nD) (t : Fin cfg0.N) (h0 : ¬t.val % 16 = 0) :
    (outsAt0 m c t.val t.isLt).2.2.2.2.2.2.2 = step m c t (prev m c t).2.2.2.2.2.2.2 := by
  have hb := blocks m c t (prev m c t).2.2.2.2.2.2.2
  funext y
  by_cases h1 : t.val % 4 = 0
  · rw [outsAt0_C m c t h0 h1 (by omega)]
    frame_out
    simp only [Memref.IsWhole.read_unread, read_unread_whole]
    exact View.canon_apply_of_pieces (step m c t (prev m c t).2.2.2.2.2.2.2) _ hb.mem y (covered y)
  · by_cases h2 : t.val % 16 = 15
    · rw [outsAt0_D m c t h0 h1 h2]
      frame_out
      simp only [Memref.IsWhole.read_unread, read_unread_whole]
      exact View.canon_apply_of_pieces (step m c t (prev m c t).2.2.2.2.2.2.2) _ hb.mem y (covered y)
    · rw [outsAt0_B m c t h0 h1 h2]
      frame_out
      simp only [Memref.IsWhole.read_unread, read_unread_whole]
      exact View.canon_apply_of_pieces (step m c t (prev m c t).2.2.2.2.2.2.2) _ hb.mem y (covered y)

set_option maxHeartbeats 2000000 in
/-- The last point writes the sum out. -/
theorem out_last (c : Dev nD) (t : Fin cfg0.N) (h2 : t.val % 16 = 15) (k l : Fin 1024) :
    (outsAt0 m c t.val t.isLt).2.2.2.2.2.1 (ix2 k l) = (outsAt0 m c t.val t.isLt).2.2.2.2.2.2.2 (ix2 k l) := by
  rw [outsAt0_D m c t (by omega) (by omega) h2]
  frame_out
  rw [View.readCov_eq_canon']
  pointwise [k0_pay23]

theorem final_dw (c : Dev nD) : (dats m 0 c).arrAt 13 cfg0.N
    = (fun y => Out.dw (args m c) (y 0) (y 1) : FVec Ideal S1024x1024 .bf16) := by
  refine (dats m 0 c).arrAt_eq_of_covers 13 _ (by decide +kernel) fun t hf y => ?_
  have ht := (flush0_13 t).mp hf
  have hN : cfg0.N = 16 := N_0
  have htl := t.isLt
  blk_simp
  rw [after0_13]
  idx_vars y
  refine (out_last m c t ht y0 y1).trans ?_
  refine (Pipeline.eq_sum_fin_of_reset_step_apply_last (fun n h i => (outsAt0 m c n h).2.2.2.2.2.2.2 i) 16
    (fun _ => 0) (fun t i => term m c t (i 0) (i 1))
    (fun t h i => by rw [sum_A m c t h]; exact congrArg (· + _) (by idx_vars i; pointwise [k0_pay9]))
    (fun t h i => by rw [sum_on m c t h]; rfl) (le_of_eq hN) t (by omega) (ix2 y0 y1)).trans ?_
  rw [zero_add]
  refine Eq.trans (Fin.sum_points_lanes_congr (A := 4) (L := 2048) 4
    (g := fun b s => Mix.mixed (args m c).mix b s y0 * Out.dy (args m c) b s y1)
    (fun t k ha hl => rfl)) (show Out.dw (args m c) y0 y1 = _ from congr (congrArg (Out.dw (args m c)) ?_) ?_) <;>
    (apply Fin.ext; blk_simp [idx t] <;> simp)

end Cert.Kernel3Ideal.Value
-- ==== Proof.OutReal.lean ====
/-
  The derivative of the gate, written two ways, agrees on the extended reals where the other factor is finite.
-/
module

public import proofs.«01_k».proof.Proof.OutSpec

@[expose] public section

noncomputable section

open Idealize.ShloMosaic

namespace Cert.Out

open Cert.Mix

/-- A number that is neither infinity. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ k, IsReal (f k)) : IsReal (∑ k, f k) := by
  refine Finset.sum_induction f IsReal ?_ ⟨0, rfl⟩ fun k _ => h k
  rintro _ _ ⟨a, rfl⟩ ⟨b, rfl⟩
  exact ⟨a + b, (EReal.coe_add a b).symm⟩

theorem isReal_of_abs_lt {x : EReal} (h : max x (-x) < ⊤) : IsReal x := by
  induction x with
  | bot => simp at h
  | top => simp at h
  | coe r => exact ⟨r, rfl⟩

theorem sig_top : sig ⊤ = 1 := by simp [sig, Ideal.div]
theorem sig_bot : sig ⊥ = 0 := by
  have h : (1 : EReal) + ⊤ = ⊤ := by rw [← EReal.coe_one, EReal.coe_add_top]
  simp [sig, Ideal.div, h]
theorem sig_coe (r : ℝ) : ∃ s : ℝ, sig r = s := by
  have h : (1 + Real.exp (-r) : ℝ) ≠ 0 := by positivity
  refine ⟨1 / (1 + Real.exp (-r)), ?_⟩
  unfold sig
  rw [← EReal.coe_neg, Ideal.exp_coe, ← EReal.coe_one, ← EReal.coe_add, Ideal.div_coe h, ← EReal.coe_mul, one_mul]

/-- The derivative of `z * sig z` times a finite factor: by the product rule on the left, collected on the right. -/
theorem gate_derivative {c : EReal} (hc : IsReal c) (z : EReal) :
    c * sig z + z * c * (sig z * (1 - sig z)) = c * (sig z * (1 + z * (1 - sig z))) := by
  obtain ⟨a, rfl⟩ := hc
  induction z with
  | bot => simp [sig_bot]
  | top =>
    have h : (1 : EReal) - 1 = 0 := by rw [← EReal.coe_one, ← EReal.coe_sub]; simp
    simp [sig_top, h]
  | coe r =>
    obtain ⟨s, hs⟩ := sig_coe r
    rw [hs, ← EReal.coe_one]
    norm_cast
    ring

/-- With finite factors the gradient of the gated branch is finite. -/
theorem dm_isReal (A : Args) (hx : ∀ b s l, IsReal (A.dx b s l)) (hg : ∀ b l, IsReal (A.gate b l)) (hw : ∀ k l, IsReal (A.mix.w k l))
    (b : Fin 4) (s : Fin 2048) (k : Fin 512) : IsReal (dm A b s k) :=
  IsReal.sum fun l => ((hx b s l).mul (hg b l)).mul (hw _ l)

end Cert.Out
-- ==== Proof.OutFinite.lean ====
/-
  What the precondition of the output product's gradient says: the entries of four arguments are finite.
-/
module

public import proofs.«01_k».proof.Proof.OutReal
public import proofs.«01_k».proof.Proof.OutReads
public import proofs.«01_k».proof.Defs
public import Idealize.ShloMosaic.Lib.ReduceAll
public import Idealize.ShloMosaic.Lib.Pointwise
public import Idealize.ShloMosaic.Lib.Decide

@[expose] public section

set_option maxRecDepth 16384

noncomputable section

open Idealize.ShloMosaic Idealize.ShloMosaic.TcCoe Idealize.SL.Sem

namespace Cert.Pre_finite

instance facts : Facts where
  bcast_S_S4x2048x1024 := by decide
  reducesTo_S4x2048x1024_S_d0_1_2 := by decide
  h_S_ := by decide
  bcast_S_S4x1024 := by decide
  reducesTo_S4x1024_S_d0_1 := by decide
  bcast_S_S1024x1024 := by decide
  reducesTo_S1024x1024_S_d0_1 := by decide
  bcast_S_S4x2048x512 := by decide
  reducesTo_S4x2048x512_S_d0_1_2 := by decide

instance : Subsingleton S_.Idx := ⟨fun a b => funext fun i => i.elim0⟩

/-- One conjunct of the precondition, at one entry. -/
theorem entry {s : Shape} {axes : List (Fin s.rank)} (x : FVec Ideal s .f32) (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) h hu j = 1#1)
    (i : s.Idx) : Out.IsReal (x i) := by
  have h1 := Host.reduce_andi_all _ _ h hu j e i
  apply Out.isReal_of_abs_lt
  have htop : Ideal.ofBits .f32 0x7F800000#32 = ⊤ := by simp [Ideal.ofBits, Ideal.ieee]
  have h2 : Ideal.cmp .olt (max (x i) (-x i)) (Ideal.ofBits .f32 0x7F800000#32) = 1#1 := h1
  rw [htop] at h2
  unfold Ideal.cmp at h2
  by_contra hn
  simp [hn] at h2

theorem andi_one {a b : IVec S_ 1} {j : S_.Idx} (h : andi a b j = 1#1) : a j = 1#1 ∧ b j = 1#1 := by
  have h' : a j &&& b j = 1#1 := h
  generalize a j = p, b j = q at h'
  revert p q
  decide

end Cert.Pre_finite

namespace Cert.Kernel3Ideal.Value

open Cert.Kernel3Ideal Cert.Kernel3Ideal.Gen

variable (m : (ℓ : Loc nD τ sig) → Buf (Elt Ideal) ℓ)

/-- Under the precondition the incoming gradient, the gate, the weight and the attention's output are finite. -/
theorem finite_args (h : Pre_Kernel3Ideal_finite m) (c : Dev nD) :
    (∀ b s l, Out.IsReal ((args m c).dx b s l)) ∧ (∀ b l, Out.IsReal ((args m c).gate b l))
    ∧ (∀ k l, Out.IsReal ((args m c).mix.w k l)) ∧ (∀ b s k, Out.IsReal ((args m c).mix.o b s k)) := by
  have e := congrFun (h c) (fun i => i.elim0)
  dsimp only [Pre_finite.fn, Pre_finite.fn_part1] at e
  obtain ⟨e1, e4⟩ := Pre_finite.andi_one e
  obtain ⟨e2, e3⟩ := Pre_finite.andi_one e1
  obtain ⟨e1, e2⟩ := Pre_finite.andi_one e2
  exact ⟨fun b s l => Pre_finite.entry _ _ _ _ _ e1 (ix3 b s l), fun b l => Pre_finite.entry _ _ _ _ _ e2 (ix2 b l),
    fun k l => Pre_finite.entry _ _ _ _ _ e3 (ix2 k l), fun b s k => Pre_finite.entry _ _ _ _ _ e4 (ix3 b s k)⟩

end Cert.Kernel3Ideal.Value
-- ==== Proof.OutRef.lean ====
/-
  The output product's gradient by the reference: its seven results entry by entry. The gradient of the gate's argument
  comes by the product rule, so it is the collected form where the other factors are finite.
-/
module

public import proofs.«01_k».proof.Proof.OutReal
public import proofs.«01_k».proof.Proof.Gen.Reference3Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference3Ideal.Value

open Cert.Reference3Ideal Cert.Reference3Ideal.Gen

variable (m : (ℓ : Loc nD τ sig) → Buf (Elt Ideal) ℓ)

/-- The reference's arguments on a device. -/
def args (c : Dev nD) : Out.Args where
  mix := {
    r := fun b s k => m ((c.tc : Thread nD τ).loc main_arg3) (ix3 b s k)
    o := fun b s k => m ((c.tc : Thread nD τ).loc main_arg6) (ix3 b s k)
    z := fun b s k => m ((c.tc : Thread nD τ).loc main_arg7) (ix3 b s ⟨512 + k.val, by omega⟩)
    g := fun b s k => m ((c.tc : Thread nD τ).loc main_arg4) (ix3 b s k)
    w := fun k l => m ((c.tc : Thread nD τ).loc main_arg5) (ix2 k l) }
  dx := fun b s l => m ((c.tc : Thread nD τ).loc main_arg0) (ix3 b s l)
  y := fun b s l => m ((c.tc : Thread nD τ).loc main_arg1) (ix3 b s l)
  gate := fun b l => m ((c.tc : Thread nD τ).loc main_arg2) (ix2 b l)

/-- A run leaves the arguments as they were. -/
theorem run_frame (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => (h c).2.2.2.2.2.2.2) (run m ρ)

set_option maxHeartbeats 8000000 in
/-- The seven results of a run of the reference. -/
theorem run_spec (ρ : Dev nD → PrngReg) (hf : ∀ c b s k, Out.IsReal (Out.dm (args m c) b s k * (args m c).mix.o b s k)) :
    θ_run defs (onTc (τ := τ) (main (F := Ideal))) ⟨m, fun _ => 0, ρ⟩ fun r => ∀ c : Dev nD,
      r.2.mem ((c.tc : Thread nD τ).loc main_v21) = (fun y => Out.dr (args m c) (y 0) (y 1) (y 2) : FVec Ideal S4x2048x256 .f32)
      ∧ r.2.mem ((c.tc : Thread nD τ).loc main_v32) = (fun y => Out.dout (args m c) (y 0) (y 1) (y 2) : FVec Ideal S4x2048x512 .bf16)
      ∧ r.2.mem ((c.tc : Thread nD τ).loc main_v33) = (fun y => Out.dz (args m c) (y 0) (y 1) (y 2) : FVec Ideal S4x2048x512 .bf16)
      ∧ r.2.mem ((c.tc : Thread nD τ).loc main_v31) = (fun y => Out.delta (args m c) (y 0) (y 1) (y 2) (y 3) (y 4) : FVec Ideal S4x4x8x2x256 .f32)
      ∧ r.2.mem ((c.tc : Thread nD τ).loc main_v23) = (fun y => Out.dg (args m c) (y 0) (y 1) (y 2) : FVec Ideal S4x2048x256 .f32)
      ∧ r.2.mem ((c.tc : Thread nD τ).loc main_v34) = (fun y => Out.dw (args m c) (y 0) (y 1) : FVec Ideal S1024x1024 .bf16)
      ∧ r.2.mem ((c.tc : Thread nD τ).loc main_v35) = (fun y => Out.dgate (args m c) (y 0) (y 2) : FVec Ideal S4x1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (run m ρ)
  obtain ⟨h0, h1, h2, h3, h4, h5, h6, hk⟩ := h c
  refine ⟨h0.trans (funext fun y => ?_), h1.trans (funext fun y => ?_), h2.trans (funext fun y => ?_), h3.trans (funext fun y => ?_),
    h4.trans (funext fun y => ?_), h5.trans (funext fun y => ?_), h6.trans (funext fun y => ?_), hk⟩ <;>
    clear h0 h1 h2 h3 h4 h5 h6 hk h <;> clean_types <;> idx_vars y
  · pointwise
    exact Out.dmixed_eq (args m c) _ _ _
  · pointwise
    exact congrArg (· * Mix.silu _) (Out.dmixed_eq (args m c) y0 y1 ⟨256 + y2.val, by omega⟩)
  · pointwise
    have e := (mul_comm ((args m c).mix.o y0 y1 y2) _).trans (congrArg (· * (args m c).mix.o y0 y1 y2) (Out.dmixed_eq (args m c) y0 y1 ⟨256 + y2.val, by omega⟩))
    exact (congrArg (fun x => x * Mix.sig ((args m c).mix.z y0 y1 y2) + (args m c).mix.z y0 y1 y2 * x
      * (Mix.sig ((args m c).mix.z y0 y1 y2) * (1 - Mix.sig ((args m c).mix.z y0 y1 y2)))) e).trans (Out.gate_derivative (hf c y0 y1 y2) _)
  · pointwise
    refine Finset.sum_congr rfl fun k _ => ?_
    have e : (y1.val * 2 + y3.val) * 64 + k.val = 128 * y1.val + 64 * y3.val + k.val := by omega
    simp only [e]
    exact congrArg (· * _) (congrArg (· * Mix.silu _) (Out.dmixed_eq (args m c) y0 ⟨y2.val * 256 + y4.val, by omega⟩
      ⟨256 + (128 * y1.val + 64 * y3.val + k.val), by omega⟩))
  · pointwise
    exact Out.dmixed_eq (args m c) _ _ _
  · pointwise
    exact Finset.sum_congr rfl fun b _ => Finset.sum_congr rfl fun s _ => (mul_comm _ _).trans (congrArg (Mix.mixed (args m c).mix b s y0 * ·) (mul_comm _ _))
  · pointwise
    simp only [Fin.sum_univ_one]
    rfl

end Cert.Reference3Ideal.Value
-- ==== Proof.OutClaim.lean ====
/-
  The claims about the output product's gradient: the reference's frame, and that the idealized kernel and the reference
  leave the same seven arrays on every input that meets the precondition.
-/
module

public import proofs.«01_k».proof.Proof.OutArrays
public import proofs.«01_k».proof.Proof.OutSums
public import proofs.«01_k».proof.Proof.OutFinite
public import proofs.«01_k».proof.Proof.OutRef
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem

namespace Cert.OutClaim

/-- The reference leaves its arguments as they were; it has no semaphores. -/
theorem frame_reference : quiescent_Reference3Ideal := fun m ρ _ =>
  (θ_run _ _ _).mono (fun r h => ⟨h, sem_eq_zero_of_no_sems rfl r.2⟩) (Cert.Reference3Ideal.Value.run_frame m ρ)

/-- Both runs leave the arrays of the specification at the kernel's arguments. -/
theorem same_results : algebraic_Kernel3Ideal_Reference3Ideal_pre_finite := fun m ρ m' ρ' hpre hag => by
  have e : ∀ c, Cert.Reference3Ideal.Value.args m' c = Cert.Kernel3Ideal.Value.args m c := fun c => by
    obtain ⟨h0, h1, h2, h3, h4, h5, h6, h7⟩ := hag c
    unfold Cert.Reference3Ideal.Value.args
    rw [h0, h1, h2, h3, h4, h5, h6, h7]
    rfl
  have hf : ∀ c b s k, Out.IsReal (Out.dm (Cert.Reference3Ideal.Value.args m' c) b s k * (Cert.Reference3Ideal.Value.args m' c).mix.o b s k) := fun c b s k => by
    obtain ⟨hx, hg, hw, ho⟩ := Cert.Kernel3Ideal.Value.finite_args m hpre c
    rw [e c]
    exact (Out.dm_isReal _ hx hg hw b s k).mul (ho b s k)
  refine ⟨fun c y => Out.dr (Cert.Kernel3Ideal.Value.args m c) (y 0) (y 1) (y 2),
    fun c y => Out.dout (Cert.Kernel3Ideal.Value.args m c) (y 0) (y 1) (y 2),
    fun c y => Out.dz (Cert.Kernel3Ideal.Value.args m c) (y 0) (y 1) (y 2),
    fun c y => Out.delta (Cert.Kernel3Ideal.Value.args m c) (y 0) (y 1) (y 2) (y 3) (y 4),
    fun c y => Out.dg (Cert.Kernel3Ideal.Value.args m c) (y 0) (y 1) (y 2),
    fun c y => Out.dw (Cert.Kernel3Ideal.Value.args m c) (y 0) (y 1),
    fun c y => Out.dgate (Cert.Kernel3Ideal.Value.args m c) (y 0) (y 2),
    (θ_run _ _ _).mono (fun r h c => ?_) (Cert.Kernel3Ideal.Value.run_blocks m ρ),
    (θ_run _ _ _).mono (fun r h c => ?_) (Cert.Reference3Ideal.Value.run_spec m' ρ' hf)⟩
  · obtain ⟨h0, h1, h2, h3, h4, h5, h6, hk⟩ := h c
    exact ⟨h0.trans (Cert.Kernel3Ideal.Value.final_dr m c), h1.trans (Cert.Kernel3Ideal.Value.final_dout m c),
      h2.trans (Cert.Kernel3Ideal.Value.final_dz m c), h3.trans (Cert.Kernel3Ideal.Value.final_delta m c),
      h4.trans (Cert.Kernel3Ideal.Value.final_dg m c), h5.trans (Cert.Kernel3Ideal.Value.final_dw m c),
      h6.trans (Cert.Kernel3Ideal.Value.final_dgate m c), hk⟩
  · have hc := h c
    rw [e c] at hc
    exact hc

end Cert.OutClaim
-- ==== Proof.ProjSpec.lean ====
/-
  What the projection's forward pass computes, as functions of the arguments' entries: the normalised and modulated row
  `h`, and its product with the weight.
-/
module

public import proofs.«01_k».proof.Proof.Norm

@[expose] public section

noncomputable section

namespace Cert.ProjSpec

/-- The arguments, entry by entry: sequence, row, column. -/
structure Args where
  x : Fin 4 → Fin 2048 → Fin 1024 → EReal
  shift : Fin 4 → Fin 1024 → EReal
  scale : Fin 4 → Fin 1024 → EReal
  norm : Fin 1024 → EReal
  w : Fin 1024 → Fin 2944 → EReal

variable (A : Args) (b : Fin 4) (s : Fin 2048)

/-- The row that is projected. -/
def h (l : Fin 1024) : EReal :=
  A.x b s l * Norm.rs (A.x b s) * A.norm l * (1 + A.scale b l) + A.shift b l

/-- The projected row. -/
def proj (k : Fin 2944) : EReal := ∑ l, h A b s l * A.w l k

/-- Its three column groups: the first 1024 columns, the next 1024, the last 896. -/
def ret (k : Fin 1024) : EReal := proj A b s ⟨k.val, by omega⟩
def mla (k : Fin 1024) : EReal := proj A b s ⟨1024 + k.val, by omega⟩
def gla (k : Fin 896) : EReal := proj A b s ⟨2048 + k.val, by omega⟩

end Cert.ProjSpec
-- ==== Proof.ProjPoint.lean ====
/-
  The projection's forward kernel: what one grid point reads and leaves in its four output blocks. Point `t` is block
  `t % 4` of 512 rows of sequence `t / 4`; the weights come whole.
-/
module

public import proofs.«01_k».proof.Proof.Gen.Kernel4Ideal.Value
public import proofs.«01_k».proof.Proof.ProjSpec
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel4Ideal.Value

open Cert.Kernel4Ideal Cert.Kernel4Ideal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The sequence of point `t`. -/
abbrev seqOf (t : Fin cfg0.N) : Fin 4 := ⟨t.val / 4, by have := t.isLt; have : cfg0.N = 16 := N_0; omega⟩
/-- Row `r` of point `t`'s block, as a row of its sequence. -/
abbrev rowOf (t : Fin cfg0.N) (r : Fin 512) : Fin 2048 := ⟨t.val % 4 * 512 + r.val, by have := r.isLt; omega⟩

/-- The kernel's arguments on a device. -/
def args (c : Dev nD) : ProjSpec.Args where
  x := fun b s l => m ((c : Thread nD τ).loc main_arg0) (ix3 b s l)
  shift := fun b l => m ((c : Thread nD τ).loc main_arg1) (ix2 b l)
  scale := fun b l => m ((c : Thread nD τ).loc main_arg2) (ix2 b l)
  norm := fun l => m ((c : Thread nD τ).loc main_arg3) (ix1 l)
  w := fun l k => m ((c : Thread nD τ).loc main_arg4) (ix2 l k)

/-- The block of each window at point `t`. -/
theorem idx : ∀ t : Fin cfg0.N,
    win0_0.index t = ![t.val / 4, t.val % 4, 0] ∧ win0_1.index t = ![t.val / 4, 0, 0] ∧ win0_2.index t = ![t.val / 4, 0, 0]
    ∧ win0_3.index t = ![0, 0] ∧ win0_4.index t = ![0, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0] :=
  (by decide +kernel : ∀ t : Fin grid0.N,
    win0_0.index t = ![t.val / 4, t.val % 4, 0] ∧ win0_1.index t = ![t.val / 4, 0, 0] ∧ win0_2.index t = ![t.val / 4, 0, 0]
    ∧ win0_3.index t = ![0, 0] ∧ win0_4.index t = ![0, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0])

theorem readX (c : Dev nD) (t : Fin cfg0.N) (r : Fin 512) (l : Fin 1024) :
    (iblk m c 0 t : Vec Ideal S1x512x1024 .f32) (ix3 0 r l) = (args m c).x (seqOf t) (rowOf t r) l := by
  unfold args; blk_ext [iblk, V, idx t]
theorem readShift (c : Dev nD) (t : Fin cfg0.N) (l : Fin 1024) :
    (iblk m c 1 t : Vec Ideal S1x1x1024 .f32) (ix3 0 0 l) = (args m c).shift (seqOf t) l := by
  unfold args; blk_ext! [iblk, V, idx t]
theorem readScale (c : Dev nD) (t : Fin cfg0.N) (l : Fin 1024) :
    (iblk m c 2 t : Vec Ideal S1x1x1024 .f32) (ix3 0 0 l) = (args m c).scale (seqOf t) l := by
  unfold args; blk_ext! [iblk, V, idx t]
theorem readNorm (c : Dev nD) (t : Fin cfg0.N) (l : Fin 1024) :
    (iblk m c 3 t : Vec Ideal S1x1024 .f32) (ix2 0 l) = (args m c).norm l := by
  unfold args; blk_ext! [iblk, V, idx t]
theorem readW (c : Dev nD) (t : Fin cfg0.N) (l : Fin 1024) (k : Fin 2944) :
    (iblk m c 4 t : Vec Ideal S1024x2944 .bf16) (ix2 l k) = (args m c).w l k := by
  unfold args; blk_ext! [iblk, V, idx t]

/-- The point's projected rows before the product. -/
def hAt (c : Dev nD) (t : Fin cfg0.N) : FVec Ideal S512x1024 .bf16 :=
  k0_pay4 (iblk m c 0 t) (iblk m c 3 t) (iblk m c 2 t) (iblk m c 1 t)

theorem hAt_apply (c : Dev nD) (t : Fin cfg0.N) (r : Fin 512) (l : Fin 1024) :
    hAt m c t (ix2 r l) = ProjSpec.h (args m c) (seqOf t) (rowOf t r) l := by
  pointwise [hAt, k0_pay4]
  simp only [readX, readShift, readScale, readNorm]
  rfl

theorem out_h (c : Dev nD) (t : Fin cfg0.N) (r : Fin 512) (l : Fin 1024) :
    ((dats m 0 c).after 8 t : Vec Ideal S1x512x1024 .bf16) (ix3 0 r l) = ProjSpec.h (args m c) (seqOf t) (rowOf t r) l := by
  rw [after0_8, ← hAt_apply]
  unfold out0_8
  rw [View.canon_unit_zero hz3]
  simp only [View.ld_unit_zero (S := S1x512x1024) hz3, View.ld_unit_zero (S := S1x1x1024) hz3, View.ld_unit_zero (S := S1x1024) hz2]
  pointwise [k0_pay5, hAt]

theorem out_ret (c : Dev nD) (t : Fin cfg0.N) (r : Fin 512) (k : Fin 1024) :
    ((dats m 0 c).after 5 t : Vec Ideal S1x512x1024 .bf16) (ix3 0 r k) = ProjSpec.ret (args m c) (seqOf t) (rowOf t r) k := by
  rw [after0_5]
  unfold out0_5
  rw [View.canon_unit_zero hz3]
  simp only [View.ld_unit_zero (S := S1x512x1024) hz3, View.ld_unit_zero (S := S1x1x1024) hz3, View.ld_unit_zero (S := S1x1024) hz2]
  have hh := hAt_apply m c t r
  unfold hAt at hh
  pointwise [k0_pay1, k0_pay6]
  simp only [hh, readW]
  rfl

/-- The projected rows again, as the second and third products read them. -/
theorem pay7 (c : Dev nD) (t : Fin cfg0.N) :
    k0_pay7 (iblk m c 0 t) (iblk m c 1 t) (iblk m c 2 t) (iblk m c 3 t) (iblk m c 4 t) = hAt m c t := by
  unfold k0_pay7 hAt
  simp only [View.ld_unit_zero (S := S1x512x1024) hz3, View.ld_unit_zero (S := S1x1x1024) hz3, View.ld_unit_zero (S := S1x1024) hz2]

theorem out_mla (c : Dev nD) (t : Fin cfg0.N) (r : Fin 512) (k : Fin 1024) :
    ((dats m 0 c).after 6 t : Vec Ideal S1x512x1024 .bf16) (ix3 0 r k) = ProjSpec.mla (args m c) (seqOf t) (rowOf t r) k := by
  rw [after0_6]
  unfold out0_6
  rw [View.canon_unit_zero hz3, pay7]
  pointwise [k0_pay2]
  simp only [hAt_apply, readW]
  rfl

theorem out_gla (c : Dev nD) (t : Fin cfg0.N) (r : Fin 512) (k : Fin 896) :
    ((dats m 0 c).after 7 t : Vec Ideal S1x512x896 .bf16) (ix3 0 r k) = ProjSpec.gla (args m c) (seqOf t) (rowOf t r) k := by
  rw [after0_7]
  unfold out0_7
  rw [View.canon_unit_zero hz3, pay7]
  pointwise [k0_pay3]
  simp only [hAt_apply, readW]
  rfl

/-- The four results, each array whole. -/
theorem final_ret (c : Dev nD) : (dats m 0 c).arrAt 5 cfg0.N
    = (fun y => ProjSpec.ret (args m c) (y 0) (y 1) (y 2) : FVec Ideal S4x2048x1024 .bf16) := by
  refine (dats m 0 c).arrAt_eq_of_covers 5 _ (by decide +kernel) fun t hf y => ?_
  blk_simp
  idx_vars y
  obtain rfl : y0 = 0 := Subsingleton.elim _ _
  refine (out_ret m c t y1 y2).trans (congr (congr (congrArg (ProjSpec.ret (args m c)) ?_) ?_) ?_) <;>
    (apply Fin.ext; blk_simp [idx t] <;> simp)

theorem final_mla (c : Dev nD) : (dats m 0 c).arrAt 6 cfg0.N
    = (fun y => ProjSpec.mla (args m c) (y 0) (y 1) (y 2) : FVec Ideal S4x2048x1024 .bf16) := by
  refine (dats m 0 c).arrAt_eq_of_covers 6 _ (by decide +kernel) fun t hf y => ?_
  blk_simp
  idx_vars y
  obtain rfl : y0 = 0 := Subsingleton.elim _ _
  refine (out_mla m c t y1 y2).trans (congr (congr (congrArg (ProjSpec.mla (args m c)) ?_) ?_) ?_) <;>
    (apply Fin.ext; blk_simp [idx t] <;> simp)

theorem final_gla (c : Dev nD) : (dats m 0 c).arrAt 7 cfg0.N
    = (fun y => ProjSpec.gla (args m c) (y 0) (y 1) (y 2) : FVec Ideal S4x2048x896 .bf16) := by
  refine (dats m 0 c).arrAt_eq_of_covers 7 _ (by decide +kernel) fun t hf y => ?_
  blk_simp
  idx_vars y
  obtain rfl : y0 = 0 := Subsingleton.elim _ _
  refine (out_gla m c t y1 y2).trans (congr (congr (congrArg (ProjSpec.gla (args m c)) ?_) ?_) ?_) <;>
    (apply Fin.ext; blk_simp [idx t] <;> simp)

theorem final_h (c : Dev nD) : (dats m 0 c).arrAt 8 cfg0.N
    = (fun y => ProjSpec.h (args m c) (y 0) (y 1) (y 2) : FVec Ideal S4x2048x1024 .bf16) := by
  refine (dats m 0 c).arrAt_eq_of_covers 8 _ (by decide +kernel) fun t hf y => ?_
  blk_simp
  idx_vars y
  obtain rfl : y0 = 0 := Subsingleton.elim _ _
  refine (out_h m c t y1 y2).trans (congr (congr (congrArg (ProjSpec.h (args m c)) ?_) ?_) ?_) <;>
    (apply Fin.ext; blk_simp [idx t] <;> simp)

end Cert.Kernel4Ideal.Value
-- ==== Proof.ProjRef.lean ====
/-
  The reference of the projection's forward pass: its four results, entry by entry.
-/
module

public import proofs.«01_k».proof.Proof.Gen.Reference4Ideal.Run
public import proofs.«01_k».proof.Proof.ProjSpec
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference4Ideal.Value

open Cert.Reference4Ideal Cert.Reference4Ideal.Gen

variable (m : (ℓ : Loc nD τ sig) → Buf (Elt Ideal) ℓ)

/-- The reference's arguments on a device. -/
def args (c : Dev nD) : ProjSpec.Args where
  x := fun b s l => m ((c.tc : Thread nD τ).loc main_arg0) (ix3 b s l)
  shift := fun b l => m ((c.tc : Thread nD τ).loc main_arg1) (ix2 b l)
  scale := fun b l => m ((c.tc : Thread nD τ).loc main_arg2) (ix2 b l)
  norm := fun l => m ((c.tc : Thread nD τ).loc main_arg3) (ix1 l)
  w := fun l k => m ((c.tc : Thread nD τ).loc main_arg4) (ix2 l k)

set_option maxHeartbeats 4000000 in
/-- The four results of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v23) = (fun y => ProjSpec.ret (args m c) (y 0) (y 1) (y 2) : FVec Ideal S4x2048x1024 .bf16)
      ∧ r.2.mem ((c.tc : Thread nD τ).loc main_v24) = (fun y => ProjSpec.mla (args m c) (y 0) (y 1) (y 2) : FVec Ideal S4x2048x1024 .bf16)
      ∧ r.2.mem ((c.tc : Thread nD τ).loc main_v25) = (fun y => ProjSpec.gla (args m c) (y 0) (y 1) (y 2) : FVec Ideal S4x2048x896 .bf16)
      ∧ r.2.mem ((c.tc : Thread nD τ).loc main_v26) = (fun y => ProjSpec.h (args m c) (y 0) (y 1) (y 2) : FVec Ideal S4x2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (run m ρ)
  obtain ⟨h0, h1, h2, h3, hk⟩ := h c
  refine ⟨h0.trans (funext fun y => ?_), h1.trans (funext fun y => ?_), h2.trans (funext fun y => ?_), h3.trans (funext fun y => ?_), hk⟩ <;>
    clear h0 h1 h2 h3 hk h <;> clean_types <;> idx_vars y <;> pointwise <;> rfl

end Cert.Reference4Ideal.Value
-- ==== Proof.ProjClaim.lean ====
/-
  The claims about the projection's forward kernel: the reference's frame, and that the idealized kernel and the reference
  leave the same four arrays on every input.
-/
module

public import proofs.«01_k».proof.Proof.ProjPoint
public import proofs.«01_k».proof.Proof.ProjRef
public import proofs.«01_k».proof.Defs
public import Idealize.ShloMosaic.Adequacy
public import Idealize.ShloMosaic.Init

@[expose] public section

noncomputable section

namespace Cert.Proj

open Idealize.ShloMosaic Idealize.SL.Sem

/-- The reference leaves its arguments as they were; it has no semaphores. -/
theorem frame_reference : quiescent_Reference4Ideal := fun m ρ _ =>
  (θ_run _ _ _).mono (fun r h => ⟨fun c => (h c).2.2.2.2, sem_eq_zero_of_no_sems rfl r.2⟩)
    (Cert.Reference4Ideal.Value.run_spec m ρ)

/-- Both runs leave the four arrays of the specification at the kernel's arguments. -/
theorem same_results : algebraic_Kernel4Ideal_Reference4Ideal := fun m ρ m' ρ' _ hag => by
  have e : ∀ c, Cert.Reference4Ideal.Value.args m' c = Cert.Kernel4Ideal.Value.args m c := fun c => by
    obtain ⟨h0, h1, h2, h3, h4⟩ := hag c
    unfold Cert.Reference4Ideal.Value.args
    rw [h0, h1, h2, h3, h4]
    rfl
  refine ⟨fun c y => ProjSpec.ret (Cert.Kernel4Ideal.Value.args m c) (y 0) (y 1) (y 2),
    fun c y => ProjSpec.mla (Cert.Kernel4Ideal.Value.args m c) (y 0) (y 1) (y 2),
    fun c y => ProjSpec.gla (Cert.Kernel4Ideal.Value.args m c) (y 0) (y 1) (y 2),
    fun c y => ProjSpec.h (Cert.Kernel4Ideal.Value.args m c) (y 0) (y 1) (y 2),
    (θ_run _ _ _).mono (fun r h c => ?_) (Cert.Kernel4Ideal.Value.run_blocks m ρ),
    (θ_run _ _ _).mono (fun r h c => ?_) (Cert.Reference4Ideal.Value.run_spec m' ρ')⟩
  · obtain ⟨h0, h1, h2, h3, hk⟩ := h c
    exact ⟨h0.trans (Cert.Kernel4Ideal.Value.final_ret m c), h1.trans (Cert.Kernel4Ideal.Value.final_mla m c),
      h2.trans (Cert.Kernel4Ideal.Value.final_gla m c), h3.trans (Cert.Kernel4Ideal.Value.final_h m c), hk⟩
  · have hc := h c
    rw [e c] at hc
    exact hc

end Cert.Proj
-- ==== Proof.MixPoint.lean ====
/-
  The output product's forward kernel: what one grid point reads and leaves in its two output blocks, and the two
  arrays. Point `t` is block `t % 4` of 512 rows of sequence `t / 4`; the weight comes whole.
-/
module

public import proofs.«01_k».proof.Proof.Gen.Kernel5Ideal.Value
public import proofs.«01_k».proof.Proof.MixSpec
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel5Ideal.Value

open Cert.Kernel5Ideal Cert.Kernel5Ideal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The sequence of point `t`. -/
abbrev seqOf (t : Fin cfg0.N) : Fin 4 := ⟨t.val / 4, by have := t.isLt; have : cfg0.N = 16 := N_0; omega⟩
/-- Row `r` of point `t`'s block, as a row of its sequence. -/
abbrev rowOf (t : Fin cfg0.N) (r : Fin 512) : Fin 2048 := ⟨t.val % 4 * 512 + r.val, by have := r.isLt; omega⟩

/-- The branches and the weight on a device. -/
def branches (c : Dev nD) : Mix.Branches where
  r := fun b s k => m ((c : Thread nD τ).loc main_arg2) (ix3 b s k)
  o := fun b s k => m ((c : Thread nD τ).loc main_arg3) (ix3 b s k)
  z := fun b s k => m ((c : Thread nD τ).loc main_arg4) (ix3 b s ⟨512 + k.val, by omega⟩)
  g := fun b s k => m ((c : Thread nD τ).loc main_arg5) (ix3 b s k)
  w := fun k l => m ((c : Thread nD τ).loc main_arg6) (ix2 k l)
/-- The residual stream and the gate on a device. -/
def resid (c : Dev nD) (b : Fin 4) (s : Fin 2048) (l : Fin 1024) : EReal := m ((c : Thread nD τ).loc main_arg0) (ix3 b s l)
def gate (c : Dev nD) (b : Fin 4) (l : Fin 1024) : EReal := m ((c : Thread nD τ).loc main_arg1) (ix2 b l)

/-- The block of each window at point `t`. -/
theorem idx : ∀ t : Fin cfg0.N,
    win0_0.index t = ![t.val / 4, t.val % 4, 0] ∧ win0_1.index t = ![t.val / 4, 0, 0] ∧ win0_2.index t = ![t.val / 4, t.val % 4, 0]
    ∧ win0_3.index t = ![t.val / 4, t.val % 4, 0] ∧ win0_4.index t = ![t.val / 4, t.val % 4, 1]
    ∧ win0_5.index t = ![t.val / 4, t.val % 4, 0] ∧ win0_6.index t = ![0, 0] ∧ win0_7.index t = ![t.val / 4, t.val % 4, 0]
    ∧ win0_8.index t = ![t.val / 4, t.val % 4, 0] :=
  (by decide +kernel : ∀ t : Fin grid0.N,
    win0_0.index t = ![t.val / 4, t.val % 4, 0] ∧ win0_1.index t = ![t.val / 4, 0, 0] ∧ win0_2.index t = ![t.val / 4, t.val % 4, 0]
    ∧ win0_3.index t = ![t.val / 4, t.val % 4, 0] ∧ win0_4.index t = ![t.val / 4, t.val % 4, 1]
    ∧ win0_5.index t = ![t.val / 4, t.val % 4, 0] ∧ win0_6.index t = ![0, 0] ∧ win0_7.index t = ![t.val / 4, t.val % 4, 0]
    ∧ win0_8.index t = ![t.val / 4, t.val % 4, 0])

theorem readX (c : Dev nD) (t : Fin cfg0.N) (r : Fin 512) (l : Fin 1024) :
    (iblk m c 0 t : Vec Ideal S1x512x1024 .f32) (ix3 0 r l) = resid m c (seqOf t) (rowOf t r) l := by
  unfold resid; blk_ext [iblk, V, idx t]
theorem readGate (c : Dev nD) (t : Fin cfg0.N) (l : Fin 1024) :
    (iblk m c 1 t : Vec Ideal S1x1x1024 .f32) (ix3 0 0 l) = gate m c (seqOf t) l := by
  unfold gate; blk_ext! [iblk, V, idx t]
theorem readR (c : Dev nD) (t : Fin cfg0.N) (r : Fin 512) (k : Fin 256) :
    (iblk m c 2 t : Vec Ideal S1x512x256 .bf16) (ix3 0 r k) = (branches m c).r (seqOf t) (rowOf t r) k := by
  unfold branches; blk_ext [iblk, V, idx t]
theorem readO (c : Dev nD) (t : Fin cfg0.N) (r : Fin 512) (k : Fin 512) :
    (iblk m c 3 t : Vec Ideal S1x512x512 .f32) (ix3 0 r k) = (branches m c).o (seqOf t) (rowOf t r) k := by
  unfold branches; blk_ext [iblk, V, idx t]
theorem readZ (c : Dev nD) (t : Fin cfg0.N) (r : Fin 512) (k : Fin 512) :
    (iblk m c 4 t : Vec Ideal S1x512x512 .bf16) (ix3 0 r k) = (branches m c).z (seqOf t) (rowOf t r) k := by
  unfold branches; blk_ext [iblk, V, idx t]
theorem readG (c : Dev nD) (t : Fin cfg0.N) (r : Fin 512) (k : Fin 256) :
    (iblk m c 5 t : Vec Ideal S1x512x256 .bf16) (ix3 0 r k) = (branches m c).g (seqOf t) (rowOf t r) k := by
  unfold branches; blk_ext [iblk, V, idx t]
theorem readW (c : Dev nD) (t : Fin cfg0.N) (k l : Fin 1024) :
    (iblk m c 6 t : Vec Ideal S1024x1024 .bf16) (ix2 k l) = (branches m c).w k l := by
  unfold branches; blk_ext! [iblk, V, idx t]

/-- The point's product. -/
def yAt (c : Dev nD) (t : Fin cfg0.N) : FVec Ideal S512x1024 .f32 :=
  k0_pay3 (iblk m c 3 t) (iblk m c 4 t) (iblk m c 2 t) (View.ld (iblk m c 6 t : Vec Ideal S1024x1024 .bf16) r0_2)
    (View.ld (iblk m c 6 t : Vec Ideal S1024x1024 .bf16) r0_3) (iblk m c 5 t) (View.ld (iblk m c 6 t : Vec Ideal S1024x1024 .bf16) r0_4)

theorem yAt_apply (c : Dev nD) (t : Fin cfg0.N) (r : Fin 512) (l : Fin 1024) :
    yAt m c t (ix2 r l) = Mix.y (branches m c) (seqOf t) (rowOf t r) l := by
  pointwise [yAt, k0_pay3]
  simp only [readR, readO, readZ, readG, readW]
  rw [Mix.y_groups]
  simp only [Mix.silu, Mix.sig, zero_sub]

theorem out_y (c : Dev nD) (t : Fin cfg0.N) (r : Fin 512) (l : Fin 1024) :
    ((dats m 0 c).after 8 t : Vec Ideal S1x512x1024 .bf16) (ix3 0 r l) = Mix.y (branches m c) (seqOf t) (rowOf t r) l := by
  rw [after0_8, ← yAt_apply]
  unfold out0_8
  rw [View.canon_unit_zero hz3]
  simp only [View.ld_unit_zero (S := S1x512x512) hz3, View.ld_unit_zero (S := S1x512x256) hz3]
  pointwise [k0_pay1, k0_pay4]
  rfl

theorem out_x (c : Dev nD) (t : Fin cfg0.N) (r : Fin 512) (l : Fin 1024) :
    ((dats m 0 c).after 7 t : Vec Ideal S1x512x1024 .f32) (ix3 0 r l) = resid m c (seqOf t) (rowOf t r) l
      + gate m c (seqOf t) l * Mix.y (branches m c) (seqOf t) (rowOf t r) l := by
  rw [after0_7, ← yAt_apply, ← readX, ← readGate]
  unfold out0_7
  rw [View.canon_unit_zero hz3]
  simp only [View.ld_unit_zero (S := S1x512x512) hz3, View.ld_unit_zero (S := S1x512x256) hz3,
    View.ld_unit_zero (S := S1x512x1024) hz3, View.ld_unit_zero (S := S1x1x1024) hz3]
  pointwise [k0_pay2]
  rfl

/-- The two results, each array whole. -/
theorem final_x (c : Dev nD) : (dats m 0 c).arrAt 7 cfg0.N
    = (fun y => resid m c (y 0) (y 1) (y 2) + gate m c (y 0) (y 2) * Mix.y (branches m c) (y 0) (y 1) (y 2)
        : FVec Ideal S4x2048x1024 .f32) := by
  refine (dats m 0 c).arrAt_eq_of_covers 7 _ (by decide +kernel) fun t hf y => ?_
  blk_simp
  idx_vars y
  obtain rfl : y0 = 0 := Subsingleton.elim _ _
  have e : ∀ b b' s s' l l', b = b' → s = s' → l = l' → resid m c b s l + gate m c b l * Mix.y (branches m c) b s l
      = resid m c b' s' l' + gate m c b' l' * Mix.y (branches m c) b' s' l' := by
    rintro _ _ _ _ _ _ rfl rfl rfl; rfl
  refine (out_x m c t y1 y2).trans (e _ _ _ _ _ _ ?_ ?_ ?_) <;>
    (apply Fin.ext; blk_simp [idx t] <;> simp)

theorem final_y (c : Dev nD) : (dats m 0 c).arrAt 8 cfg0.N
    = (fun y => Mix.y (branches m c) (y 0) (y 1) (y 2) : FVec Ideal S4x2048x1024 .bf16) := by
  refine (dats m 0 c).arrAt_eq_of_covers 8 _ (by decide +kernel) fun t hf y => ?_
  blk_simp
  idx_vars y
  obtain rfl : y0 = 0 := Subsingleton.elim _ _
  refine (out_y m c t y1 y2).trans (congr (congr (congrArg (Mix.y (branches m c)) ?_) ?_) ?_) <;>
    (apply Fin.ext; blk_simp [idx t] <;> simp)

end Cert.Kernel5Ideal.Value
-- ==== Proof.MixClaim.lean ====
/-
  The claims about the output product's forward kernel: the reference's results entry by entry, its frame, and that the
  idealized kernel and the reference leave the same two arrays on every input.
-/
module

public import proofs.«01_k».proof.Proof.MixPoint
public import proofs.«01_k».proof.Proof.Gen.Reference5Ideal.Run
public import Idealize.ShloMosaic.Lib.Tactic.CleanTypes
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem

namespace Cert.Reference5Ideal.Value

open Cert.Reference5Ideal Cert.Reference5Ideal.Gen

variable (m : (ℓ : Loc nD τ sig) → Buf (Elt Ideal) ℓ)

/-- The branches and the weight on a device. -/
def branches (c : Dev nD) : Mix.Branches where
  r := fun b s k => m ((c.tc : Thread nD τ).loc main_arg2) (ix3 b s k)
  o := fun b s k => m ((c.tc : Thread nD τ).loc main_arg3) (ix3 b s k)
  z := fun b s k => m ((c.tc : Thread nD τ).loc main_arg4) (ix3 b s ⟨512 + k.val, by omega⟩)
  g := fun b s k => m ((c.tc : Thread nD τ).loc main_arg5) (ix3 b s k)
  w := fun k l => m ((c.tc : Thread nD τ).loc main_arg6) (ix2 k l)
/-- The residual stream and the gate on a device. -/
def resid (c : Dev nD) (b : Fin 4) (s : Fin 2048) (l : Fin 1024) : EReal := m ((c.tc : Thread nD τ).loc main_arg0) (ix3 b s l)
def gate (c : Dev nD) (b : Fin 4) (l : Fin 1024) : EReal := m ((c.tc : Thread nD τ).loc main_arg1) (ix2 b l)

set_option maxHeartbeats 4000000 in
/-- The two results of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v11) = (fun y => resid m c (y 0) (y 1) (y 2)
        + gate m c (y 0) (y 2) * Mix.y (branches m c) (y 0) (y 1) (y 2) : FVec Ideal S4x2048x1024 .f32)
      ∧ r.2.mem ((c.tc : Thread nD τ).loc main_v12) = (fun y => Mix.y (branches m c) (y 0) (y 1) (y 2) : FVec Ideal S4x2048x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ?_) (run m ρ)
  obtain ⟨h0, h1, hk⟩ := h c
  refine ⟨h0.trans (funext fun y => ?_), h1.trans (funext fun y => ?_), hk⟩ <;>
    clear h0 h1 hk h <;> clean_types <;> idx_vars y <;> pointwise <;> rfl

end Cert.Reference5Ideal.Value

namespace Cert.MixClaim

/-- The reference leaves its arguments as they were; it has no semaphores. -/
theorem frame_reference : quiescent_Reference5Ideal := fun m ρ _ =>
  (θ_run _ _ _).mono (fun r h => ⟨fun c => (h c).2.2, sem_eq_zero_of_no_sems rfl r.2⟩)
    (Cert.Reference5Ideal.Value.run_spec m ρ)

/-- Both runs leave the two arrays of the specification at the kernel's arguments. -/
theorem same_results : algebraic_Kernel5Ideal_Reference5Ideal := fun m ρ m' ρ' _ hag => by
  have e : ∀ c, Cert.Reference5Ideal.Value.branches m' c = Cert.Kernel5Ideal.Value.branches m c
      ∧ Cert.Reference5Ideal.Value.resid m' c = Cert.Kernel5Ideal.Value.resid m c
      ∧ Cert.Reference5Ideal.Value.gate m' c = Cert.Kernel5Ideal.Value.gate m c := fun c => by
    obtain ⟨h0, h1, h2, h3, h4, h5, h6⟩ := hag c
    unfold Cert.Reference5Ideal.Value.branches Cert.Reference5Ideal.Value.resid Cert.Reference5Ideal.Value.gate
    rw [h0, h1, h2, h3, h4, h5, h6]
    exact ⟨rfl, rfl, rfl⟩
  refine ⟨fun c y => Cert.Kernel5Ideal.Value.resid m c (y 0) (y 1) (y 2) + Cert.Kernel5Ideal.Value.gate m c (y 0) (y 2)
      * Mix.y (Cert.Kernel5Ideal.Value.branches m c) (y 0) (y 1) (y 2),
    fun c y => Mix.y (Cert.Kernel5Ideal.Value.branches m c) (y 0) (y 1) (y 2),
    (θ_run _ _ _).mono (fun r h c => ?_) (Cert.Kernel5Ideal.Value.run_blocks m ρ),
    (θ_run _ _ _).mono (fun r h c => ?_) (Cert.Reference5Ideal.Value.run_spec m' ρ')⟩
  · obtain ⟨h0, h1, hk⟩ := h c
    exact ⟨h0.trans (Cert.Kernel5Ideal.Value.final_x m c), h1.trans (Cert.Kernel5Ideal.Value.final_y m c), hk⟩
  · have hc := h c
    rw [(e c).1, (e c).2.1, (e c).2.2] at hc
    exact hc

end Cert.MixClaim
-- ==== Proof.Adam.lean ====
/-
  One step of AdamW on one weight, over the extended reals, with the constants of the training step as printed: the new
  momentum, the new second moment and what is added to the weight.
-/
module

public import Idealize.ShloMosaic.PureOps.Ideal
public import Idealize.ShloMosaic.PureOps.Ideal.Laws

@[expose] public section

noncomputable section

open Idealize.ShloMosaic

namespace Cert.Adam

/-- The real number a 32-bit float constant stands for. -/
abbrev lit (b : BitVec 32) : EReal := (Scalar.ofBits .f32 b : Ideal .f32)

/-- A weight's gradient, value, momentum and second moment, entry by entry. -/
structure Entries (ι : Type) where
  g : ι → EReal
  w : ι → EReal
  m : ι → EReal
  v : ι → EReal

variable {ι : Type} (A : Entries ι) (i : ι)

/-- The new momentum: 0.9 of the old and 0.1 of the gradient. -/
def Entries.momentum : EReal := lit 0x3F666666#32 * A.m i + lit 0x3DCCCCCD#32 * A.g i

/-- The new second moment: 0.999 of the old and 0.001 of the gradient's square. -/
def Entries.moment2 : EReal := lit 0x3F7FBE77#32 * A.v i + lit 0x3A83126F#32 * (A.g i * A.g i)

/-- What is added to the weight: minus the learning rate times the corrected momentum over the root of the corrected
    second moment, plus the decay. -/
def Entries.delta : EReal :=
  lit 0xBA83126F#32 * (Ideal.div (Ideal.div (A.momentum i) (lit 0x3F26BD02#32))
    (Ideal.sqrt (Ideal.div (A.moment2 i) (lit 0x3C231ACC#32)) + lit 0x322BCC77#32) + lit 0x3C23D70A#32 * A.w i)

end Cert.Adam
-- ==== Proof.AdaWPoint.lean ====
/-
  The optimiser step of the conditioning weight: what one grid point reads and writes, and the four arrays. Point `t` is
  block `t` of 256 of the weight's 2048 rows, the two layers' 1024 rows one after the other.
-/
module

public import proofs.«01_k».proof.Proof.Gen.Kernel6Ideal.Value
public import proofs.«01_k».proof.Proof.Adam
public import Idealize.ShloMosaic.Lib.Pointwise
public import Idealize.ShloMosaic.Lib.Pipeline.ValueKit
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel6Ideal.Value

open Cert.Kernel6Ideal Cert.Kernel6Ideal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- Row `r` of point `t`'s block. -/
abbrev rowOf (t : Fin cfg0.N) (r : Fin 256) : Fin 2048 :=
  ⟨t.val * 256 + r.val, by have := r.isLt; have := t.isLt; have : cfg0.N = 8 := N_0; omega⟩

/-- The gradient and the state on a device, by row and column; row `r` is row `r % 1024` of layer `r / 1024`. -/
def entries (c : Dev nD) : Adam.Entries (Fin 2048 × Fin 384) where
  g := fun i => m ((c : Thread nD τ).loc main_arg0) (ix3 0 i.1 i.2)
  w := fun i => m ((c : Thread nD τ).loc main_arg1) (ix3 ⟨i.1.val / 1024, by omega⟩ ⟨i.1.val % 1024, by omega⟩ i.2)
  m := fun i => m ((c : Thread nD τ).loc main_arg2) (ix3 ⟨i.1.val / 1024, by omega⟩ ⟨i.1.val % 1024, by omega⟩ i.2)
  v := fun i => m ((c : Thread nD τ).loc main_arg3) (ix3 ⟨i.1.val / 1024, by omega⟩ ⟨i.1.val % 1024, by omega⟩ i.2)

/-- The block of each window at point `t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0])

theorem readG (c : Dev nD) (t : Fin cfg0.N) (r : Fin 256) (k : Fin 384) :
    (iblk m c 0 t : Vec Ideal S1x256x384 .f32) (ix3 0 r k) = (entries m c).g (rowOf t r, k) := by
  unfold entries; blk_ext [iblk, V, idx t]
theorem readW (c : Dev nD) (t : Fin cfg0.N) (r : Fin 256) (k : Fin 384) :
    (iblk m c 1 t : Vec Ideal S256x384 .f32) (ix2 r k) = (entries m c).w (rowOf t r, k) := by
  unfold entries; blk_ext! [iblk, V, idx t]
theorem readM (c : Dev nD) (t : Fin cfg0.N) (r : Fin 256) (k : Fin 384) :
    (iblk m c 2 t : Vec Ideal S256x384 .f32) (ix2 r k) = (entries m c).m (rowOf t r, k) := by
  unfold entries; blk_ext! [iblk, V, idx t]
theorem readV (c : Dev nD) (t : Fin cfg0.N) (r : Fin 256) (k : Fin 384) :
    (iblk m c 3 t : Vec Ideal S256x384 .f32) (ix2 r k) = (entries m c).v (rowOf t r, k) := by
  unfold entries; blk_ext! [iblk, V, idx t]

/-- What a point leaves in its four output blocks. -/
theorem out_all (c : Dev nD) (t : Fin cfg0.N) (r : Fin 256) (k : Fin 384) :
    ((dats m 0 c).after 4 t : Vec Ideal S256x384 .f32) (ix2 r k) = (entries m c).g (rowOf t r, k)
    ∧ ((dats m 0 c).after 5 t : Vec Ideal S256x384 .f32) (ix2 r k) = (entries m c).delta (rowOf t r, k)
    ∧ ((dats m 0 c).after 6 t : Vec Ideal S256x384 .f32) (ix2 r k) = (entries m c).momentum (rowOf t r, k)
    ∧ ((dats m 0 c).after 7 t : Vec Ideal S256x384 .f32) (ix2 r k) = (entries m c).moment2 (rowOf t r, k) := by
  rw [after0_4, after0_5, after0_6, after0_7]
  unfold out0_4 out0_5 out0_6 out0_7
  simp only [View.canon_unit_zero (S := S256x384) hz2, View.ld_unit_zero (S := S256x384) hz2, View.ld_unit_zero (S := S1x256x384) hz3]
  unfold Adam.Entries.delta Adam.Entries.momentum Adam.Entries.moment2
  refine ⟨?_, ?_, ?_, ?_⟩ <;> pointwise [k0_pay1, k0_pay2, k0_pay3, k0_pay4, k0_pay5] <;>
    simp only [readG, readW, readM, readV]

/-- The four arrays, each whole. -/
theorem finals (c : Dev nD) :
    (dats m 0 c).arrAt 4 cfg0.N = (fun y => (entries m c).g (y 0, y 1) : FVec Ideal S2048x384 .f32)
    ∧ (dats m 0 c).arrAt 5 cfg0.N = (fun y => (entries m c).delta (y 0, y 1) : FVec Ideal S2048x384 .f32)
    ∧ (dats m 0 c).arrAt 6 cfg0.N = (fun y => (entries m c).momentum (y 0, y 1) : FVec Ideal S2048x384 .f32)
    ∧ (dats m 0 c).arrAt 7 cfg0.N = (fun y => (entries m c).moment2 (y 0, y 1) : FVec Ideal S2048x384 .f32) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩ <;>
    blk_simp <;> idx_vars y
  · refine (out_all m c t y0 y1).1.trans (congrArg _ (Prod.ext ?_ ?_)) <;> (apply Fin.ext; blk_simp [idx t] <;> simp [idx t])
  · refine (out_all m c t y0 y1).2.1.trans (congrArg _ (Prod.ext ?_ ?_)) <;> (apply Fin.ext; blk_simp [idx t] <;> simp [idx t])
  · refine (out_all m c t y0 y1).2.2.1.trans (congrArg _ (Prod.ext ?_ ?_)) <;> (apply Fin.ext; blk_simp [idx t] <;> simp [idx t])
  · refine (out_all m c t y0 y1).2.2.2.trans (congrArg _ (Prod.ext ?_ ?_)) <;> (apply Fin.ext; blk_simp [idx t] <;> simp [idx t])

end Cert.Kernel6Ideal.Value
-- ==== Proof.AdaWClaim.lean ====
/-
  The claims about the optimiser step of the conditioning weight: the reference's results entry by entry, its frame, and
  that the idealized kernel and the reference leave the same four arrays on every input.
-/
module

public import proofs.«01_k».proof.Proof.AdaWPoint
public import proofs.«01_k».proof.Proof.Gen.Reference6Ideal.Run
public import Idealize.ShloMosaic.Lib.Tactic.CleanTypes
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem

namespace Cert.Reference6Ideal.Value

open Cert.Reference6Ideal Cert.Reference6Ideal.Gen

variable (m : (ℓ : Loc nD τ sig) → Buf (Elt Ideal) ℓ)

/-- The gradient and the state on a device, by row and column. -/
def entries (c : Dev nD) : Adam.Entries (Fin 2048 × Fin 384) where
  g := fun i => m ((c.tc : Thread nD τ).loc main_arg0) (ix3 0 i.1 i.2)
  w := fun i => m ((c.tc : Thread nD τ).loc main_arg1) (ix3 ⟨i.1.val / 1024, by omega⟩ ⟨i.1.val % 1024, by omega⟩ i.2)
  m := fun i => m ((c.tc : Thread nD τ).loc main_arg2) (ix3 ⟨i.1.val / 1024, by omega⟩ ⟨i.1.val % 1024, by omega⟩ i.2)
  v := fun i => m ((c.tc : Thread nD τ).loc main_arg3) (ix3 ⟨i.1.val / 1024, by omega⟩ ⟨i.1.val % 1024, by omega⟩ i.2)

set_option maxHeartbeats 4000000 in
/-- The four results of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v26) = (fun y => (entries m c).g (y 0, y 1) : FVec Ideal S2048x384 .f32)
      ∧ r.2.mem ((c.tc : Thread nD τ).loc main_v27) = (fun y => (entries m c).delta (y 0, y 1) : FVec Ideal S2048x384 .f32)
      ∧ r.2.mem ((c.tc : Thread nD τ).loc main_v28) = (fun y => (entries m c).momentum (y 0, y 1) : FVec Ideal S2048x384 .f32)
      ∧ r.2.mem ((c.tc : Thread nD τ).loc main_v29) = (fun y => (entries m c).moment2 (y 0, y 1) : FVec Ideal S2048x384 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (run m ρ)
  obtain ⟨h0, h1, h2, h3, hk⟩ := h c
  refine ⟨h0.trans (funext fun y => ?_), h1.trans (funext fun y => ?_), h2.trans (funext fun y => ?_),
    h3.trans (funext fun y => ?_), hk⟩ <;>
    clear h0 h1 h2 h3 hk h <;> clean_types <;> idx_vars y <;> pointwise <;>
    simp only [Fin.sum_univ_one, zero_add] <;> rfl

end Cert.Reference6Ideal.Value

namespace Cert.AdaWClaim

/-- The reference leaves its arguments as they were; it has no semaphores. -/
theorem frame_reference : quiescent_Reference6Ideal := fun m ρ _ =>
  (θ_run _ _ _).mono (fun r h => ⟨fun c => (h c).2.2.2.2, sem_eq_zero_of_no_sems rfl r.2⟩)
    (Cert.Reference6Ideal.Value.run_spec m ρ)

/-- Both runs leave the four arrays of the specification at the kernel's arguments. -/
theorem same_results : algebraic_Kernel6Ideal_Reference6Ideal := fun m ρ m' ρ' _ hag => by
  have e : ∀ c, Cert.Reference6Ideal.Value.entries m' c = Cert.Kernel6Ideal.Value.entries m c := fun c => by
    obtain ⟨h0, h1, h2, h3⟩ := hag c
    unfold Cert.Reference6Ideal.Value.entries
    rw [h0, h1, h2, h3]
    rfl
  refine ⟨fun c y => (Cert.Kernel6Ideal.Value.entries m c).g (y 0, y 1),
    fun c y => (Cert.Kernel6Ideal.Value.entries m c).delta (y 0, y 1),
    fun c y => (Cert.Kernel6Ideal.Value.entries m c).momentum (y 0, y 1),
    fun c y => (Cert.Kernel6Ideal.Value.entries m c).moment2 (y 0, y 1),
    (θ_run _ _ _).mono (fun r h c => ?_) (Cert.Kernel6Ideal.Value.run_blocks m ρ),
    (θ_run _ _ _).mono (fun r h c => ?_) (Cert.Reference6Ideal.Value.run_spec m' ρ')⟩
  · obtain ⟨h0, h1, h2, h3, hk⟩ := h c
    obtain ⟨f0, f1, f2, f3⟩ := Cert.Kernel6Ideal.Value.finals m c
    exact ⟨h0.trans f0, h1.trans f1, h2.trans f2, h3.trans f3, hk⟩
  · have hc := h c
    rw [e c] at hc
    exact hc

end Cert.AdaWClaim
-- ==== Proof.AdaBPoint.lean ====
/-
  The optimiser step of the conditioning bias: what its one grid point reads and writes, the four arrays, and a run of
  the kernel. The 48 rows of 128 columns are the two layers' 3072 entries one after the other.
-/
module

public import proofs.«01_k».proof.Proof.Gen.Kernel7Ideal.Frame
public import proofs.«01_k».proof.Proof.Adam
public import Idealize.ShloMosaic.Lib.Pointwise
public import Idealize.ShloMosaic.Lib.Pipeline.Value
public import Idealize.ShloMosaic.Lib.Pipeline.ValueKit
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel7Ideal.Value

open Cert.Kernel7Ideal Cert.Kernel7Ideal.Gen

variable (m : (ℓ : Loc nD τ sig) → Buf (Elt Ideal) ℓ)

theorem hz2 : (![0, 0] : Fin 2 → Nat) = fun _ => 0 := funext fun a => by fin_cases a <;> rfl

/-- A sum of 32 terms, one after the other. -/
theorem sum32 (f : Fin 32 → EReal) : ∑ k, f k = f 0 + f 1 + f 2 + f 3 + f 4 + f 5 + f 6 + f 7 + f 8 + f 9 + f 10 + f 11
    + f 12 + f 13 + f 14 + f 15 + f 16 + f 17 + f 18 + f 19 + f 20 + f 21 + f 22 + f 23 + f 24 + f 25 + f 26 + f 27
    + f 28 + f 29 + f 30 + f 31 := by
  simp only [Fin.sum_univ_castSucc, Finset.univ_eq_empty, Finset.sum_empty, zero_add]; rfl

/-- The gradient, the sum of the 32 parts, and the state on a device, by row and column of 48 rows of 128, 24 rows
    for each layer. -/
def entries (c : Dev nD) : Adam.Entries (Fin 48 × Fin 128) where
  g := fun i => ∑ k : Fin 32, m ((c : Thread nD τ).loc main_arg0) (ix3 k i.1 i.2)
  w := fun i => m ((c : Thread nD τ).loc main_arg1) (ix2 ⟨i.1.val / 24, by omega⟩ ⟨i.1.val % 24 * 128 + i.2.val, by omega⟩)
  m := fun i => m ((c : Thread nD τ).loc main_arg2) (ix2 ⟨i.1.val / 24, by omega⟩ ⟨i.1.val % 24 * 128 + i.2.val, by omega⟩)
  v := fun i => m ((c : Thread nD τ).loc main_arg3) (ix2 ⟨i.1.val / 24, by omega⟩ ⟨i.1.val % 24 * 128 + i.2.val, by omega⟩)

/-- Each window is its whole array. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, win0_0.index t = ![0, 0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0])

theorem readG (c : Dev nD) (t : Fin cfg0.N) (k : Fin 32) (r : Fin 48) (l : Fin 128) :
    (iblk m c 0 t : Vec Ideal S32x48x128 .f32) (ix3 k r l) = m ((c : Thread nD τ).loc main_arg0) (ix3 k r l) := by
  blk_ext [iblk, V, idx t]
theorem readW (c : Dev nD) (t : Fin cfg0.N) (r : Fin 48) (l : Fin 128) :
    (iblk m c 1 t : Vec Ideal S48x128 .f32) (ix2 r l) = (entries m c).w (r, l) := by
  unfold entries; blk_ext! [iblk, V, idx t]
theorem readM (c : Dev nD) (t : Fin cfg0.N) (r : Fin 48) (l : Fin 128) :
    (iblk m c 2 t : Vec Ideal S48x128 .f32) (ix2 r l) = (entries m c).m (r, l) := by
  unfold entries; blk_ext! [iblk, V, idx t]
theorem readV (c : Dev nD) (t : Fin cfg0.N) (r : Fin 48) (l : Fin 128) :
    (iblk m c 3 t : Vec Ideal S48x128 .f32) (ix2 r l) = (entries m c).v (r, l) := by
  unfold entries; blk_ext! [iblk, V, idx t]

/-- The gradient as the kernel adds it up. -/
theorem grad_apply (c : Dev nD) (t : Fin cfg0.N) (r : Fin 48) (l : Fin 128) :
    k0_pay5 (k0_pay9 (iblk m c 0 t) (iblk m c 1 t) (iblk m c 2 t) (iblk m c 3 t)) (View.ld (iblk m c 0 t : Vec Ideal S32x48x128 .f32) r0_30)
      (View.ld (iblk m c 0 t : Vec Ideal S32x48x128 .f32) r0_31) (ix2 r l) = (entries m c).g (r, l) := by
  rw [show (entries m c).g (r, l) = _ from sum32 fun k => m ((c : Thread nD τ).loc main_arg0) (ix3 k r l)]
  pointwise [k0_pay9, k0_pay2, k0_pay3, k0_pay4, k0_pay5]
  simp only [readG]

/-- What the point leaves in its four output blocks. -/
theorem out_all (c : Dev nD) (t : Fin cfg0.N) (r : Fin 48) (l : Fin 128) :
    ((dats m 0 c).after 4 t : Vec Ideal S48x128 .f32) (ix2 r l) = (entries m c).g (r, l)
    ∧ ((dats m 0 c).after 5 t : Vec Ideal S48x128 .f32) (ix2 r l) = (entries m c).delta (r, l)
    ∧ ((dats m 0 c).after 6 t : Vec Ideal S48x128 .f32) (ix2 r l) = (entries m c).momentum (r, l)
    ∧ ((dats m 0 c).after 7 t : Vec Ideal S48x128 .f32) (ix2 r l) = (entries m c).moment2 (r, l) := by
  rw [after0_4, after0_5, after0_6, after0_7]
  unfold out0_4 out0_5 out0_6 out0_7
  simp only [View.canon_unit_zero (S := S48x128) hz2, View.ld_unit_zero (S := S48x128) hz2]
  unfold Adam.Entries.delta Adam.Entries.momentum Adam.Entries.moment2
  rw [← grad_apply m c t r l, ← readW m c t, ← readM m c t, ← readV m c t]
  refine ⟨rfl, ?_, ?_, ?_⟩ <;> pointwise [k0_pay1, k0_pay6, k0_pay7, k0_pay8] <;> rfl

/-- The four arrays, each whole. -/
theorem finals (c : Dev nD) :
    (dats m 0 c).arrAt 4 cfg0.N = (fun y => (entries m c).g (y 0, y 1) : FVec Ideal S48x128 .f32)
    ∧ (dats m 0 c).arrAt 5 cfg0.N = (fun y => (entries m c).delta (y 0, y 1) : FVec Ideal S48x128 .f32)
    ∧ (dats m 0 c).arrAt 6 cfg0.N = (fun y => (entries m c).momentum (y 0, y 1) : FVec Ideal S48x128 .f32)
    ∧ (dats m 0 c).arrAt 7 cfg0.N = (fun y => (entries m c).moment2 (y 0, y 1) : FVec Ideal S48x128 .f32) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩ <;>
    blk_simp <;> idx_vars y
  · refine (out_all m c t y0 y1).1.trans (congrArg _ (Prod.ext ?_ ?_)) <;> (apply Fin.ext; blk_simp [idx t] <;> simp [idx t])
  · refine (out_all m c t y0 y1).2.1.trans (congrArg _ (Prod.ext ?_ ?_)) <;> (apply Fin.ext; blk_simp [idx t] <;> simp [idx t])
  · refine (out_all m c t y0 y1).2.2.1.trans (congrArg _ (Prod.ext ?_ ?_)) <;> (apply Fin.ext; blk_simp [idx t] <;> simp [idx t])
  · refine (out_all m c t y0 y1).2.2.2.trans (congrArg _ (Prod.ext ?_ ?_)) <;> (apply Fin.ext; blk_simp [idx t] <;> simp [idx t])

/-- A run leaves the four arrays, and its arguments as they were. -/
theorem run_arrays (ρ : Dev nD → PrngReg) :
    θ_run defs (onTc (τ := τ) (main (F := Ideal))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_v3_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1 4, (h c).1 5, (h c).1 6, (h c).1 7,
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩) (run_main m ρ)

end Cert.Kernel7Ideal.Value
-- ==== Proof.AdaBClaim.lean ====
/-
  The claims about the optimiser step of the conditioning bias: the reference's results entry by entry, its frame, and
  that the idealized kernel and the reference leave the same four arrays on every input.
-/
module

public import proofs.«01_k».proof.Proof.AdaBPoint
public import proofs.«01_k».proof.Proof.Gen.Reference7Ideal.Run
public import Idealize.ShloMosaic.Lib.Tactic.CleanTypes
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem

namespace Cert.Reference7Ideal.Value

open Cert.Reference7Ideal Cert.Reference7Ideal.Gen

variable (m : (ℓ : Loc nD τ sig) → Buf (Elt Ideal) ℓ)

/-- The gradient and the state on a device, by row and column of 48 rows of 128. -/
def entries (c : Dev nD) : Adam.Entries (Fin 48 × Fin 128) where
  g := fun i => ∑ k : Fin 32, m ((c.tc : Thread nD τ).loc main_arg0) (ix3 k i.1 i.2)
  w := fun i => m ((c.tc : Thread nD τ).loc main_arg1) (ix2 ⟨i.1.val / 24, by omega⟩ ⟨i.1.val % 24 * 128 + i.2.val, by omega⟩)
  m := fun i => m ((c.tc : Thread nD τ).loc main_arg2) (ix2 ⟨i.1.val / 24, by omega⟩ ⟨i.1.val % 24 * 128 + i.2.val, by omega⟩)
  v := fun i => m ((c.tc : Thread nD τ).loc main_arg3) (ix2 ⟨i.1.val / 24, by omega⟩ ⟨i.1.val % 24 * 128 + i.2.val, by omega⟩)

set_option maxHeartbeats 4000000 in
/-- The four results of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v26) = (fun y => (entries m c).g (y 0, y 1) : FVec Ideal S48x128 .f32)
      ∧ r.2.mem ((c.tc : Thread nD τ).loc main_v27) = (fun y => (entries m c).delta (y 0, y 1) : FVec Ideal S48x128 .f32)
      ∧ r.2.mem ((c.tc : Thread nD τ).loc main_v28) = (fun y => (entries m c).momentum (y 0, y 1) : FVec Ideal S48x128 .f32)
      ∧ r.2.mem ((c.tc : Thread nD τ).loc main_v29) = (fun y => (entries m c).moment2 (y 0, y 1) : FVec Ideal S48x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ?_) (run m ρ)
  obtain ⟨h0, h1, h2, h3, hk⟩ := h c
  refine ⟨h0.trans (funext fun y => ?_), h1.trans (funext fun y => ?_), h2.trans (funext fun y => ?_),
    h3.trans (funext fun y => ?_), hk⟩ <;>
    clear h0 h1 h2 h3 hk h <;> clean_types <;> idx_vars y <;> pointwise <;> rfl

end Cert.Reference7Ideal.Value

namespace Cert.AdaBClaim

/-- The reference leaves its arguments as they were; it has no semaphores. -/
theorem frame_reference : quiescent_Reference7Ideal := fun m ρ _ =>
  (θ_run _ _ _).mono (fun r h => ⟨fun c => (h c).2.2.2.2, sem_eq_zero_of_no_sems rfl r.2⟩)
    (Cert.Reference7Ideal.Value.run_spec m ρ)

/-- Both runs leave the four arrays of the specification at the kernel's arguments. -/
theorem same_results : algebraic_Kernel7Ideal_Reference7Ideal := fun m ρ m' ρ' _ hag => by
  have e : ∀ c, Cert.Reference7Ideal.Value.entries m' c = Cert.Kernel7Ideal.Value.entries m c := fun c => by
    obtain ⟨h0, h1, h2, h3⟩ := hag c
    unfold Cert.Reference7Ideal.Value.entries
    rw [h0, h1, h2, h3]
    rfl
  refine ⟨fun c y => (Cert.Kernel7Ideal.Value.entries m c).g (y 0, y 1),
    fun c y => (Cert.Kernel7Ideal.Value.entries m c).delta (y 0, y 1),
    fun c y => (Cert.Kernel7Ideal.Value.entries m c).momentum (y 0, y 1),
    fun c y => (Cert.Kernel7Ideal.Value.entries m c).moment2 (y 0, y 1),
    (θ_run _ _ _).mono (fun r h c => ?_) (Cert.Kernel7Ideal.Value.run_arrays m ρ),
    (θ_run _ _ _).mono (fun r h c => ?_) (Cert.Reference7Ideal.Value.run_spec m' ρ')⟩
  · obtain ⟨h0, h1, h2, h3, hk⟩ := h c
    obtain ⟨f0, f1, f2, f3⟩ := Cert.Kernel7Ideal.Value.finals m c
    exact ⟨h0.trans f0, h1.trans f1, h2.trans f2, h3.trans f3, hk⟩
  · have hc := h c
    rw [e c] at hc
    exact hc

end Cert.AdaBClaim
-- ==== Proof.LayerPoint.lean ====
/-
  The optimiser step of the first sharded weight (`w_in`) in its first layer: what one grid point reads and writes.
-/
module

public import proofs.«01_k».proof.Proof.Gen.Kernel8Ideal.Value
public import proofs.«01_k».proof.Proof.Adam
public import Idealize.ShloMosaic.Lib.Pointwise
public import Idealize.ShloMosaic.Lib.Pipeline.ValueKit
public import Idealize.ShloMosaic.Lib.Pipeline.ValueKit.Partial
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel8Ideal.Value

open Cert.Kernel8Ideal Cert.Kernel8Ideal.Gen

variable (m : (ℓ : Loc nD τ sig) → Buf (Elt Ideal) ℓ)

/-- Row `r` of point `t`'s block. -/
abbrev rowOf (t : Fin cfg0.N) (r : Fin 256) : Fin 1024 :=
  ⟨t.val * 256 + r.val, by have := r.isLt; have := t.isLt; have : cfg0.N = 4 := N_0; omega⟩

/-- The gradient, the sum of the eight parts, and the first layer's state on a device, by row and column. -/
def entries (c : Dev nD) : Adam.Entries (Fin 1024 × Fin 342) where
  g := fun i => ∑ k : Fin 8, m ((c : Thread nD τ).loc main_arg0) (ix3 k i.1 i.2)
  w := fun i => m ((c : Thread nD τ).loc main_arg1) (ix3 0 i.1 i.2)
  m := fun i => m ((c : Thread nD τ).loc main_arg2) (ix3 0 i.1 i.2)
  v := fun i => m ((c : Thread nD τ).loc main_arg3) (ix3 0 i.1 i.2)

/-- The block of each window at point `t`. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0])

theorem readG (c : Dev nD) (t : Fin cfg0.N) (k : Fin 8) (r : Fin 256) (l : Fin 342) :
    (iblk m c 0 t : Vec Ideal S8x256x342 .bf16) (ix3 k r l) = m ((c : Thread nD τ).loc main_arg0) (ix3 k (rowOf t r) l) := by
  blk_ext [iblk, V, idx t]
theorem readW (c : Dev nD) (t : Fin cfg0.N) (r : Fin 256) (l : Fin 342) :
    (iblk m c 1 t : Vec Ideal S1x256x342 .f32) (ix3 0 r l) = (entries m c).w (rowOf t r, l) := by
  unfold entries; blk_ext [iblk, V, idx t]
theorem readM (c : Dev nD) (t : Fin cfg0.N) (r : Fin 256) (l : Fin 342) :
    (iblk m c 2 t : Vec Ideal S1x256x342 .f32) (ix3 0 r l) = (entries m c).m (rowOf t r, l) := by
  unfold entries; blk_ext [iblk, V, idx t]
theorem readV (c : Dev nD) (t : Fin cfg0.N) (r : Fin 256) (l : Fin 342) :
    (iblk m c 3 t : Vec Ideal S1x256x342 .f32) (ix3 0 r l) = (entries m c).v (rowOf t r, l) := by
  unfold entries; blk_ext [iblk, V, idx t]

/-- What a point leaves in its four output blocks. -/
theorem out_all (c : Dev nD) (t : Fin cfg0.N) (r : Fin 256) (l : Fin 342) :
    ((dats m 0 c).after 4 t : Vec Ideal S1x256x342 .f32) (ix3 0 r l) = (entries m c).g (rowOf t r, l)
    ∧ ((dats m 0 c).after 5 t : Vec Ideal S1x256x342 .f32) (ix3 0 r l) = (entries m c).delta (rowOf t r, l)
    ∧ ((dats m 0 c).after 6 t : Vec Ideal S1x256x342 .f32) (ix3 0 r l) = (entries m c).momentum (rowOf t r, l)
    ∧ ((dats m 0 c).after 7 t : Vec Ideal S1x256x342 .f32) (ix3 0 r l) = (entries m c).moment2 (rowOf t r, l) := by
  rw [after0_4, after0_5, after0_6, after0_7]
  have eg := Fin.sum_univ_eight (M := EReal) fun k : Fin 8 => (m ((c : Thread nD τ).loc main_arg0) (ix3 k (rowOf t r) l))
  unfold outsAt0 Adam.Entries.delta Adam.Entries.momentum Adam.Entries.moment2
  rw [show (entries m c).g (rowOf t r, l) = _ from eg]
  refine ⟨?_, ?_, ?_, ?_⟩ <;> frame_out <;>
    pointwise [k0_pay1, k0_pay2, k0_pay3, k0_pay4, k0_pay5, k0_pay6, k0_pay7, k0_pay8, k0_pay9, k0_pay10] <;>
    simp only [readG, readW, readM, readV]

/-- The four arrays, each whole: the first layer new, the second as it was. -/
theorem finals (c : Dev nD) :
    (dats m 0 c).arrAt 4 cfg0.N = (fun y => if (y 0).val = 0 then (entries m c).g (y 1, y 2)
      else m ((c : Thread nD τ).loc main_arg4) y : FVec Ideal S2x1024x342 .f32)
    ∧ (dats m 0 c).arrAt 5 cfg0.N = (fun y => if (y 0).val = 0 then (entries m c).delta (y 1, y 2)
      else m ((c : Thread nD τ).loc main_arg5) y : FVec Ideal S2x1024x342 .f32)
    ∧ (dats m 0 c).arrAt 6 cfg0.N = (fun y => if (y 0).val = 0 then (entries m c).momentum (y 1, y 2)
      else m ((c : Thread nD τ).loc main_arg6) y : FVec Ideal S2x1024x342 .f32)
    ∧ (dats m 0 c).arrAt 7 cfg0.N = (fun y => if (y 0).val = 0 then (entries m c).moment2 (y 1, y 2)
      else m ((c : Thread nD τ).loc main_arg7) y : FVec Ideal S2x1024x342 .f32) := by
  refine ⟨(dats m 0 c).arrAt_eq_of_coversWhere 4 (fun y => (entries m c).g (y 1, y 2)) (fun β => β (0 : Fin 3) = 0)
      (by decide +kernel) (fun t hf y => ?_) (fun j => by blk_simp [Pipeline.Window.cell_apply]; omega),
    (dats m 0 c).arrAt_eq_of_coversWhere 5 (fun y => (entries m c).delta (y 1, y 2)) (fun β => β (0 : Fin 3) = 0)
      (by decide +kernel) (fun t hf y => ?_) (fun j => by blk_simp [Pipeline.Window.cell_apply]; omega),
    (dats m 0 c).arrAt_eq_of_coversWhere 6 (fun y => (entries m c).momentum (y 1, y 2)) (fun β => β (0 : Fin 3) = 0)
      (by decide +kernel) (fun t hf y => ?_) (fun j => by blk_simp [Pipeline.Window.cell_apply]; omega),
    (dats m 0 c).arrAt_eq_of_coversWhere 7 (fun y => (entries m c).moment2 (y 1, y 2)) (fun β => β (0 : Fin 3) = 0)
      (by decide +kernel) (fun t hf y => ?_) (fun j => by blk_simp [Pipeline.Window.cell_apply]; omega)⟩ <;>
    blk_simp <;> idx_vars y <;> obtain rfl : y0 = 0 := Subsingleton.elim _ _
  · refine (out_all m c t y1 y2).1.trans (congrArg _ (Prod.ext ?_ ?_)) <;> (apply Fin.ext; blk_simp [idx t] <;> simp [idx t])
  · refine (out_all m c t y1 y2).2.1.trans (congrArg _ (Prod.ext ?_ ?_)) <;> (apply Fin.ext; blk_simp [idx t] <;> simp [idx t])
  · refine (out_all m c t y1 y2).2.2.1.trans (congrArg _ (Prod.ext ?_ ?_)) <;> (apply Fin.ext; blk_simp [idx t] <;> simp [idx t])
  · refine (out_all m c t y1 y2).2.2.2.trans (congrArg _ (Prod.ext ?_ ?_)) <;> (apply Fin.ext; blk_simp [idx t] <;> simp [idx t])

end Cert.Kernel8Ideal.Value
-- ==== Proof.LayerClaim.lean ====
/-
  The claims about the optimiser step of the first sharded weight (`w_in`): the reference's results entry by entry, its frame, and
  that the idealized kernel and the reference leave the same four arrays on every input.
-/
module

public import proofs.«01_k».proof.Proof.LayerPoint
public import proofs.«01_k».proof.Proof.Gen.Reference8Ideal.Run
public import Idealize.ShloMosaic.Lib.Tactic.CleanTypes
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem

namespace Cert.Reference8Ideal.Value

open Cert.Reference8Ideal Cert.Reference8Ideal.Gen

variable (m : (ℓ : Loc nD τ sig) → Buf (Elt Ideal) ℓ)

/-- The gradient, the sum of the eight parts, and the first layer's state on a device, by row and column. -/
def entries (c : Dev nD) : Adam.Entries (Fin 1024 × Fin 342) where
  g := fun i => ∑ k : Fin 8, m ((c.tc : Thread nD τ).loc main_arg0) (ix3 k i.1 i.2)
  w := fun i => m ((c.tc : Thread nD τ).loc main_arg1) (ix3 0 i.1 i.2)
  m := fun i => m ((c.tc : Thread nD τ).loc main_arg2) (ix3 0 i.1 i.2)
  v := fun i => m ((c.tc : Thread nD τ).loc main_arg3) (ix3 0 i.1 i.2)

set_option maxHeartbeats 4000000 in
/-- The four results of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v36) = (fun y => if (y 0).val = 0 then (entries m c).g (y 1, y 2)
        else m ((c.tc : Thread nD τ).loc main_arg4) y : FVec Ideal S2x1024x342 .f32)
      ∧ r.2.mem ((c.tc : Thread nD τ).loc main_v41) = (fun y => if (y 0).val = 0 then (entries m c).delta (y 1, y 2)
        else m ((c.tc : Thread nD τ).loc main_arg5) y : FVec Ideal S2x1024x342 .f32)
      ∧ r.2.mem ((c.tc : Thread nD τ).loc main_v46) = (fun y => if (y 0).val = 0 then (entries m c).momentum (y 1, y 2)
        else m ((c.tc : Thread nD τ).loc main_arg6) y : FVec Ideal S2x1024x342 .f32)
      ∧ r.2.mem ((c.tc : Thread nD τ).loc main_v51) = (fun y => if (y 0).val = 0 then (entries m c).moment2 (y 1, y 2)
        else m ((c.tc : Thread nD τ).loc main_arg7) y : FVec Ideal S2x1024x342 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (run m ρ)
  obtain ⟨h0, h1, h2, h3, hk⟩ := h c
  refine ⟨h0.trans (funext fun y => ?_), h1.trans (funext fun y => ?_), h2.trans (funext fun y => ?_),
    h3.trans (funext fun y => ?_), hk⟩ <;>
    clear h0 h1 h2 h3 hk h <;> clean_types <;> idx_vars y <;> pointwise <;>
    (obtain rfl | rfl : y0 = 0 ∨ y0 = 1 := by omega) <;> rfl

end Cert.Reference8Ideal.Value

namespace Cert.LayerClaim

/-- The reference leaves its arguments as they were; it has no semaphores. -/
theorem frame_reference : quiescent_Reference8Ideal := fun m ρ _ =>
  (θ_run _ _ _).mono (fun r h => ⟨fun c => (h c).2.2.2.2, sem_eq_zero_of_no_sems rfl r.2⟩)
    (Cert.Reference8Ideal.Value.run_spec m ρ)

/-- Both runs leave the four arrays of the specification at the kernel's arguments. -/
theorem same_results : algebraic_Kernel8Ideal_Reference8Ideal := fun m ρ m' ρ' _ hag => by
  refine ⟨fun c => (Cert.Kernel8Ideal.Gen.dats m 0 c).arrAt 4 Cert.Kernel8Ideal.cfg0.N,
    fun c => (Cert.Kernel8Ideal.Gen.dats m 0 c).arrAt 5 Cert.Kernel8Ideal.cfg0.N,
    fun c => (Cert.Kernel8Ideal.Gen.dats m 0 c).arrAt 6 Cert.Kernel8Ideal.cfg0.N,
    fun c => (Cert.Kernel8Ideal.Gen.dats m 0 c).arrAt 7 Cert.Kernel8Ideal.cfg0.N,
    Cert.Kernel8Ideal.Value.run_blocks m ρ,
    (θ_run _ _ _).mono (fun r h c => ?_) (Cert.Reference8Ideal.Value.run_spec m' ρ')⟩
  obtain ⟨h0, h1, h2, h3, hk⟩ := h c
  obtain ⟨f0, f1, f2, f3⟩ := Cert.Kernel8Ideal.Value.finals m c
  obtain ⟨a0, a1, a2, a3, a4, a5, a6, a7⟩ := hag c
  have e : Cert.Reference8Ideal.Value.entries m' c = Cert.Kernel8Ideal.Value.entries m c := by
    unfold Cert.Reference8Ideal.Value.entries
    rw [a0, a1, a2, a3]
    rfl
  rw [e] at h0 h1 h2 h3
  rw [a4] at h0; rw [a5] at h1; rw [a6] at h2; rw [a7] at h3
  exact ⟨h0.trans f0.symm, h1.trans f1.symm, h2.trans f2.symm, h3.trans f3.symm, hk⟩

end Cert.LayerClaim
-- ==== Proof.LayerUqPoint.lean ====
/-
  The optimiser step of the second sharded weight (`w_uq`) in its first layer: what one grid point reads and writes.
-/
module

public import proofs.«01_k».proof.Proof.Gen.Kernel9Ideal.Value
public import proofs.«01_k».proof.Proof.Adam
public import Idealize.ShloMosaic.Lib.Pointwise
public import Idealize.ShloMosaic.Lib.Pipeline.ValueKit
public import Idealize.ShloMosaic.Lib.Pipeline.ValueKit.Partial
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel9Ideal.Value

open Cert.Kernel9Ideal Cert.Kernel9Ideal.Gen

variable (m : (ℓ : Loc nD τ sig) → Buf (Elt Ideal) ℓ)

/-- Row `r` of point `t`'s block. -/
abbrev rowOf (t : Fin cfg0.N) (r : Fin 256) : Fin 256 :=
  ⟨t.val * 256 + r.val, by have := r.isLt; have := t.isLt; have : cfg0.N = 1 := N_0; omega⟩

/-- The gradient, the sum of the eight parts, and the first layer's state on a device, by row and column. -/
def entries (c : Dev nD) : Adam.Entries (Fin 256 × Fin 96) where
  g := fun i => ∑ k : Fin 8, m ((c : Thread nD τ).loc main_arg0) (ix3 k i.1 i.2)
  w := fun i => m ((c : Thread nD τ).loc main_arg1) (ix3 0 i.1 i.2)
  m := fun i => m ((c : Thread nD τ).loc main_arg2) (ix3 0 i.1 i.2)
  v := fun i => m ((c : Thread nD τ).loc main_arg3) (ix3 0 i.1 i.2)

/-- The block of each window at point `t`. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0])

theorem readG (c : Dev nD) (t : Fin cfg0.N) (k : Fin 8) (r : Fin 256) (l : Fin 96) :
    (iblk m c 0 t : Vec Ideal S8x256x96 .bf16) (ix3 k r l) = m ((c : Thread nD τ).loc main_arg0) (ix3 k (rowOf t r) l) := by
  blk_ext [iblk, V, idx t]
theorem readW (c : Dev nD) (t : Fin cfg0.N) (r : Fin 256) (l : Fin 96) :
    (iblk m c 1 t : Vec Ideal S1x256x96 .f32) (ix3 0 r l) = (entries m c).w (rowOf t r, l) := by
  unfold entries; blk_ext [iblk, V, idx t]
theorem readM (c : Dev nD) (t : Fin cfg0.N) (r : Fin 256) (l : Fin 96) :
    (iblk m c 2 t : Vec Ideal S1x256x96 .f32) (ix3 0 r l) = (entries m c).m (rowOf t r, l) := by
  unfold entries; blk_ext [iblk, V, idx t]
theorem readV (c : Dev nD) (t : Fin cfg0.N) (r : Fin 256) (l : Fin 96) :
    (iblk m c 3 t : Vec Ideal S1x256x96 .f32) (ix3 0 r l) = (entries m c).v (rowOf t r, l) := by
  unfold entries; blk_ext [iblk, V, idx t]

/-- What a point leaves in its four output blocks. -/
theorem out_all (c : Dev nD) (t : Fin cfg0.N) (r : Fin 256) (l : Fin 96) :
    ((dats m 0 c).after 4 t : Vec Ideal S1x256x96 .f32) (ix3 0 r l) = (entries m c).g (rowOf t r, l)
    ∧ ((dats m 0 c).after 5 t : Vec Ideal S1x256x96 .f32) (ix3 0 r l) = (entries m c).delta (rowOf t r, l)
    ∧ ((dats m 0 c).after 6 t : Vec Ideal S1x256x96 .f32) (ix3 0 r l) = (entries m c).momentum (rowOf t r, l)
    ∧ ((dats m 0 c).after 7 t : Vec Ideal S1x256x96 .f32) (ix3 0 r l) = (entries m c).moment2 (rowOf t r, l) := by
  rw [after0_4, after0_5, after0_6, after0_7]
  have eg := Fin.sum_univ_eight (M := EReal) fun k : Fin 8 => (m ((c : Thread nD τ).loc main_arg0) (ix3 k (rowOf t r) l))
  unfold outsAt0 Adam.Entries.delta Adam.Entries.momentum Adam.Entries.moment2
  rw [show (entries m c).g (rowOf t r, l) = _ from eg]
  refine ⟨?_, ?_, ?_, ?_⟩ <;> frame_out <;>
    pointwise [k0_pay1, k0_pay2, k0_pay3, k0_pay4, k0_pay5, k0_pay6, k0_pay7, k0_pay8, k0_pay9, k0_pay10] <;>
    simp only [readG, readW, readM, readV]

/-- The four arrays, each whole: the first layer new, the second as it was. -/
theorem finals (c : Dev nD) :
    (dats m 0 c).arrAt 4 cfg0.N = (fun y => if (y 0).val = 0 then (entries m c).g (y 1, y 2)
      else m ((c : Thread nD τ).loc main_arg4) y : FVec Ideal S2x256x96 .f32)
    ∧ (dats m 0 c).arrAt 5 cfg0.N = (fun y => if (y 0).val = 0 then (entries m c).delta (y 1, y 2)
      else m ((c : Thread nD τ).loc main_arg5) y : FVec Ideal S2x256x96 .f32)
    ∧ (dats m 0 c).arrAt 6 cfg0.N = (fun y => if (y 0).val = 0 then (entries m c).momentum (y 1, y 2)
      else m ((c : Thread nD τ).loc main_arg6) y : FVec Ideal S2x256x96 .f32)
    ∧ (dats m 0 c).arrAt 7 cfg0.N = (fun y => if (y 0).val = 0 then (entries m c).moment2 (y 1, y 2)
      else m ((c : Thread nD τ).loc main_arg7) y : FVec Ideal S2x256x96 .f32) := by
  refine ⟨(dats m 0 c).arrAt_eq_of_coversWhere 4 (fun y => (entries m c).g (y 1, y 2)) (fun β => β (0 : Fin 3) = 0)
      (by decide +kernel) (fun t hf y => ?_) (fun j => by blk_simp [Pipeline.Window.cell_apply]; omega),
    (dats m 0 c).arrAt_eq_of_coversWhere 5 (fun y => (entries m c).delta (y 1, y 2)) (fun β => β (0 : Fin 3) = 0)
      (by decide +kernel) (fun t hf y => ?_) (fun j => by blk_simp [Pipeline.Window.cell_apply]; omega),
    (dats m 0 c).arrAt_eq_of_coversWhere 6 (fun y => (entries m c).momentum (y 1, y 2)) (fun β => β (0 : Fin 3) = 0)
      (by decide +kernel) (fun t hf y => ?_) (fun j => by blk_simp [Pipeline.Window.cell_apply]; omega),
    (dats m 0 c).arrAt_eq_of_coversWhere 7 (fun y => (entries m c).moment2 (y 1, y 2)) (fun β => β (0 : Fin 3) = 0)
      (by decide +kernel) (fun t hf y => ?_) (fun j => by blk_simp [Pipeline.Window.cell_apply]; omega)⟩ <;>
    blk_simp <;> idx_vars y <;> obtain rfl : y0 = 0 := Subsingleton.elim _ _
  · refine (out_all m c t y1 y2).1.trans (congrArg _ (Prod.ext ?_ ?_)) <;> (apply Fin.ext; blk_simp [idx t] <;> simp [idx t])
  · refine (out_all m c t y1 y2).2.1.trans (congrArg _ (Prod.ext ?_ ?_)) <;> (apply Fin.ext; blk_simp [idx t] <;> simp [idx t])
  · refine (out_all m c t y1 y2).2.2.1.trans (congrArg _ (Prod.ext ?_ ?_)) <;> (apply Fin.ext; blk_simp [idx t] <;> simp [idx t])
  · refine (out_all m c t y1 y2).2.2.2.trans (congrArg _ (Prod.ext ?_ ?_)) <;> (apply Fin.ext; blk_simp [idx t] <;> simp [idx t])

end Cert.Kernel9Ideal.Value
-- ==== Proof.LayerUqClaim.lean ====
/-
  The claims about the optimiser step of the second sharded weight (`w_uq`): the reference's results entry by entry, its frame, and
  that the idealized kernel and the reference leave the same four arrays on every input.
-/
module

public import proofs.«01_k».proof.Proof.LayerUqPoint
public import proofs.«01_k».proof.Proof.Gen.Reference9Ideal.Run
public import Idealize.ShloMosaic.Lib.Tactic.CleanTypes
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem

namespace Cert.Reference9Ideal.Value

open Cert.Reference9Ideal Cert.Reference9Ideal.Gen

variable (m : (ℓ : Loc nD τ sig) → Buf (Elt Ideal) ℓ)

/-- The gradient, the sum of the eight parts, and the first layer's state on a device, by row and column. -/
def entries (c : Dev nD) : Adam.Entries (Fin 256 × Fin 96) where
  g := fun i => ∑ k : Fin 8, m ((c.tc : Thread nD τ).loc main_arg0) (ix3 k i.1 i.2)
  w := fun i => m ((c.tc : Thread nD τ).loc main_arg1) (ix3 0 i.1 i.2)
  m := fun i => m ((c.tc : Thread nD τ).loc main_arg2) (ix3 0 i.1 i.2)
  v := fun i => m ((c.tc : Thread nD τ).loc main_arg3) (ix3 0 i.1 i.2)

set_option maxHeartbeats 4000000 in
/-- The four results of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v36) = (fun y => if (y 0).val = 0 then (entries m c).g (y 1, y 2)
        else m ((c.tc : Thread nD τ).loc main_arg4) y : FVec Ideal S2x256x96 .f32)
      ∧ r.2.mem ((c.tc : Thread nD τ).loc main_v41) = (fun y => if (y 0).val = 0 then (entries m c).delta (y 1, y 2)
        else m ((c.tc : Thread nD τ).loc main_arg5) y : FVec Ideal S2x256x96 .f32)
      ∧ r.2.mem ((c.tc : Thread nD τ).loc main_v46) = (fun y => if (y 0).val = 0 then (entries m c).momentum (y 1, y 2)
        else m ((c.tc : Thread nD τ).loc main_arg6) y : FVec Ideal S2x256x96 .f32)
      ∧ r.2.mem ((c.tc : Thread nD τ).loc main_v51) = (fun y => if (y 0).val = 0 then (entries m c).moment2 (y 1, y 2)
        else m ((c.tc : Thread nD τ).loc main_arg7) y : FVec Ideal S2x256x96 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (run m ρ)
  obtain ⟨h0, h1, h2, h3, hk⟩ := h c
  refine ⟨h0.trans (funext fun y => ?_), h1.trans (funext fun y => ?_), h2.trans (funext fun y => ?_),
    h3.trans (funext fun y => ?_), hk⟩ <;>
    clear h0 h1 h2 h3 hk h <;> clean_types <;> idx_vars y <;> pointwise <;>
    (obtain rfl | rfl : y0 = 0 ∨ y0 = 1 := by omega) <;> rfl

end Cert.Reference9Ideal.Value

namespace Cert.LayerUqClaim

/-- The reference leaves its arguments as they were; it has no semaphores. -/
theorem frame_reference : quiescent_Reference9Ideal := fun m ρ _ =>
  (θ_run _ _ _).mono (fun r h => ⟨fun c => (h c).2.2.2.2, sem_eq_zero_of_no_sems rfl r.2⟩)
    (Cert.Reference9Ideal.Value.run_spec m ρ)

/-- Both runs leave the four arrays of the specification at the kernel's arguments. -/
theorem same_results : algebraic_Kernel9Ideal_Reference9Ideal := fun m ρ m' ρ' _ hag => by
  refine ⟨fun c => (Cert.Kernel9Ideal.Gen.dats m 0 c).arrAt 4 Cert.Kernel9Ideal.cfg0.N,
    fun c => (Cert.Kernel9Ideal.Gen.dats m 0 c).arrAt 5 Cert.Kernel9Ideal.cfg0.N,
    fun c => (Cert.Kernel9Ideal.Gen.dats m 0 c).arrAt 6 Cert.Kernel9Ideal.cfg0.N,
    fun c => (Cert.Kernel9Ideal.Gen.dats m 0 c).arrAt 7 Cert.Kernel9Ideal.cfg0.N,
    Cert.Kernel9Ideal.Value.run_blocks m ρ,
    (θ_run _ _ _).mono (fun r h c => ?_) (Cert.Reference9Ideal.Value.run_spec m' ρ')⟩
  obtain ⟨h0, h1, h2, h3, hk⟩ := h c
  obtain ⟨f0, f1, f2, f3⟩ := Cert.Kernel9Ideal.Value.finals m c
  obtain ⟨a0, a1, a2, a3, a4, a5, a6, a7⟩ := hag c
  have e : Cert.Reference9Ideal.Value.entries m' c = Cert.Kernel9Ideal.Value.entries m c := by
    unfold Cert.Reference9Ideal.Value.entries
    rw [a0, a1, a2, a3]
    rfl
  rw [e] at h0 h1 h2 h3
  rw [a4] at h0; rw [a5] at h1; rw [a6] at h2; rw [a7] at h3
  exact ⟨h0.trans f0.symm, h1.trans f1.symm, h2.trans f2.symm, h3.trans f3.symm, hk⟩

end Cert.LayerUqClaim
-- ==== Proof.LayerUkvPoint.lean ====
/-
  The optimiser step of the third sharded weight (`w_ukv`) in its first layer: what one grid point reads and writes.
-/
module

public import proofs.«01_k».proof.Proof.Gen.Kernel10Ideal.Value
public import proofs.«01_k».proof.Proof.Adam
public import Idealize.ShloMosaic.Lib.Pointwise
public import Idealize.ShloMosaic.Lib.Pipeline.ValueKit
public import Idealize.ShloMosaic.Lib.Pipeline.ValueKit.Partial
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel10Ideal.Value

open Cert.Kernel10Ideal Cert.Kernel10Ideal.Gen

variable (m : (ℓ : Loc nD τ sig) → Buf (Elt Ideal) ℓ)

/-- Row `r` of point `t`'s block. -/
abbrev rowOf (t : Fin cfg0.N) (r : Fin 128) : Fin 128 :=
  ⟨t.val * 128 + r.val, by have := r.isLt; have := t.isLt; have : cfg0.N = 1 := N_0; omega⟩

/-- The gradient, the sum of the eight parts, and the first layer's state on a device, by row and column. -/
def entries (c : Dev nD) : Adam.Entries (Fin 128 × Fin 128) where
  g := fun i => ∑ k : Fin 8, m ((c : Thread nD τ).loc main_arg0) (ix3 k i.1 i.2)
  w := fun i => m ((c : Thread nD τ).loc main_arg1) (ix3 0 i.1 i.2)
  m := fun i => m ((c : Thread nD τ).loc main_arg2) (ix3 0 i.1 i.2)
  v := fun i => m ((c : Thread nD τ).loc main_arg3) (ix3 0 i.1 i.2)

/-- The block of each window at point `t`. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0])

theorem readG (c : Dev nD) (t : Fin cfg0.N) (k : Fin 8) (r : Fin 128) (l : Fin 128) :
    (iblk m c 0 t : Vec Ideal S8x128x128 .bf16) (ix3 k r l) = m ((c : Thread nD τ).loc main_arg0) (ix3 k (rowOf t r) l) := by
  blk_ext [iblk, V, idx t]
theorem readW (c : Dev nD) (t : Fin cfg0.N) (r : Fin 128) (l : Fin 128) :
    (iblk m c 1 t : Vec Ideal S1x128x128 .f32) (ix3 0 r l) = (entries m c).w (rowOf t r, l) := by
  unfold entries; blk_ext [iblk, V, idx t]
theorem readM (c : Dev nD) (t : Fin cfg0.N) (r : Fin 128) (l : Fin 128) :
    (iblk m c 2 t : Vec Ideal S1x128x128 .f32) (ix3 0 r l) = (entries m c).m (rowOf t r, l) := by
  unfold entries; blk_ext [iblk, V, idx t]
theorem readV (c : Dev nD) (t : Fin cfg0.N) (r : Fin 128) (l : Fin 128) :
    (iblk m c 3 t : Vec Ideal S1x128x128 .f32) (ix3 0 r l) = (entries m c).v (rowOf t r, l) := by
  unfold entries; blk_ext [iblk, V, idx t]

/-- What a point leaves in its four output blocks. -/
theorem out_all (c : Dev nD) (t : Fin cfg0.N) (r : Fin 128) (l : Fin 128) :
    ((dats m 0 c).after 4 t : Vec Ideal S1x128x128 .f32) (ix3 0 r l) = (entries m c).g (rowOf t r, l)
    ∧ ((dats m 0 c).after 5 t : Vec Ideal S1x128x128 .f32) (ix3 0 r l) = (entries m c).delta (rowOf t r, l)
    ∧ ((dats m 0 c).after 6 t : Vec Ideal S1x128x128 .f32) (ix3 0 r l) = (entries m c).momentum (rowOf t r, l)
    ∧ ((dats m 0 c).after 7 t : Vec Ideal S1x128x128 .f32) (ix3 0 r l) = (entries m c).moment2 (rowOf t r, l) := by
  rw [after0_4, after0_5, after0_6, after0_7]
  have eg := Fin.sum_univ_eight (M := EReal) fun k : Fin 8 => (m ((c : Thread nD τ).loc main_arg0) (ix3 k (rowOf t r) l))
  unfold outsAt0 Adam.Entries.delta Adam.Entries.momentum Adam.Entries.moment2
  rw [show (entries m c).g (rowOf t r, l) = _ from eg]
  refine ⟨?_, ?_, ?_, ?_⟩ <;> frame_out <;>
    pointwise [k0_pay1, k0_pay2, k0_pay3, k0_pay4, k0_pay5, k0_pay6, k0_pay7, k0_pay8, k0_pay9, k0_pay10] <;>
    simp only [readG, readW, readM, readV]

/-- The four arrays, each whole: the first layer new, the second as it was. -/
theorem finals (c : Dev nD) :
    (dats m 0 c).arrAt 4 cfg0.N = (fun y => if (y 0).val = 0 then (entries m c).g (y 1, y 2)
      else m ((c : Thread nD τ).loc main_arg4) y : FVec Ideal S2x128x128 .f32)
    ∧ (dats m 0 c).arrAt 5 cfg0.N = (fun y => if (y 0).val = 0 then (entries m c).delta (y 1, y 2)
      else m ((c : Thread nD τ).loc main_arg5) y : FVec Ideal S2x128x128 .f32)
    ∧ (dats m 0 c).arrAt 6 cfg0.N = (fun y => if (y 0).val = 0 then (entries m c).momentum (y 1, y 2)
      else m ((c : Thread nD τ).loc main_arg6) y : FVec Ideal S2x128x128 .f32)
    ∧ (dats m 0 c).arrAt 7 cfg0.N = (fun y => if (y 0).val = 0 then (entries m c).moment2 (y 1, y 2)
      else m ((c : Thread nD τ).loc main_arg7) y : FVec Ideal S2x128x128 .f32) := by
  refine ⟨(dats m 0 c).arrAt_eq_of_coversWhere 4 (fun y => (entries m c).g (y 1, y 2)) (fun β => β (0 : Fin 3) = 0)
      (by decide +kernel) (fun t hf y => ?_) (fun j => by blk_simp [Pipeline.Window.cell_apply]; omega),
    (dats m 0 c).arrAt_eq_of_coversWhere 5 (fun y => (entries m c).delta (y 1, y 2)) (fun β => β (0 : Fin 3) = 0)
      (by decide +kernel) (fun t hf y => ?_) (fun j => by blk_simp [Pipeline.Window.cell_apply]; omega),
    (dats m 0 c).arrAt_eq_of_coversWhere 6 (fun y => (entries m c).momentum (y 1, y 2)) (fun β => β (0 : Fin 3) = 0)
      (by decide +kernel) (fun t hf y => ?_) (fun j => by blk_simp [Pipeline.Window.cell_apply]; omega),
    (dats m 0 c).arrAt_eq_of_coversWhere 7 (fun y => (entries m c).moment2 (y 1, y 2)) (fun β => β (0 : Fin 3) = 0)
      (by decide +kernel) (fun t hf y => ?_) (fun j => by blk_simp [Pipeline.Window.cell_apply]; omega)⟩ <;>
    blk_simp <;> idx_vars y <;> obtain rfl : y0 = 0 := Subsingleton.elim _ _
  · refine (out_all m c t y1 y2).1.trans (congrArg _ (Prod.ext ?_ ?_)) <;> (apply Fin.ext; blk_simp [idx t] <;> simp [idx t])
  · refine (out_all m c t y1 y2).2.1.trans (congrArg _ (Prod.ext ?_ ?_)) <;> (apply Fin.ext; blk_simp [idx t] <;> simp [idx t])
  · refine (out_all m c t y1 y2).2.2.1.trans (congrArg _ (Prod.ext ?_ ?_)) <;> (apply Fin.ext; blk_simp [idx t] <;> simp [idx t])
  · refine (out_all m c t y1 y2).2.2.2.trans (congrArg _ (Prod.ext ?_ ?_)) <;> (apply Fin.ext; blk_simp [idx t] <;> simp [idx t])

end Cert.Kernel10Ideal.Value
-- ==== Proof.LayerUkvClaim.lean ====
/-
  The claims about the optimiser step of the third sharded weight (`w_ukv`): the reference's results entry by entry, its frame, and
  that the idealized kernel and the reference leave the same four arrays on every input.
-/
module

public import proofs.«01_k».proof.Proof.LayerUkvPoint
public import proofs.«01_k».proof.Proof.Gen.Reference10Ideal.Run
public import Idealize.ShloMosaic.Lib.Tactic.CleanTypes
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem

namespace Cert.Reference10Ideal.Value

open Cert.Reference10Ideal Cert.Reference10Ideal.Gen

variable (m : (ℓ : Loc nD τ sig) → Buf (Elt Ideal) ℓ)

/-- The gradient, the sum of the eight parts, and the first layer's state on a device, by row and column. -/
def entries (c : Dev nD) : Adam.Entries (Fin 128 × Fin 128) where
  g := fun i => ∑ k : Fin 8, m ((c.tc : Thread nD τ).loc main_arg0) (ix3 k i.1 i.2)
  w := fun i => m ((c.tc : Thread nD τ).loc main_arg1) (ix3 0 i.1 i.2)
  m := fun i => m ((c.tc : Thread nD τ).loc main_arg2) (ix3 0 i.1 i.2)
  v := fun i => m ((c.tc : Thread nD τ).loc main_arg3) (ix3 0 i.1 i.2)

set_option maxHeartbeats 4000000 in
/-- The four results of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v36) = (fun y => if (y 0).val = 0 then (entries m c).g (y 1, y 2)
        else m ((c.tc : Thread nD τ).loc main_arg4) y : FVec Ideal S2x128x128 .f32)
      ∧ r.2.mem ((c.tc : Thread nD τ).loc main_v41) = (fun y => if (y 0).val = 0 then (entries m c).delta (y 1, y 2)
        else m ((c.tc : Thread nD τ).loc main_arg5) y : FVec Ideal S2x128x128 .f32)
      ∧ r.2.mem ((c.tc : Thread nD τ).loc main_v46) = (fun y => if (y 0).val = 0 then (entries m c).momentum (y 1, y 2)
        else m ((c.tc : Thread nD τ).loc main_arg6) y : FVec Ideal S2x128x128 .f32)
      ∧ r.2.mem ((c.tc : Thread nD τ).loc main_v51) = (fun y => if (y 0).val = 0 then (entries m c).moment2 (y 1, y 2)
        else m ((c.tc : Thread nD τ).loc main_arg7) y : FVec Ideal S2x128x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (run m ρ)
  obtain ⟨h0, h1, h2, h3, hk⟩ := h c
  refine ⟨h0.trans (funext fun y => ?_), h1.trans (funext fun y => ?_), h2.trans (funext fun y => ?_),
    h3.trans (funext fun y => ?_), hk⟩ <;>
    clear h0 h1 h2 h3 hk h <;> clean_types <;> idx_vars y <;> pointwise <;>
    (obtain rfl | rfl : y0 = 0 ∨ y0 = 1 := by omega) <;> rfl

end Cert.Reference10Ideal.Value

namespace Cert.LayerUkvClaim

/-- The reference leaves its arguments as they were; it has no semaphores. -/
theorem frame_reference : quiescent_Reference10Ideal := fun m ρ _ =>
  (θ_run _ _ _).mono (fun r h => ⟨fun c => (h c).2.2.2.2, sem_eq_zero_of_no_sems rfl r.2⟩)
    (Cert.Reference10Ideal.Value.run_spec m ρ)

/-- Both runs leave the four arrays of the specification at the kernel's arguments. -/
theorem same_results : algebraic_Kernel10Ideal_Reference10Ideal := fun m ρ m' ρ' _ hag => by
  refine ⟨fun c => (Cert.Kernel10Ideal.Gen.dats m 0 c).arrAt 4 Cert.Kernel10Ideal.cfg0.N,
    fun c => (Cert.Kernel10Ideal.Gen.dats m 0 c).arrAt 5 Cert.Kernel10Ideal.cfg0.N,
    fun c => (Cert.Kernel10Ideal.Gen.dats m 0 c).arrAt 6 Cert.Kernel10Ideal.cfg0.N,
    fun c => (Cert.Kernel10Ideal.Gen.dats m 0 c).arrAt 7 Cert.Kernel10Ideal.cfg0.N,
    Cert.Kernel10Ideal.Value.run_blocks m ρ,
    (θ_run _ _ _).mono (fun r h c => ?_) (Cert.Reference10Ideal.Value.run_spec m' ρ')⟩
  obtain ⟨h0, h1, h2, h3, hk⟩ := h c
  obtain ⟨f0, f1, f2, f3⟩ := Cert.Kernel10Ideal.Value.finals m c
  obtain ⟨a0, a1, a2, a3, a4, a5, a6, a7⟩ := hag c
  have e : Cert.Reference10Ideal.Value.entries m' c = Cert.Kernel10Ideal.Value.entries m c := by
    unfold Cert.Reference10Ideal.Value.entries
    rw [a0, a1, a2, a3]
    rfl
  rw [e] at h0 h1 h2 h3
  rw [a4] at h0; rw [a5] at h1; rw [a6] at h2; rw [a7] at h3
  exact ⟨h0.trans f0.symm, h1.trans f1.symm, h2.trans f2.symm, h3.trans f3.symm, hk⟩

end Cert.LayerUkvClaim
-- ==== Proof.LayerOutPoint.lean ====
/-
  The optimiser step of the fourth sharded weight (`w_out`) in its first layer: what one grid point reads and writes.
-/
module

public import proofs.«01_k».proof.Proof.Gen.Kernel11Ideal.Value
public import proofs.«01_k».proof.Proof.Adam
public import Idealize.ShloMosaic.Lib.Pointwise
public import Idealize.ShloMosaic.Lib.Pipeline.ValueKit
public import Idealize.ShloMosaic.Lib.Pipeline.ValueKit.Partial
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.Kernel11Ideal.Value

open Cert.Kernel11Ideal Cert.Kernel11Ideal.Gen

variable (m : (ℓ : Loc nD τ sig) → Buf (Elt Ideal) ℓ)

/-- Row `r` of point `t`'s block. -/
abbrev rowOf (t : Fin cfg0.N) (r : Fin 128) : Fin 128 :=
  ⟨t.val * 128 + r.val, by have := r.isLt; have := t.isLt; have : cfg0.N = 1 := N_0; omega⟩

/-- The gradient, the sum of the eight parts, and the first layer's state on a device, by row and column. -/
def entries (c : Dev nD) : Adam.Entries (Fin 128 × Fin 1024) where
  g := fun i => ∑ k : Fin 8, m ((c : Thread nD τ).loc main_arg0) (ix3 k i.1 i.2)
  w := fun i => m ((c : Thread nD τ).loc main_arg1) (ix3 0 i.1 i.2)
  m := fun i => m ((c : Thread nD τ).loc main_arg2) (ix3 0 i.1 i.2)
  v := fun i => m ((c : Thread nD τ).loc main_arg3) (ix3 0 i.1 i.2)

/-- The block of each window at point `t`. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0])

theorem readG (c : Dev nD) (t : Fin cfg0.N) (k : Fin 8) (r : Fin 128) (l : Fin 1024) :
    (iblk m c 0 t : Vec Ideal S8x128x1024 .bf16) (ix3 k r l) = m ((c : Thread nD τ).loc main_arg0) (ix3 k (rowOf t r) l) := by
  blk_ext [iblk, V, idx t]
theorem readW (c : Dev nD) (t : Fin cfg0.N) (r : Fin 128) (l : Fin 1024) :
    (iblk m c 1 t : Vec Ideal S1x128x1024 .f32) (ix3 0 r l) = (entries m c).w (rowOf t r, l) := by
  unfold entries; blk_ext [iblk, V, idx t]
theorem readM (c : Dev nD) (t : Fin cfg0.N) (r : Fin 128) (l : Fin 1024) :
    (iblk m c 2 t : Vec Ideal S1x128x1024 .f32) (ix3 0 r l) = (entries m c).m (rowOf t r, l) := by
  unfold entries; blk_ext [iblk, V, idx t]
theorem readV (c : Dev nD) (t : Fin cfg0.N) (r : Fin 128) (l : Fin 1024) :
    (iblk m c 3 t : Vec Ideal S1x128x1024 .f32) (ix3 0 r l) = (entries m c).v (rowOf t r, l) := by
  unfold entries; blk_ext [iblk, V, idx t]

/-- What a point leaves in its four output blocks. -/
theorem out_all (c : Dev nD) (t : Fin cfg0.N) (r : Fin 128) (l : Fin 1024) :
    ((dats m 0 c).after 4 t : Vec Ideal S1x128x1024 .f32) (ix3 0 r l) = (entries m c).g (rowOf t r, l)
    ∧ ((dats m 0 c).after 5 t : Vec Ideal S1x128x1024 .f32) (ix3 0 r l) = (entries m c).delta (rowOf t r, l)
    ∧ ((dats m 0 c).after 6 t : Vec Ideal S1x128x1024 .f32) (ix3 0 r l) = (entries m c).momentum (rowOf t r, l)
    ∧ ((dats m 0 c).after 7 t : Vec Ideal S1x128x1024 .f32) (ix3 0 r l) = (entries m c).moment2 (rowOf t r, l) := by
  rw [after0_4, after0_5, after0_6, after0_7]
  have eg := Fin.sum_univ_eight (M := EReal) fun k : Fin 8 => (m ((c : Thread nD τ).loc main_arg0) (ix3 k (rowOf t r) l))
  unfold outsAt0 Adam.Entries.delta Adam.Entries.momentum Adam.Entries.moment2
  rw [show (entries m c).g (rowOf t r, l) = _ from eg]
  refine ⟨?_, ?_, ?_, ?_⟩ <;> frame_out <;>
    pointwise [k0_pay1, k0_pay2, k0_pay3, k0_pay4, k0_pay5, k0_pay6, k0_pay7, k0_pay8, k0_pay9, k0_pay10] <;>
    simp only [readG, readW, readM, readV]

/-- The four arrays, each whole: the first layer new, the second as it was. -/
theorem finals (c : Dev nD) :
    (dats m 0 c).arrAt 4 cfg0.N = (fun y => if (y 0).val = 0 then (entries m c).g (y 1, y 2)
      else m ((c : Thread nD τ).loc main_arg4) y : FVec Ideal S2x128x1024 .f32)
    ∧ (dats m 0 c).arrAt 5 cfg0.N = (fun y => if (y 0).val = 0 then (entries m c).delta (y 1, y 2)
      else m ((c : Thread nD τ).loc main_arg5) y : FVec Ideal S2x128x1024 .f32)
    ∧ (dats m 0 c).arrAt 6 cfg0.N = (fun y => if (y 0).val = 0 then (entries m c).momentum (y 1, y 2)
      else m ((c : Thread nD τ).loc main_arg6) y : FVec Ideal S2x128x1024 .f32)
    ∧ (dats m 0 c).arrAt 7 cfg0.N = (fun y => if (y 0).val = 0 then (entries m c).moment2 (y 1, y 2)
      else m ((c : Thread nD τ).loc main_arg7) y : FVec Ideal S2x128x1024 .f32) := by
  refine ⟨(dats m 0 c).arrAt_eq_of_coversWhere 4 (fun y => (entries m c).g (y 1, y 2)) (fun β => β (0 : Fin 3) = 0)
      (by decide +kernel) (fun t hf y => ?_) (fun j => by blk_simp [Pipeline.Window.cell_apply]; omega),
    (dats m 0 c).arrAt_eq_of_coversWhere 5 (fun y => (entries m c).delta (y 1, y 2)) (fun β => β (0 : Fin 3) = 0)
      (by decide +kernel) (fun t hf y => ?_) (fun j => by blk_simp [Pipeline.Window.cell_apply]; omega),
    (dats m 0 c).arrAt_eq_of_coversWhere 6 (fun y => (entries m c).momentum (y 1, y 2)) (fun β => β (0 : Fin 3) = 0)
      (by decide +kernel) (fun t hf y => ?_) (fun j => by blk_simp [Pipeline.Window.cell_apply]; omega),
    (dats m 0 c).arrAt_eq_of_coversWhere 7 (fun y => (entries m c).moment2 (y 1, y 2)) (fun β => β (0 : Fin 3) = 0)
      (by decide +kernel) (fun t hf y => ?_) (fun j => by blk_simp [Pipeline.Window.cell_apply]; omega)⟩ <;>
    blk_simp <;> idx_vars y <;> obtain rfl : y0 = 0 := Subsingleton.elim _ _
  · refine (out_all m c t y1 y2).1.trans (congrArg _ (Prod.ext ?_ ?_)) <;> (apply Fin.ext; blk_simp [idx t] <;> simp [idx t])
  · refine (out_all m c t y1 y2).2.1.trans (congrArg _ (Prod.ext ?_ ?_)) <;> (apply Fin.ext; blk_simp [idx t] <;> simp [idx t])
  · refine (out_all m c t y1 y2).2.2.1.trans (congrArg _ (Prod.ext ?_ ?_)) <;> (apply Fin.ext; blk_simp [idx t] <;> simp [idx t])
  · refine (out_all m c t y1 y2).2.2.2.trans (congrArg _ (Prod.ext ?_ ?_)) <;> (apply Fin.ext; blk_simp [idx t] <;> simp [idx t])

end Cert.Kernel11Ideal.Value
-- ==== Proof.LayerOutClaim.lean ====
/-
  The claims about the optimiser step of the fourth sharded weight (`w_out`): the reference's results entry by entry, its frame, and
  that the idealized kernel and the reference leave the same four arrays on every input.
-/
module

public import proofs.«01_k».proof.Proof.LayerOutPoint
public import proofs.«01_k».proof.Proof.Gen.Reference11Ideal.Run
public import Idealize.ShloMosaic.Lib.Tactic.CleanTypes
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem

namespace Cert.Reference11Ideal.Value

open Cert.Reference11Ideal Cert.Reference11Ideal.Gen

variable (m : (ℓ : Loc nD τ sig) → Buf (Elt Ideal) ℓ)

/-- The gradient, the sum of the eight parts, and the first layer's state on a device, by row and column. -/
def entries (c : Dev nD) : Adam.Entries (Fin 128 × Fin 1024) where
  g := fun i => ∑ k : Fin 8, m ((c.tc : Thread nD τ).loc main_arg0) (ix3 k i.1 i.2)
  w := fun i => m ((c.tc : Thread nD τ).loc main_arg1) (ix3 0 i.1 i.2)
  m := fun i => m ((c.tc : Thread nD τ).loc main_arg2) (ix3 0 i.1 i.2)
  v := fun i => m ((c.tc : Thread nD τ).loc main_arg3) (ix3 0 i.1 i.2)

set_option maxHeartbeats 4000000 in
/-- The four results of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v36) = (fun y => if (y 0).val = 0 then (entries m c).g (y 1, y 2)
        else m ((c.tc : Thread nD τ).loc main_arg4) y : FVec Ideal S2x128x1024 .f32)
      ∧ r.2.mem ((c.tc : Thread nD τ).loc main_v41) = (fun y => if (y 0).val = 0 then (entries m c).delta (y 1, y 2)
        else m ((c.tc : Thread nD τ).loc main_arg5) y : FVec Ideal S2x128x1024 .f32)
      ∧ r.2.mem ((c.tc : Thread nD τ).loc main_v46) = (fun y => if (y 0).val = 0 then (entries m c).momentum (y 1, y 2)
        else m ((c.tc : Thread nD τ).loc main_arg6) y : FVec Ideal S2x128x1024 .f32)
      ∧ r.2.mem ((c.tc : Thread nD τ).loc main_v51) = (fun y => if (y 0).val = 0 then (entries m c).moment2 (y 1, y 2)
        else m ((c.tc : Thread nD τ).loc main_arg7) y : FVec Ideal S2x128x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (run m ρ)
  obtain ⟨h0, h1, h2, h3, hk⟩ := h c
  refine ⟨h0.trans (funext fun y => ?_), h1.trans (funext fun y => ?_), h2.trans (funext fun y => ?_),
    h3.trans (funext fun y => ?_), hk⟩ <;>
    clear h0 h1 h2 h3 hk h <;> clean_types <;> idx_vars y <;> pointwise <;>
    (obtain rfl | rfl : y0 = 0 ∨ y0 = 1 := by omega) <;> rfl

end Cert.Reference11Ideal.Value

namespace Cert.LayerOutClaim

/-- The reference leaves its arguments as they were; it has no semaphores. -/
theorem frame_reference : quiescent_Reference11Ideal := fun m ρ _ =>
  (θ_run _ _ _).mono (fun r h => ⟨fun c => (h c).2.2.2.2, sem_eq_zero_of_no_sems rfl r.2⟩)
    (Cert.Reference11Ideal.Value.run_spec m ρ)

/-- Both runs leave the four arrays of the specification at the kernel's arguments. -/
theorem same_results : algebraic_Kernel11Ideal_Reference11Ideal := fun m ρ m' ρ' _ hag => by
  refine ⟨fun c => (Cert.Kernel11Ideal.Gen.dats m 0 c).arrAt 4 Cert.Kernel11Ideal.cfg0.N,
    fun c => (Cert.Kernel11Ideal.Gen.dats m 0 c).arrAt 5 Cert.Kernel11Ideal.cfg0.N,
    fun c => (Cert.Kernel11Ideal.Gen.dats m 0 c).arrAt 6 Cert.Kernel11Ideal.cfg0.N,
    fun c => (Cert.Kernel11Ideal.Gen.dats m 0 c).arrAt 7 Cert.Kernel11Ideal.cfg0.N,
    Cert.Kernel11Ideal.Value.run_blocks m ρ,
    (θ_run _ _ _).mono (fun r h c => ?_) (Cert.Reference11Ideal.Value.run_spec m' ρ')⟩
  obtain ⟨h0, h1, h2, h3, hk⟩ := h c
  obtain ⟨f0, f1, f2, f3⟩ := Cert.Kernel11Ideal.Value.finals m c
  obtain ⟨a0, a1, a2, a3, a4, a5, a6, a7⟩ := hag c
  have e : Cert.Reference11Ideal.Value.entries m' c = Cert.Kernel11Ideal.Value.entries m c := by
    unfold Cert.Reference11Ideal.Value.entries
    rw [a0, a1, a2, a3]
    rfl
  rw [e] at h0 h1 h2 h3
  rw [a4] at h0; rw [a5] at h1; rw [a6] at h2; rw [a7] at h3
  exact ⟨h0.trans f0.symm, h1.trans f1.symm, h2.trans f2.symm, h3.trans f3.symm, hk⟩

end Cert.LayerOutClaim
-- ==== Proof.LatBlock.lean ====
/-
  What one grid point of the latents' gradient leaves in its five output blocks, as terms of its input blocks and, for
  the four sums, of what the point before left: the first point starts them from zero.
-/
module

public import proofs.«01_k».proof.Proof.Gen.Kernel12Ideal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Kernel12Ideal.Value

open Cert.Kernel12Ideal Cert.Kernel12Ideal.Gen

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The point's rows of the two tables, and its gradients at queries and keys. -/
def coAt (c : Dev nD) (t : Fin cfg0.N) : FVec F S512x128 .f32 := k0_pay7 (iblk m c 1 t)
def siAt (c : Dev nD) (t : Fin cfg0.N) : FVec F S512x128 .f32 := k0_pay8 (iblk m c 2 t)
def dqAt (c : Dev nD) (t : Fin cfg0.N) : FVec F S512x1024 .f32 := k0_pay19 (iblk m c 7 t)
def dkAt (c : Dev nD) (t : Fin cfg0.N) : FVec F S512x1024 .f32 := k0_pay20 (iblk m c 8 t)

/-- The gradient in front of the queries' embedding, the eight heads side by side. -/
def dqpreAt (c : Dev nD) (t : Fin cfg0.N) : FVec F S512x1024 .f32 :=
  k0_pay50 (coAt m c t) (siAt m c t) (dqAt m c t)
    (k0_pay24 (k0_pay22 (coAt m c t) (iblk m c 7 t)) (k0_pay23 (siAt m c t) (iblk m c 7 t)))
    (k0_pay25 (coAt m c t) (siAt m c t) (dqAt m c t))
    (k0_pay33 (k0_pay28 (siAt m c t) (dqAt m c t)) (k0_pay29 (coAt m c t) (dqAt m c t)) k0_pay30 k0_pay31
      (k0_pay32 (siAt m c t) (dqAt m c t)))
    (k0_pay34 (coAt m c t) (siAt m c t) (dqAt m c t))
    (k0_pay43 (k0_pay37 (siAt m c t) (dqAt m c t)) (k0_pay38 (siAt m c t) (dqAt m c t)) (k0_pay39 (coAt m c t) (dqAt m c t))
      k0_pay40 k0_pay41 k0_pay42)
    (k0_pay44 (coAt m c t) (siAt m c t) (dqAt m c t))
    (iota .tc S1x128 32 [1] iota_S1x128_d1_w32) (k0_pay47 (siAt m c t) (dqAt m c t)) (k0_pay48 (siAt m c t) (dqAt m c t))
    (k0_pay49 (coAt m c t) (dqAt m c t)) 64#32

/-- The gradient at the shared rotary key in front of its embedding. -/
def dkrAt (c : Dev nD) (t : Fin cfg0.N) : FVec F S512x128 .f32 :=
  k0_pay53 (coAt m c t) (k0_pay51 k0_pay9 (dkAt m c t)) (iota .tc S1x128 32 [1] iota_S1x128_d1_w32)
    (k0_pay52 (siAt m c t) k0_pay9 (dkAt m c t))

/-- The gradients at the normalised latents with their gains. -/
def dqnAt (c : Dev nD) (t : Fin cfg0.N) : FVec F S512x256 .f32 := k0_pay55 (dqpreAt m c t) (iblk m c 5 t)
def dknAt (c : Dev nD) (t : Fin cfg0.N) : FVec F S512x128 .f32 := k0_pay56 (dkAt m c t) (iblk m c 9 t) (iblk m c 6 t)

/-- The point's block of `dp`. -/
def dpAt (c : Dev nD) (t : Fin cfg0.N) : FVec F S1x512x512 .bf16 :=
  k0_pay1 (k0_pay16 (k0_pay14 (iblk m c 0 t))) (k0_pay17 (k0_pay14 (iblk m c 0 t))) (dkrAt m c t) (dknAt m c t)
    (k0_pay61 (k0_pay11 (iblk m c 0 t)) (k0_pay12 (iblk m c 0 t)) (dqnAt m c t) (iblk m c 3 t)) (iblk m c 4 t)

/-- One step of each of the four sums from `acc`. -/
def dwqStep (c : Dev nD) (t : Fin cfg0.N) (acc : Vec F S256x1024 .f32) : Vec F S256x1024 .f32 :=
  k0_pay57 (k0_pay13 (iblk m c 0 t) (iblk m c 3 t)) (dqpreAt m c t) acc
def dwkvStep (c : Dev nD) (t : Fin cfg0.N) (acc : Vec F S128x1536 .f32) : Vec F S128x1536 .f32 :=
  k0_pay58 (k0_pay18 (k0_pay14 (iblk m c 0 t)) (k0_pay15 (iblk m c 4 t))) (k0_pay54 (dkAt m c t) (iblk m c 9 t)) acc
def dqnStep (c : Dev nD) (t : Fin cfg0.N) (acc : Vec F S1x256 .f32) : Vec F S1x256 .f32 :=
  k0_pay59 (k0_pay12 (iblk m c 0 t)) (dqnAt m c t) acc
def dknStep (c : Dev nD) (t : Fin cfg0.N) (acc : Vec F S1x128 .f32) : Vec F S1x128 .f32 :=
  k0_pay60 (k0_pay17 (k0_pay14 (iblk m c 0 t))) (dknAt m c t) acc

/-- What the point before `t` left. -/
abbrev prev (c : Dev nD) (t : Fin cfg0.N) := outsAt0 m c (t.val - 1) (Nat.lt_of_le_of_lt (Nat.sub_le _ _) t.isLt)

set_option maxHeartbeats 1000000 in
theorem outs_B (c : Dev nD) (t : Fin cfg0.N) (h0 : ¬t.val % 16 = 0) :
    outsAt0 m c t.val t.isLt = (dpAt m c t, dwqStep m c t (prev m c t).2.1, dwkvStep m c t (prev m c t).2.2.1, dqnStep m c t (prev m c t).2.2.2.1, dknStep m c t (prev m c t).2.2.2.2) := by
  rw [outsAt0_B m c t h0]
  unfold out0_B_10 out0_B_11 out0_B_12 out0_B_13 out0_B_14
  rw [View.read_writes_eq_canon _ _ _ (fun y => cover0_B_10 (y := y) ..),
    View.read_writes_eq_canon _ _ _ (fun y => cover0_B_11 (y := y) ..),
    View.read_writes_eq_canon _ _ _ (fun y => cover0_B_12 (y := y) ..),
    View.read_writes_eq_canon _ _ _ (fun y => cover0_B_13 (y := y) ..),
    View.read_writes_eq_canon _ _ _ (fun y => cover0_B_14 (y := y) ..)]
  unfold kernelRun0_B
  dsimp only
  sl_unfold_words
  rw [View.canon_unit_zero hz3, View.canon_unit_zero hz2, View.canon_unit_zero hz2, View.canon_unit_zero hz2, View.canon_unit_zero hz2]
  simp only [View.readAt_eq_ld, Memref.IsWhole.read_unread, View.ld_unit_zero (S := S1x512x512) hz3, View.ld_unit_zero (S := S1x512x128) hz3,
    View.ld_unit_zero (S := S1x512x1024) hz3, View.ld_unit_zero (S := S1x256) hz2, View.ld_unit_zero (S := S1x128) hz2,
    View.ld_unit_zero (S := S256x1024) hz2, View.ld_unit_zero (S := S128x1536) hz2]
  rfl

set_option maxHeartbeats 1000000 in
theorem outs_A (c : Dev nD) (t : Fin cfg0.N) (h0 : t.val % 16 = 0) :
    outsAt0 m c t.val t.isLt = (dpAt m c t, dwqStep m c t k0_pay2, dwkvStep m c t k0_pay3, dqnStep m c t k0_pay4, dknStep m c t k0_pay5) := by
  rw [outsAt0_A m c t h0]
  unfold out0_A_10 out0_A_11 out0_A_12 out0_A_13 out0_A_14
  rw [View.read_writes_eq_canon _ _ _ (fun y => cover0_A_10 (y := y) ..),
    View.read_writes_eq_canon _ _ _ (fun y => cover0_A_11 (y := y) ..),
    View.read_writes_eq_canon _ _ _ (fun y => cover0_A_12 (y := y) ..),
    View.read_writes_eq_canon _ _ _ (fun y => cover0_A_13 (y := y) ..),
    View.read_writes_eq_canon _ _ _ (fun y => cover0_A_14 (y := y) ..)]
  unfold kernelRun0_A
  dsimp only
  sl_unfold_words
  rw [View.canon_unit_zero hz3, View.canon_cons_unit_zero (S := S256x1024) hz2, View.canon_cons_unit_zero (S := S128x1536) hz2, View.canon_cons_unit_zero (S := S1x256) hz2, View.canon_cons_unit_zero (S := S1x128) hz2]
  simp only [View.readAt_eq_ld, Memref.IsWhole.read_unread, View.ld_unit_zero (S := S1x512x512) hz3, View.ld_unit_zero (S := S1x512x128) hz3,
    View.ld_unit_zero (S := S1x512x1024) hz3, View.ld_unit_zero (S := S1x256) hz2, View.ld_unit_zero (S := S1x128) hz2,
    View.ld_unit_zero (S := S256x1024) hz2, View.ld_unit_zero (S := S128x1536) hz2, View.readCov_unit_zero (S := S256x1024) _ hz2, View.readCov_unit_zero (S := S128x1536) _ hz2, View.readCov_unit_zero (S := S1x256) _ hz2, View.readCov_unit_zero (S := S1x128) _ hz2]
  rfl

end Cert.Kernel12Ideal.Value
-- ==== Proof.LatReads.lean ====
/-
  What the input blocks of a grid point of the latents' gradient hold, element by element: point `t` is block `t % 4` of
  512 rows of sequence `t / 4`; gains and weights come whole.
-/
module

public import proofs.«01_k».proof.Proof.LatBlock
public import Idealize.ShloMosaic.Lib.Pointwise
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel12Ideal.Value

open Cert.Kernel12Ideal Cert.Kernel12Ideal.Gen

variable (m : (ℓ : Loc nD τ sig) → Buf (Elt Ideal) ℓ)

/-- The sequence of point `t`. -/
abbrev seqOf (t : Fin cfg0.N) : Fin 4 := ⟨t.val / 4, by have := t.isLt; have : cfg0.N = 16 := N_0; omega⟩
/-- Row `r` of point `t`'s block, as a row of its sequence. -/
abbrev rowOf (t : Fin cfg0.N) (r : Fin 512) : Fin 2048 := ⟨t.val % 4 * 512 + r.val, by have := r.isLt; omega⟩

/-- The block of each window at point `t`. -/
theorem idx : ∀ t : Fin cfg0.N,
    win0_0.index t = ![t.val / 4, t.val % 4, 0] ∧ win0_1.index t = ![t.val / 4, t.val % 4, 0] ∧ win0_2.index t = ![t.val / 4, t.val % 4, 0]
    ∧ win0_3.index t = ![0, 0] ∧ win0_4.index t = ![0, 0] ∧ win0_5.index t = ![0, 0]
    ∧ win0_6.index t = ![0, 0] ∧ win0_7.index t = ![t.val / 4, t.val % 4, 0] ∧ win0_8.index t = ![t.val / 4, t.val % 4, 0]
    ∧ win0_9.index t = ![t.val / 4, t.val % 4, 0] ∧ win0_10.index t = ![t.val / 4, t.val % 4, 0] ∧ win0_11.index t = ![0, 0]
    ∧ win0_12.index t = ![0, 0] ∧ win0_13.index t = ![0, 0] ∧ win0_14.index t = ![0, 0] :=
  (by decide +kernel : ∀ t : Fin grid0.N,
    win0_0.index t = ![t.val / 4, t.val % 4, 0] ∧ win0_1.index t = ![t.val / 4, t.val % 4, 0] ∧ win0_2.index t = ![t.val / 4, t.val % 4, 0]
    ∧ win0_3.index t = ![0, 0] ∧ win0_4.index t = ![0, 0] ∧ win0_5.index t = ![0, 0]
    ∧ win0_6.index t = ![0, 0] ∧ win0_7.index t = ![t.val / 4, t.val % 4, 0] ∧ win0_8.index t = ![t.val / 4, t.val % 4, 0]
    ∧ win0_9.index t = ![t.val / 4, t.val % 4, 0] ∧ win0_10.index t = ![t.val / 4, t.val % 4, 0] ∧ win0_11.index t = ![0, 0]
    ∧ win0_12.index t = ![0, 0] ∧ win0_13.index t = ![0, 0] ∧ win0_14.index t = ![0, 0])

theorem readP (c : Dev nD) (t : Fin cfg0.N) (r : Fin 512) (l : Fin 512) :
    (iblk m c 0 t : Vec Ideal S1x512x512 .bf16) (ix3 0 r l) = m ((c : Thread nD τ).loc main_arg0) (ix3 (seqOf t) (rowOf t r) ⟨l.val, by omega⟩) := by
  blk_ext [iblk, V, idx t]
theorem readCos (c : Dev nD) (t : Fin cfg0.N) (r : Fin 512) (l : Fin 128) :
    (iblk m c 1 t : Vec Ideal S1x512x128 .f32) (ix3 0 r l) = m ((c : Thread nD τ).loc main_arg1) (ix3 (seqOf t) (rowOf t r) l) := by
  blk_ext [iblk, V, idx t]
theorem readSin (c : Dev nD) (t : Fin cfg0.N) (r : Fin 512) (l : Fin 128) :
    (iblk m c 2 t : Vec Ideal S1x512x128 .f32) (ix3 0 r l) = m ((c : Thread nD τ).loc main_arg2) (ix3 (seqOf t) (rowOf t r) l) := by
  blk_ext [iblk, V, idx t]
theorem readDq (c : Dev nD) (t : Fin cfg0.N) (r : Fin 512) (l : Fin 1024) :
    (iblk m c 7 t : Vec Ideal S1x512x1024 .bf16) (ix3 0 r l) = m ((c : Thread nD τ).loc main_arg7) (ix3 (seqOf t) (rowOf t r) l) := by
  blk_ext [iblk, V, idx t]
theorem readDk (c : Dev nD) (t : Fin cfg0.N) (r : Fin 512) (l : Fin 1024) :
    (iblk m c 8 t : Vec Ideal S1x512x1024 .bf16) (ix3 0 r l) = m ((c : Thread nD τ).loc main_arg8) (ix3 (seqOf t) (rowOf t r) l) := by
  blk_ext [iblk, V, idx t]
theorem readDv (c : Dev nD) (t : Fin cfg0.N) (r : Fin 512) (l : Fin 512) :
    (iblk m c 9 t : Vec Ideal S1x512x512 .bf16) (ix3 0 r l) = m ((c : Thread nD τ).loc main_arg9) (ix3 (seqOf t) (rowOf t r) l) := by
  blk_ext [iblk, V, idx t]

theorem readQn (c : Dev nD) (t : Fin cfg0.N) (l : Fin 256) :
    (iblk m c 3 t : Vec Ideal S1x256 .f32) (ix2 0 l) = m ((c : Thread nD τ).loc main_arg3) (ix1 l) := by
  blk_ext! [iblk, V, idx t]
theorem readKn (c : Dev nD) (t : Fin cfg0.N) (l : Fin 128) :
    (iblk m c 4 t : Vec Ideal S1x128 .f32) (ix2 0 l) = m ((c : Thread nD τ).loc main_arg4) (ix1 l) := by
  blk_ext! [iblk, V, idx t]
theorem readWq (c : Dev nD) (t : Fin cfg0.N) (k : Fin 256) (j : Fin 1024) :
    (iblk m c 5 t : Vec Ideal S256x1024 .bf16) (ix2 k j) = m ((c : Thread nD τ).loc main_arg5) (ix2 k j) := by
  blk_ext! [iblk, V, idx t]
theorem readWkv (c : Dev nD) (t : Fin cfg0.N) (k : Fin 128) (j : Fin 1536) :
    (iblk m c 6 t : Vec Ideal S128x1536 .bf16) (ix2 k j) = m ((c : Thread nD τ).loc main_arg6) (ix2 k j) := by
  blk_ext! [iblk, V, idx t]

end Cert.Kernel12Ideal.Value
-- ==== Proof.RowNorm.lean ====
/-
  The backward pass of the root-mean-square norm of a row of `n` entries over the extended reals, at any length: the
  closed form a kernel uses against the chain rule's form. `N` is the printed length.
-/
module

public import proofs.«01_k».proof.Proof.Norm

@[expose] public section

noncomputable section

open Idealize.ShloMosaic

namespace Cert.RowNorm

open Cert.Norm (eps mhalf)

variable {n : ℕ} (N : EReal)

/-- The row's mean square plus the small constant. -/
def ms (x : Fin n → EReal) : EReal := Ideal.div (∑ k, x k * x k) N + eps
/-- The reciprocal root of it. -/
def rs (x : Fin n → EReal) : EReal := Ideal.rsqrt (ms N x)
/-- The normalised row. -/
def xh (x : Fin n → EReal) (l : Fin n) : EReal := x l * rs N x

/-- The closed form of the gradient at entry `l`, `g` being the gradient at the normalised row. -/
def closed (x g : Fin n → EReal) (l : Fin n) : EReal :=
  rs N x * (g l - xh N x l * Ideal.div (∑ k, g k * xh N x k) N)

/-- The chain rule's common factor: the gradient at the row's sum of squares. -/
def inner (x g : Fin n → EReal) : EReal :=
  Ideal.div ((∑ k, x k * g k) * (mhalf * Ideal.div (rs N x) (ms N x))) N

/-- The chain rule's form of the gradient at entry `l`: through the product, and twice through the square. -/
def chain (x g : Fin n → EReal) (l : Fin n) : EReal := g l * rs N x + x l * inner N x g + inner N x g * x l

variable {N}

theorem div_len {L : ℝ} (hN : N = (L : EReal)) (hL : 0 < L) (y : EReal) : Ideal.div y N = y * ((1 / L : ℝ) : EReal) := by
  rw [hN]; exact Ideal.div_coe hL.ne' y

/-- Either the mean square is infinite, or it is a positive real and every entry of the row is real. -/
theorem ms_cases {L : ℝ} (hN : N = (L : EReal)) (hL : 0 < L) (x : Fin n → EReal) :
    ms N x = ⊤ ∨ ∃ ρ : ℝ, 0 < ρ ∧ ms N x = ρ ∧ ∀ k, ∃ r : ℝ, x k = r := by
  have hs : 0 ≤ ∑ k, x k * x k := Finset.sum_nonneg fun k _ => Norm.sq_nonneg (x k)
  obtain ⟨e, he, hee⟩ := Norm.eps_pos
  unfold ms
  rw [div_len hN hL, hee]
  have hL' : 0 < 1 / L := by positivity
  generalize hS : ∑ k, x k * x k = S at hs
  induction S using EReal.rec with
  | bot => simp at hs
  | top =>
    left
    rw [EReal.top_mul_coe_of_pos hL']
    rfl
  | coe s =>
    right
    have hs' : 0 ≤ s := by exact_mod_cast hs
    refine ⟨s * (1 / L) + e, by positivity, by push_cast; rfl, fun k => Norm.real_of_sq_lt _ fun ht => ?_⟩
    have := Finset.single_le_sum (fun j _ => Norm.sq_nonneg (x j)) (Finset.mem_univ k)
    rw [hS, ht] at this
    exact absurd this (by simp)

/-- The two forms agree on every row of extended reals. -/
theorem closed_eq_chain {L : ℝ} (hN : N = (L : EReal)) (hL : 0 < L) (x g : Fin n → EReal) (l : Fin n) :
    closed N x g l = chain N x g l := by
  unfold closed chain inner xh
  rcases ms_cases hN hL x with h | ⟨ρ, hρ, h, hx⟩
  · have hr : rs N x = 0 := by unfold rs; rw [h]; rfl
    rw [hr, h]
    have hd : Ideal.div (0 : EReal) ⊤ = 0 := by unfold Ideal.div; simp
    rw [hd, div_len hN hL, div_len hN hL]
    simp
  · obtain ⟨a, ha⟩ := hx l
    have hrs : rs N x = (((√ρ)⁻¹ : ℝ) : EReal) := by
      unfold rs; rw [h, Ideal.rsqrt_coe, if_neg (not_lt.mpr hρ.le), if_neg hρ.ne']
    have hq : 0 < (√ρ)⁻¹ := inv_pos.mpr (Real.sqrt_pos.mpr hρ)
    have hqq : (√ρ)⁻¹ * (√ρ)⁻¹ = 1 / ρ := by rw [← mul_inv, Real.mul_self_sqrt hρ.le, one_div]
    generalize (√ρ)⁻¹ = q at hrs hq hqq
    rw [hrs, h, ha, Norm.mhalf_eq, Norm.sum_mul_pos x g hq]
    generalize ∑ k, x k * g k = T
    rw [div_len hN hL, div_len hN hL, Ideal.div_coe hρ.ne', sub_eq_add_neg,
      EReal.left_distrib_of_nonneg_of_ne_top (by exact_mod_cast hq.le) (EReal.coe_ne_top q)]
    have e1 : (q : EReal) * -(↑a * ↑q * (↑q * T * ((1 / L : ℝ) : EReal)))
        = ((-(a * q * q * q / L) : ℝ) : EReal) * T := by
      have : ((-(a * q * q * q / L) : ℝ) : EReal) = -((q : EReal) * (a * q * (q * ((1 / L : ℝ) : EReal)))) := by
        norm_cast; ring
      rw [this, EReal.neg_mul, mul_neg]
      congr 1
      ac_rfl
    have e2 : T * (((-(1 / 2) : ℝ) : EReal) * (↑q * ((1 / ρ : ℝ) : EReal))) * ((1 / L : ℝ) : EReal)
        = ((-(q * q * q / L) / 2 : ℝ) : EReal) * T := by
      have : ((-(q * q * q / L) / 2 : ℝ) : EReal) = ((-(1 / 2) : ℝ) : EReal) * (↑q * ((1 / ρ : ℝ) : EReal)) * ((1 / L : ℝ) : EReal) := by
        rw [← hqq]; norm_cast; ring
      rw [this]
      ac_rfl
    have e3 : (a : EReal) * (((-(q * q * q / L) / 2 : ℝ) : EReal) * T) = ((-(a * q * q * q / L) / 2 : ℝ) : EReal) * T := by
      rw [← mul_assoc]
      congr 1
      norm_cast; ring
    rw [e1, e2, mul_comm _ (a : EReal), e3, add_assoc, Norm.half_add_half, mul_comm (g l)]

end Cert.RowNorm
-- ==== Proof.LatSpec.lean ====
/-
  The gradient of a layer's latent projections (norm, up-projection, rotary embedding of the queries, keys and values),
  entry by entry, as the chain rule gives it. A head's query and key take 128 columns; the rotary entries of a head are its
  columns 64 to 95.
-/
module

public import proofs.«01_k».proof.Proof.RowNorm

@[expose] public section

noncomputable section

open Idealize.ShloMosaic

namespace Cert.Lat

/-- The two latents' lengths, `256` and `128`. -/
abbrev lenQ : EReal := Ideal.ofBits FTy.f32 1132462080#32
abbrev lenK : EReal := Ideal.ofBits FTy.f32 1124073472#32

theorem lenQ_eq : lenQ = ((256 : ℝ) : EReal) := by
  simp [lenQ, Ideal.ofBits, Ideal.ieee, -EReal.coe_mul]; norm_num

theorem lenK_eq : lenK = ((128 : ℝ) : EReal) := by
  simp [lenK, Ideal.ofBits, Ideal.ieee, -EReal.coe_mul]; norm_num

/-- The arguments, entry by entry: sequence, row, column. -/
structure Args where
  p : Fin 4 → Fin 2048 → Fin 1024 → EReal
  cos : Fin 4 → Fin 2048 → Fin 128 → EReal
  sin : Fin 4 → Fin 2048 → Fin 128 → EReal
  qn : Fin 256 → EReal
  kn : Fin 128 → EReal
  wq : Fin 256 → Fin 1024 → EReal
  wkv : Fin 128 → Fin 1536 → EReal
  dq : Fin 4 → Fin 2048 → Fin 1024 → EReal
  dk : Fin 4 → Fin 2048 → Fin 1024 → EReal
  dv : Fin 4 → Fin 2048 → Fin 512 → EReal

/-- The gradient in front of the rotary embedding of 128 columns, from the gradient `d` behind it: the two halves of the
    rotary entries change places, one with its sign turned. -/
def turnBack (d cos sin : Fin 128 → EReal) (l : Fin 128) : EReal :=
  d l * cos l + (if _ : l.val < 64 then 0
    else if _ : l.val < 80 then d ⟨l.val + 16, by omega⟩ * sin ⟨l.val + 16, by omega⟩
    else if _ : l.val < 96 then -(d ⟨l.val - 16, by omega⟩ * sin ⟨l.val - 16, by omega⟩) else 0)

variable (A : Args) (b : Fin 4) (s : Fin 2048)

/-- The two latents and the shared rotary key of a row. -/
def qlat (l : Fin 256) : EReal := A.p b s ⟨l.val, by omega⟩
def klat (l : Fin 128) : EReal := A.p b s ⟨256 + l.val, by omega⟩

/-- The gradient at the queries in front of their embedding. -/
def dqpre (j : Fin 1024) : EReal :=
  turnBack (fun l => A.dq b s ⟨j.val / 128 * 128 + l.val, by omega⟩) (A.cos b s) (A.sin b s) ⟨j.val % 128, by omega⟩

/-- The gradient at keys and values side by side. -/
def dkv (j : Fin 1536) : EReal :=
  if h : j.val < 1024 then A.dk b s ⟨j.val, h⟩ else A.dv b s ⟨j.val - 1024, by omega⟩

/-- The gradient at the shared rotary key behind its embedding: the sum over the heads. -/
def dkpe (l : Fin 128) : EReal :=
  ∑ h : Fin 8, if 64 ≤ l.val ∧ l.val < 96 then A.dk b s ⟨h.val * 128 + l.val, by omega⟩ else 0

/-- The gradients at the two normalised latents with their gains. -/
def dqn (l : Fin 256) : EReal := ∑ j, dqpre A b s j * A.wq l j
def dkn (l : Fin 128) : EReal := ∑ j, dkv A b s j * A.wkv l j

/-- The gradient at the latents and the shared key, side by side. -/
def dp (l : Fin 512) : EReal :=
  if h : l.val < 256 then RowNorm.chain lenQ (qlat A b s) (fun k => dqn A b s k * A.qn k) ⟨l.val, h⟩
  else if h : l.val - 256 < 128 then RowNorm.chain lenK (klat A b s) (fun k => dkn A b s k * A.kn k) ⟨l.val - 256, h⟩
  else turnBack (dkpe A b s) (A.cos b s) (A.sin b s) ⟨l.val - 256 - 128, by omega⟩

/-- The gradients of the two up-projections and of the two gains. -/
def dwq (k : Fin 256) (j : Fin 1024) : EReal :=
  ∑ b, ∑ s, RowNorm.xh lenQ (qlat A b s) k * A.qn k * dqpre A b s j
def dwkv (k : Fin 128) (j : Fin 1536) : EReal :=
  ∑ b, ∑ s, RowNorm.xh lenK (klat A b s) k * A.kn k * dkv A b s j
def dqnw (l : Fin 256) : EReal := ∑ b, ∑ s, dqn A b s l * RowNorm.xh lenQ (qlat A b s) l
def dknw (l : Fin 128) : EReal := ∑ b, ∑ s, dkn A b s l * RowNorm.xh lenK (klat A b s) l

end Cert.Lat
-- ==== Proof.LatHeads.lean ====
/-
  The columns of one head at a grid point: the gradient in front of the rotary embedding, head by head.
-/
module

public import proofs.«01_k».proof.Proof.Gen.Kernel12Ideal.Skeleton
public import proofs.«01_k».proof.Proof.LatSpec
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.Kernel12Ideal.Value

open Cert.Kernel12Ideal Cert.Kernel12Ideal.Gen

/-- The masks of the rotary entries' columns. -/
theorem below (l : Fin 128) :
    IntOp.cmpi CmpIPredicate.slt (BitVec.ofNat 32 l.val) 64#32 = (if l.val < 64 then 1#1 else 0#1)
    ∧ IntOp.cmpi CmpIPredicate.slt (BitVec.ofNat 32 l.val) 80#32 = (if l.val < 80 then 1#1 else 0#1)
    ∧ IntOp.cmpi CmpIPredicate.slt (BitVec.ofNat 32 l.val) 96#32 = (if l.val < 96 then 1#1 else 0#1) := by
  revert l
  decide +kernel

/-- The kernel's form of the turned gradient: rotations by 16 columns either way, chosen by masks. -/
theorem turn_select (d co si : Fin 128 → EReal) (l : Fin 128) :
    d l * co l + Scalar.select (IntOp.cmpi CmpIPredicate.slt (BitVec.ofNat 32 l.val) 64#32) 0
      (Scalar.select (IntOp.cmpi CmpIPredicate.slt (BitVec.ofNat 32 l.val) 80#32)
        (d ⟨(l.val + 128 - 112) % 128, by omega⟩ * si ⟨(l.val + 128 - 112) % 128, by omega⟩)
        (Scalar.select (IntOp.cmpi CmpIPredicate.slt (BitVec.ofNat 32 l.val) 96#32)
          (0 - d ⟨(l.val + 128 - 16) % 128, by omega⟩ * si ⟨(l.val + 128 - 16) % 128, by omega⟩) 0))
      = Lat.turnBack d co si l := by
  obtain ⟨h1, h2, h3⟩ := below l
  rw [h1, h2, h3]
  unfold Lat.turnBack
  by_cases e1 : l.val < 64
  · simp [e1, Scalar.select]
  by_cases e2 : l.val < 80
  · have e : (l.val + 128 - 112) % 128 = l.val + 16 := by omega
    simp only [e, e1, e2, Scalar.select]; simp
  by_cases e3 : l.val < 96
  · have e : (l.val + 128 - 16) % 128 = l.val - 16 := by omega
    simp only [e, e1, e2, e3, Scalar.select]; simp
  · simp [e1, e2, e3, Scalar.select]

variable (co si : FVec Ideal S512x128 .f32) (d : FVec Ideal S512x1024 .f32) (r : Fin 512) (l : Fin 128)

/-- The turned gradient of the head whose columns start at `o`. -/
abbrev headAt (o : ℕ) (ho : o + 128 ≤ 1024) : EReal :=
  Lat.turnBack (fun k => d (ix2 r ⟨o + k.val, by omega⟩)) (fun k => co (ix2 r k)) (fun k => si (ix2 r k)) l

theorem head0 (x : Vec Ideal S1x512x1024 .bf16) :
    k0_pay24 (k0_pay22 co x) (k0_pay23 si x) (ix2 r l)
      = Lat.turnBack (fun k => k0_pay19 x (ix2 r ⟨k.val, by omega⟩)) (fun k => co (ix2 r k)) (fun k => si (ix2 r k)) l := by
  pointwise [k0_pay24, k0_pay22, k0_pay23, k0_pay21]
  exact turn_select (fun k => k0_pay19 x (ix2 r ⟨k.val, by omega⟩)) (fun k => co (ix2 r k)) (fun k => si (ix2 r k)) l

theorem head1 : k0_pay25 co si d (ix2 r l) = headAt co si d r l 128 (by omega) := by
  pointwise [k0_pay25]
  exact turn_select (fun k => d (ix2 r ⟨128 + k.val, by omega⟩)) (fun k => co (ix2 r k)) (fun k => si (ix2 r k)) l

theorem head2 : k0_pay33 (k0_pay28 si d) (k0_pay29 co d) k0_pay30 k0_pay31 (k0_pay32 si d) (ix2 r l)
    = headAt co si d r l 256 (by omega) := by
  pointwise [k0_pay33, k0_pay28, k0_pay29, k0_pay30, k0_pay31, k0_pay32, k0_pay26, k0_pay27]
  exact turn_select (fun k => d (ix2 r ⟨256 + k.val, by omega⟩)) (fun k => co (ix2 r k)) (fun k => si (ix2 r k)) l

theorem head3 : k0_pay34 co si d (ix2 r l) = headAt co si d r l 384 (by omega) := by
  pointwise [k0_pay34]
  exact turn_select (fun k => d (ix2 r ⟨384 + k.val, by omega⟩)) (fun k => co (ix2 r k)) (fun k => si (ix2 r k)) l

theorem head4 : k0_pay43 (k0_pay37 si d) (k0_pay38 si d) (k0_pay39 co d) k0_pay40 k0_pay41 k0_pay42 (ix2 r l)
    = headAt co si d r l 512 (by omega) := by
  pointwise [k0_pay43, k0_pay37, k0_pay38, k0_pay39, k0_pay40, k0_pay41, k0_pay42, k0_pay35, k0_pay36]
  exact turn_select (fun k => d (ix2 r ⟨512 + k.val, by omega⟩)) (fun k => co (ix2 r k)) (fun k => si (ix2 r k)) l

theorem head5 : k0_pay44 co si d (ix2 r l) = headAt co si d r l 640 (by omega) := by
  pointwise [k0_pay44]
  exact turn_select (fun k => d (ix2 r ⟨640 + k.val, by omega⟩)) (fun k => co (ix2 r k)) (fun k => si (ix2 r k)) l

theorem at_head (G : Fin 8 → Fin 128 → EReal) (j : Fin 1024) (q : Fin 8) (l : Fin 128) (hq : q.val = j.val / 128)
    (hl : l.val = j.val % 128) : G q l = G ⟨j.val / 128, by omega⟩ ⟨j.val % 128, by omega⟩ :=
  congr (congrArg G (Fin.ext hq)) (Fin.ext hl)

/-- Eight blocks of 128 columns side by side. -/
theorem side {v0 v1 v2 v3 v4 v5 v6 v7 : FVec Ideal S512x128 .f32} {h} {G : Fin 8 → Fin 128 → EReal}
    (h0 : ∀ l, v0 (ix2 r l) = G 0 l) (h1 : ∀ l, v1 (ix2 r l) = G 1 l) (h2 : ∀ l, v2 (ix2 r l) = G 2 l)
    (h3 : ∀ l, v3 (ix2 r l) = G 3 l) (h4 : ∀ l, v4 (ix2 r l) = G 4 l) (h5 : ∀ l, v5 (ix2 r l) = G 5 l)
    (h6 : ∀ l, v6 (ix2 r l) = G 6 l) (h7 : ∀ l, v7 (ix2 r l) = G 7 l) (j : Fin 1024) :
    concatenate S512x1024 1 [⟨S512x128, v0⟩, ⟨S512x128, v1⟩, ⟨S512x128, v2⟩, ⟨S512x128, v3⟩, ⟨S512x128, v4⟩, ⟨S512x128, v5⟩,
      ⟨S512x128, v6⟩, ⟨S512x128, v7⟩] h (ix2 r j) = G ⟨j.val / 128, by omega⟩ ⟨j.val % 128, by omega⟩ := by
  pointwise
  have := j.isLt
  split
  · exact (h0 _).trans (at_head G _ 0 _ (by simp; omega) (by simp; omega))
  split
  · exact (h1 _).trans (at_head G _ 1 _ (by simp; omega) (by simp; omega))
  split
  · exact (h2 _).trans (at_head G _ 2 _ (by simp; omega) (by simp; omega))
  split
  · exact (h3 _).trans (at_head G _ 3 _ (by simp; omega) (by simp; omega))
  split
  · exact (h4 _).trans (at_head G _ 4 _ (by simp; omega) (by simp; omega))
  split
  · exact (h5 _).trans (at_head G _ 5 _ (by simp; omega) (by simp; omega))
  split
  · exact (h6 _).trans (at_head G _ 6 _ (by simp; omega) (by simp; omega))
  exact (h7 _).trans (at_head G _ 7 _ (by simp; omega) (by simp; omega))

/-- The eight heads side by side: the last two turned here, the first six given. -/
theorem heads {v0 v1 v2 v3 v4 v5 : FVec Ideal S512x128 .f32} (j : Fin 1024)
    (h0 : ∀ l, v0 (ix2 r l) = headAt co si d r l 0 (by omega)) (h1 : ∀ l, v1 (ix2 r l) = headAt co si d r l 128 (by omega))
    (h2 : ∀ l, v2 (ix2 r l) = headAt co si d r l 256 (by omega)) (h3 : ∀ l, v3 (ix2 r l) = headAt co si d r l 384 (by omega))
    (h4 : ∀ l, v4 (ix2 r l) = headAt co si d r l 512 (by omega)) (h5 : ∀ l, v5 (ix2 r l) = headAt co si d r l 640 (by omega)) :
    k0_pay50 co si d v0 v1 v2 v3 v4 v5 (iota .tc S1x128 32 [1] iota_S1x128_d1_w32) (k0_pay47 si d) (k0_pay48 si d)
      (k0_pay49 co d) 64#32 (ix2 r j)
      = headAt co si d r ⟨j.val % 128, by omega⟩ (j.val / 128 * 128) (by omega) := by
  unfold k0_pay50
  refine side r (G := fun q l => headAt co si d r l (q.val * 128) (by omega)) h0 h1 h2 h3 h4 h5 (fun l => ?_) (fun l => ?_) j
  · pointwise [k0_pay47, k0_pay48, k0_pay49, k0_pay45, k0_pay46]
    exact turn_select (fun k => d (ix2 r ⟨768 + k.val, by omega⟩)) (fun k => co (ix2 r k)) (fun k => si (ix2 r k)) l
  · pointwise
    exact turn_select (fun k => d (ix2 r ⟨896 + k.val, by omega⟩)) (fun k => co (ix2 r k)) (fun k => si (ix2 r k)) l

end Cert.Kernel12Ideal.Value
-- ==== Proof.LatPoint.lean ====
/-
  What a grid point of the latents' gradient computes, entry by entry, in terms of the specification.
-/
module

public import proofs.«01_k».proof.Proof.LatReads
public import proofs.«01_k».proof.Proof.LatHeads

@[expose] public section

set_option maxRecDepth 16384

noncomputable section

open Idealize.ShloMosaic Idealize.ShloMosaic.TcCoe Idealize.SL.Sem

namespace Cert.Kernel12Ideal.Value

open Cert.Kernel12Ideal Cert.Kernel12Ideal.Gen

/-- The shared rotary key's gradient: the rotary columns of the eight heads' keys, added up. -/
theorem shared (d : FVec Ideal S512x1024 .f32) (r : Fin 512) (l : Fin 128) :
    k0_pay51 k0_pay9 d (ix2 r l)
      = ∑ h : Fin 8, if 64 ≤ l.val ∧ l.val < 96 then d (ix2 r ⟨h.val * 128 + l.val, by omega⟩) else 0 := by
  have hm : ∀ l : Fin 128, IntOp.andi (IntOp.cmpi CmpIPredicate.sge (BitVec.ofNat 32 l.val) 64#32)
      (IntOp.cmpi CmpIPredicate.slt (BitVec.ofNat 32 l.val) 96#32) = if 64 ≤ l.val ∧ l.val < 96 then 1#1 else 0#1 := by
    decide +kernel
  pointwise [k0_pay51, k0_pay9]
  rw [hm l, Fin.sum_univ_eight (M := EReal)]
  by_cases h : 64 ≤ l.val ∧ l.val < 96
  · simp only [if_pos h]
    simp [Scalar.select]
  · simp only [if_neg h]
    simp [Scalar.select]

/-- The block of `dp`: the two latents' gradients in closed form, and the shared key's. -/
theorem parts (v43 : FVec Ideal S512x1 .f32) (v45 v336 v346 : FVec Ideal S512x128 .f32) (v388 : FVec Ideal S512x256 .f32)
    (w : Vec Ideal S1x128 .f32) (r : Fin 512) (l : Fin 512) :
    k0_pay1 v43 v45 v336 v346 v388 w (ix3 0 r l) = if h : l.val < 256 then v388 (ix2 r ⟨l.val, h⟩)
      else if h : l.val - 256 < 128 then
        v43 (ix2 r 0) * (v346 (ix2 r ⟨l.val - 256, h⟩) * w (ix2 0 ⟨l.val - 256, h⟩) - v45 (ix2 r ⟨l.val - 256, h⟩)
          * Ideal.div (∑ x, v346 (ix2 r x) * w (ix2 0 x) * v45 (ix2 r x)) Lat.lenK)
      else v336 (ix2 r ⟨l.val - 256 - 128, by omega⟩) := by
  pointwise [k0_pay1]

/-- The shared rotary key's gradient in front of its embedding. -/
theorem turned (co si : FVec Ideal S512x128 .f32) (d : FVec Ideal S512x1024 .f32) (r : Fin 512) (l : Fin 128) :
    k0_pay53 co (k0_pay51 k0_pay9 d) (iota .tc S1x128 32 [1] iota_S1x128_d1_w32) (k0_pay52 si k0_pay9 d) (ix2 r l)
      = Lat.turnBack (fun k => k0_pay51 k0_pay9 d (ix2 r k)) (fun k => co (ix2 r k)) (fun k => si (ix2 r k)) l := by
  pointwise [k0_pay53, k0_pay52]
  exact turn_select (fun k => k0_pay51 k0_pay9 d (ix2 r k)) (fun k => co (ix2 r k)) (fun k => si (ix2 r k)) l

variable (m : (ℓ : Loc nD τ sig) → Buf (Elt Ideal) ℓ)

/-- The kernel's arguments on a device. -/
def args (c : Dev nD) : Lat.Args where
  p := fun b s l => m ((c : Thread nD τ).loc main_arg0) (ix3 b s l)
  cos := fun b s l => m ((c : Thread nD τ).loc main_arg1) (ix3 b s l)
  sin := fun b s l => m ((c : Thread nD τ).loc main_arg2) (ix3 b s l)
  qn := fun l => m ((c : Thread nD τ).loc main_arg3) (ix1 l)
  kn := fun l => m ((c : Thread nD τ).loc main_arg4) (ix1 l)
  wq := fun k j => m ((c : Thread nD τ).loc main_arg5) (ix2 k j)
  wkv := fun k j => m ((c : Thread nD τ).loc main_arg6) (ix2 k j)
  dq := fun b s l => m ((c : Thread nD τ).loc main_arg7) (ix3 b s l)
  dk := fun b s l => m ((c : Thread nD τ).loc main_arg8) (ix3 b s l)
  dv := fun b s l => m ((c : Thread nD τ).loc main_arg9) (ix3 b s l)

variable (c : Dev nD) (t : Fin cfg0.N) (r : Fin 512)

theorem coAt_apply (l : Fin 128) : coAt m c t (ix2 r l) = (args m c).cos (seqOf t) (rowOf t r) l := by
  pointwise [coAt, k0_pay7]
  exact readCos m c t r l
theorem siAt_apply (l : Fin 128) : siAt m c t (ix2 r l) = (args m c).sin (seqOf t) (rowOf t r) l := by
  pointwise [siAt, k0_pay8]
  exact readSin m c t r l
theorem dqAt_apply (l : Fin 1024) : dqAt m c t (ix2 r l) = (args m c).dq (seqOf t) (rowOf t r) l := by
  pointwise [dqAt, k0_pay19]
  exact readDq m c t r l
theorem dkAt_apply (l : Fin 1024) : dkAt m c t (ix2 r l) = (args m c).dk (seqOf t) (rowOf t r) l := by
  pointwise [dkAt, k0_pay20]
  exact readDk m c t r l

theorem dqpreAt_apply (j : Fin 1024) : dqpreAt m c t (ix2 r j) = Lat.dqpre (args m c) (seqOf t) (rowOf t r) j := by
  refine (heads _ _ _ r j (fun l => (head0 _ _ r l _).trans ?_) (head1 _ _ _ r) (head2 _ _ _ r) (head3 _ _ _ r)
    (head4 _ _ _ r) (head5 _ _ _ r)).trans ?_
  · simp only [headAt, Nat.zero_add]
    rfl
  · simp only [headAt, coAt_apply, siAt_apply, dqAt_apply]
    rfl

theorem dkrAt_apply (l : Fin 128) : dkrAt m c t (ix2 r l) = Lat.turnBack (Lat.dkpe (args m c) (seqOf t) (rowOf t r))
    ((args m c).cos (seqOf t) (rowOf t r)) ((args m c).sin (seqOf t) (rowOf t r)) l := by
  refine (turned _ _ _ r l).trans ?_
  simp only [shared, coAt_apply, siAt_apply, dkAt_apply]
  rfl

theorem dqnAt_apply (l : Fin 256) : dqnAt m c t (ix2 r l) = Lat.dqn (args m c) (seqOf t) (rowOf t r) l := by
  pointwise [dqnAt, k0_pay55]
  simp only [dqpreAt_apply, readWq]
  rfl

theorem dkvAt_apply (j : Fin 1536) :
    k0_pay54 (dkAt m c t) (iblk m c 9 t) (ix2 r j) = Lat.dkv (args m c) (seqOf t) (rowOf t r) j := by
  pointwise [k0_pay54]
  simp only [dkAt_apply, readDv]
  rfl

theorem dknAt_apply (l : Fin 128) : dknAt m c t (ix2 r l) = Lat.dkn (args m c) (seqOf t) (rowOf t r) l := by
  pointwise [dknAt, k0_pay56]
  simp only [dkvAt_apply, readWkv]
  rfl

/-- The two normalised latents. -/
theorem qhat_apply (k : Fin 256) :
    k0_pay12 (iblk m c 0 t) (ix2 r k) = RowNorm.xh Lat.lenQ (Lat.qlat (args m c) (seqOf t) (rowOf t r)) k := by
  pointwise [k0_pay12, k0_pay11, k0_pay10, k0_pay6]
  simp only [readP]
  rfl
theorem khat_apply (k : Fin 128) :
    k0_pay17 (k0_pay14 (iblk m c 0 t)) (ix2 r k) = RowNorm.xh Lat.lenK (Lat.klat (args m c) (seqOf t) (rowOf t r)) k := by
  pointwise [k0_pay17, k0_pay16, k0_pay14, k0_pay6]
  simp only [readP]
  rfl

theorem dwqStep_apply (acc : Vec Ideal S256x1024 .f32) (k : Fin 256) (j : Fin 1024) :
    dwqStep m c t acc (ix2 k j) = acc (ix2 k j) + ∑ r, RowNorm.xh Lat.lenQ (Lat.qlat (args m c) (seqOf t) (rowOf t r)) k
      * (args m c).qn k * Lat.dqpre (args m c) (seqOf t) (rowOf t r) j := by
  pointwise [dwqStep, k0_pay57, k0_pay13]
  simp only [qhat_apply, readQn, dqpreAt_apply]
  rfl

theorem dwkvStep_apply (acc : Vec Ideal S128x1536 .f32) (k : Fin 128) (j : Fin 1536) :
    dwkvStep m c t acc (ix2 k j) = acc (ix2 k j) + ∑ r, RowNorm.xh Lat.lenK (Lat.klat (args m c) (seqOf t) (rowOf t r)) k
      * (args m c).kn k * Lat.dkv (args m c) (seqOf t) (rowOf t r) j := by
  pointwise [dwkvStep, k0_pay58, k0_pay18, k0_pay15]
  simp only [khat_apply, readKn, dkvAt_apply]
  rfl

theorem dqnStep_apply (acc : Vec Ideal S1x256 .f32) (l : Fin 256) :
    dqnStep m c t acc (ix2 0 l) = acc (ix2 0 l) + ∑ r, Lat.dqn (args m c) (seqOf t) (rowOf t r) l
      * RowNorm.xh Lat.lenQ (Lat.qlat (args m c) (seqOf t) (rowOf t r)) l := by
  pointwise [dqnStep, k0_pay59]
  simp only [qhat_apply, dqnAt_apply]

theorem dknStep_apply (acc : Vec Ideal S1x128 .f32) (l : Fin 128) :
    dknStep m c t acc (ix2 0 l) = acc (ix2 0 l) + ∑ r, Lat.dkn (args m c) (seqOf t) (rowOf t r) l
      * RowNorm.xh Lat.lenK (Lat.klat (args m c) (seqOf t) (rowOf t r)) l := by
  pointwise [dknStep, k0_pay60]
  simp only [khat_apply, dknAt_apply]

theorem qpart_apply (l : Fin 256) :
    k0_pay61 (k0_pay11 (iblk m c 0 t)) (k0_pay12 (iblk m c 0 t)) (dqnAt m c t) (iblk m c 3 t) (ix2 r l)
      = RowNorm.closed Lat.lenQ (Lat.qlat (args m c) (seqOf t) (rowOf t r))
        (fun k => Lat.dqn (args m c) (seqOf t) (rowOf t r) k * (args m c).qn k) l := by
  pointwise [k0_pay61]
  simp only [qhat_apply, dqnAt_apply, readQn]
  pointwise [k0_pay11, k0_pay10, k0_pay6]
  simp only [readP]
  rfl

theorem krs_apply : k0_pay16 (k0_pay14 (iblk m c 0 t)) (ix2 r 0) = RowNorm.rs Lat.lenK (Lat.klat (args m c) (seqOf t) (rowOf t r)) := by
  pointwise [k0_pay16, k0_pay14, k0_pay6]
  simp only [readP]
  rfl

theorem dpAt_apply (l : Fin 512) : dpAt m c t (ix3 0 r l) = Lat.dp (args m c) (seqOf t) (rowOf t r) l := by
  refine (parts _ _ _ _ _ _ r l).trans ?_
  unfold Lat.dp
  by_cases h : l.val < 256
  · rw [dif_pos h, dif_pos h, ← RowNorm.closed_eq_chain Lat.lenQ_eq (by norm_num)]
    exact qpart_apply m c t r _
  by_cases h1 : l.val - 256 < 128
  · rw [dif_neg h, dif_neg h, dif_pos h1, dif_pos h1, ← RowNorm.closed_eq_chain Lat.lenK_eq (by norm_num)]
    simp only [khat_apply, krs_apply, dknAt_apply, readKn]
    rfl
  · rw [dif_neg h, dif_neg h, dif_neg h1, dif_neg h1]
    exact dkrAt_apply m c t r _

end Cert.Kernel12Ideal.Value
-- ==== Proof.LatArrays.lean ====
/-
  The kernel's five results of the latents' gradient, each array whole: `dp` from its blocks, the four sums from the
  last point.
-/
module

public import proofs.«01_k».proof.Proof.LatPoint

@[expose] public section

set_option maxRecDepth 16384

noncomputable section

open Idealize.ShloMosaic Idealize.ShloMosaic.TcCoe Idealize.SL.Sem

namespace Cert.Kernel12Ideal.Value

open Cert.Kernel12Ideal Cert.Kernel12Ideal.Gen

variable (m : (ℓ : Loc nD τ sig) → Buf (Elt Ideal) ℓ)

/-- The first output at any point is its block of `dp`. -/
theorem out_dp (c : Dev nD) (t : Fin cfg0.N) : (outsAt0 m c t.val t.isLt).1 = dpAt m c t := by
  by_cases h0 : t.val % 16 = 0
  · rw [outs_A m c t h0]
  · rw [outs_B m c t h0]

theorem final_dp (c : Dev nD) : (dats m 0 c).arrAt 10 cfg0.N
    = (fun y => Lat.dp (args m c) (y 0) (y 1) (y 2) : FVec Ideal S4x2048x512 .bf16) := by
  refine (dats m 0 c).arrAt_eq_of_covers 10 _ (by decide +kernel) fun t hf y => ?_
  blk_simp
  rw [after0_10, out_dp]
  idx_vars y
  obtain rfl : y0 = 0 := Subsingleton.elim _ _
  refine (dpAt_apply m c t y1 y2).trans (congr (congr (congrArg (Lat.dp (args m c)) ?_) ?_) ?_) <;>
    (apply Fin.ext; blk_simp [idx t] <;> simp)

/-- A sum started at the first point and added to at every other: over all rows of all sequences. -/
theorem total {ι : Type} (out : (n : ℕ) → n < cfg0.N → ι → EReal) (g : ι → Fin 4 → Fin 2048 → EReal)
    (first : ∀ t : Fin cfg0.N, t.val % 16 = 0 → ∀ i, out t.val t.isLt i = ∑ r, g i (seqOf t) (rowOf t r))
    (next : ∀ t : Fin cfg0.N, ¬t.val % 16 = 0 → ∀ i, out t.val t.isLt i
      = out (t.val - 1) (Nat.lt_of_le_of_lt (Nat.sub_le _ _) t.isLt) i + ∑ r, g i (seqOf t) (rowOf t r))
    (t : Fin cfg0.N) (ht : t.val = 15) (i : ι) : out t.val t.isLt i = ∑ b, ∑ s, g i b s := by
  have hN : cfg0.N = 16 := N_0
  refine (Pipeline.eq_sum_fin_of_reset_step_apply_last out 16 (fun _ => 0)
    (fun t i => ∑ r, g i (seqOf t) (rowOf t r)) (fun t h i => (first t h i).trans (zero_add _).symm) next (le_of_eq hN) t
    (by omega) i).trans ?_
  rw [zero_add]
  exact Fin.sum_points_lanes_congr (A := 4) (L := 2048) 4 (g := g i) (fun t k ha hl => rfl)

theorem final_dwq (c : Dev nD) : (dats m 0 c).arrAt 11 cfg0.N
    = (fun y => Lat.dwq (args m c) (y 0) (y 1) : FVec Ideal S256x1024 .f32) := by
  refine (dats m 0 c).arrAt_eq_of_covers 11 _ (by decide +kernel) fun t hf y => ?_
  have ht := (flush0_11 t).mp hf
  have hN : cfg0.N = 16 := N_0
  have htl := t.isLt
  blk_simp
  rw [after0_11]
  idx_vars y
  refine (total (fun n h (i : Fin 256 × Fin 1024) => (outsAt0 m c n h).2.1 (ix2 i.1 i.2))
    (fun i b s => RowNorm.xh Lat.lenQ (Lat.qlat (args m c) b s) i.1 * (args m c).qn i.1 * Lat.dqpre (args m c) b s i.2)
    (fun t h i => by rw [outs_A m c t h]; refine (dwqStep_apply m c t _ i.1 i.2).trans ?_; pointwise [k0_pay2])
    (fun t h i => by rw [outs_B m c t h]; exact dwqStep_apply m c t _ i.1 i.2) t (by omega) (y0, y1)).trans
    (show Lat.dwq (args m c) y0 y1 = _ from congr (congrArg (Lat.dwq (args m c)) ?_) ?_) <;> (apply Fin.ext; blk_simp [idx t] <;> simp)

theorem final_dwkv (c : Dev nD) : (dats m 0 c).arrAt 12 cfg0.N
    = (fun y => Lat.dwkv (args m c) (y 0) (y 1) : FVec Ideal S128x1536 .f32) := by
  refine (dats m 0 c).arrAt_eq_of_covers 12 _ (by decide +kernel) fun t hf y => ?_
  have ht := (flush0_12 t).mp hf
  have hN : cfg0.N = 16 := N_0
  have htl := t.isLt
  blk_simp
  rw [after0_12]
  idx_vars y
  refine (total (fun n h (i : Fin 128 × Fin 1536) => (outsAt0 m c n h).2.2.1 (ix2 i.1 i.2))
    (fun i b s => RowNorm.xh Lat.lenK (Lat.klat (args m c) b s) i.1 * (args m c).kn i.1 * Lat.dkv (args m c) b s i.2)
    (fun t h i => by rw [outs_A m c t h]; refine (dwkvStep_apply m c t _ i.1 i.2).trans ?_; pointwise [k0_pay3])
    (fun t h i => by rw [outs_B m c t h]; exact dwkvStep_apply m c t _ i.1 i.2) t (by omega) (y0, y1)).trans
    (show Lat.dwkv (args m c) y0 y1 = _ from congr (congrArg (Lat.dwkv (args m c)) ?_) ?_) <;> (apply Fin.ext; blk_simp [idx t] <;> simp)

theorem final_dqnw (c : Dev nD) : (dats m 0 c).arrAt 13 cfg0.N
    = (fun y => Lat.dqnw (args m c) (y 1) : FVec Ideal S1x256 .f32) := by
  refine (dats m 0 c).arrAt_eq_of_covers 13 _ (by decide +kernel) fun t hf y => ?_
  have ht := (flush0_13 t).mp hf
  have hN : cfg0.N = 16 := N_0
  have htl := t.isLt
  blk_simp
  rw [after0_13]
  idx_vars y
  obtain rfl : y0 = 0 := Subsingleton.elim _ _
  refine (total (fun n h (i : Fin 256) => (outsAt0 m c n h).2.2.2.1 (ix2 0 i))
    (fun i b s => Lat.dqn (args m c) b s i * RowNorm.xh Lat.lenQ (Lat.qlat (args m c) b s) i)
    (fun t h i => by rw [outs_A m c t h]; refine (dqnStep_apply m c t _ i).trans ?_; pointwise [k0_pay4])
    (fun t h i => by rw [outs_B m c t h]; exact dqnStep_apply m c t _ i) t (by omega) y1).trans
    (show Lat.dqnw (args m c) y1 = _ from congrArg (Lat.dqnw (args m c)) ?_) <;> (apply Fin.ext; blk_simp [idx t] <;> simp)

theorem final_dknw (c : Dev nD) : (dats m 0 c).arrAt 14 cfg0.N
    = (fun y => Lat.dknw (args m c) (y 1) : FVec Ideal S1x128 .f32) := by
  refine (dats m 0 c).arrAt_eq_of_covers 14 _ (by decide +kernel) fun t hf y => ?_
  have ht := (flush0_14 t).mp hf
  have hN : cfg0.N = 16 := N_0
  have htl := t.isLt
  blk_simp
  rw [after0_14]
  idx_vars y
  obtain rfl : y0 = 0 := Subsingleton.elim _ _
  refine (total (fun n h (i : Fin 128) => (outsAt0 m c n h).2.2.2.2 (ix2 0 i))
    (fun i b s => Lat.dkn (args m c) b s i * RowNorm.xh Lat.lenK (Lat.klat (args m c) b s) i)
    (fun t h i => by rw [outs_A m c t h]; refine (dknStep_apply m c t _ i).trans ?_; pointwise [k0_pay5])
    (fun t h i => by rw [outs_B m c t h]; exact dknStep_apply m c t _ i) t (by omega) y1).trans
    (show Lat.dknw (args m c) y1 = _ from congrArg (Lat.dknw (args m c)) ?_) <;> (apply Fin.ext; blk_simp [idx t] <;> simp)

end Cert.Kernel12Ideal.Value
-- ==== Proof.LatRef.lean ====
/-
  The reference's five results of the latents' gradient, entry by entry, in terms of its arguments.
-/
module

public import proofs.«01_k».proof.Proof.Gen.Reference12Ideal.Run
public import proofs.«01_k».proof.Proof.LatSpec
public import proofs.«01_k».proof.Proof.Ref
public import Idealize.ShloMosaic.Lib.Pointwise
public import Idealize.ShloMosaic.Lib.Tactic.CleanTypes

@[expose] public section
set_option maxRecDepth 16384
noncomputable section
open Idealize.ShloMosaic Idealize.ShloMosaic.TcCoe Idealize.SL.Sem Idealize.ShloMosaic.StableHlo
namespace Cert.Reference12Ideal.Value
open Cert.Reference12Ideal Cert.Reference12Ideal.Gen

variable (m : (ℓ : Loc nD τ sig) → Buf (Elt Ideal) ℓ)

/-- The reference's arguments on a device. -/
def args (c : Dev nD) : Lat.Args where
  p := fun b s l => m ((c.tc : Thread nD τ).loc main_arg0) (ix3 b s l)
  cos := fun b s l => m ((c.tc : Thread nD τ).loc main_arg1) (ix3 b s l)
  sin := fun b s l => m ((c.tc : Thread nD τ).loc main_arg2) (ix3 b s l)
  qn := fun l => m ((c.tc : Thread nD τ).loc main_arg3) (ix1 l)
  kn := fun l => m ((c.tc : Thread nD τ).loc main_arg4) (ix1 l)
  wq := fun k j => m ((c.tc : Thread nD τ).loc main_arg5) (ix2 k j)
  wkv := fun k j => m ((c.tc : Thread nD τ).loc main_arg6) (ix2 k j)
  dq := fun b s l => m ((c.tc : Thread nD τ).loc main_arg7) (ix3 b s l)
  dk := fun b s l => m ((c.tc : Thread nD τ).loc main_arg8) (ix3 b s l)
  dv := fun b s l => m ((c.tc : Thread nD τ).loc main_arg9) (ix3 b s l)

/-! ## The queries -/

theorem r91 (c : Dev nD) (b : Fin 4) (s : Fin 2048) (h : Fin 8) (l : Fin 128) :
    (res_main_v91 (launchContents m c) : FVec Ideal S4x2048x8x128 .f32) (ix4 b s h l) = (args m c).dq b s ⟨h.val * 128 + l.val, by omega⟩ := by
  unfold res_main_v91
  clean_types
  pointwise
  rfl

theorem r67 (c : Dev nD) (b : Fin 4) (s : Fin 2048) (l : Fin 128) :
    (res_main_v67 (launchContents m c) : FVec Ideal S4x2048x1x128 .f32) (ix4 b s 0 l) = (args m c).cos b s l := by
  unfold res_main_v67
  clean_types
  pointwise
  rfl

theorem r68 (c : Dev nD) (b : Fin 4) (s : Fin 2048) (l : Fin 128) :
    (res_main_v68 (launchContents m c) : FVec Ideal S4x2048x1x128 .f32) (ix4 b s 0 l) = (args m c).sin b s l := by
  unfold res_main_v68
  clean_types
  pointwise
  rfl

theorem r97 (c : Dev nD) (b : Fin 4) (s : Fin 2048) (h : Fin 8) (l : Fin 128) :
    (res_main_v97 (launchContents m c) : FVec Ideal S4x2048x8x128 .f32) (ix4 b s h l) = (args m c).dq b s ⟨h.val * 128 + l.val, by omega⟩ * (args m c).sin b s l := by
  unfold res_main_v97
  clean_types
  pointwise
  simp only [r91, r68]

/-- The turned gradient as slices side by side, as the reference writes it. -/
theorem turn_slices (d co si : Fin 128 → EReal) (l : Fin 128) :
    (d l * co l + if _ : l.val < 64 then 0
      else if _ : l.val - 64 < 16 then d ⟨80 + (l.val - 64), by omega⟩ * si ⟨80 + (l.val - 64), by omega⟩
      else if _ : l.val - 64 - 16 < 16 then -(d ⟨64 + (l.val - 64 - 16), by omega⟩ * si ⟨64 + (l.val - 64 - 16), by omega⟩)
      else 0) = Lat.turnBack d co si l := by
  unfold Lat.turnBack
  by_cases e1 : l.val < 64
  · rw [dif_pos e1, dif_pos e1]
  by_cases e2 : l.val < 80
  · have e : 80 + (l.val - 64) = l.val + 16 := by omega
    have e2' : l.val - 64 < 16 := by omega
    simp only [e, e1, e2, e2']
    rfl
  by_cases e3 : l.val < 96
  · have e : 64 + (l.val - 64 - 16) = l.val - 16 := by omega
    have e2' : ¬l.val - 64 < 16 := by omega
    have e3' : l.val - 64 - 16 < 16 := by omega
    simp only [e, e1, e2, e2', e3, e3']
    rfl
  · have e2' : ¬l.val - 64 < 16 := by omega
    have e3' : ¬l.val - 64 - 16 < 16 := by omega
    simp only [e1, e2, e2', e3, e3']
    rfl

theorem r150 (c : Dev nD) (b : Fin 4) (s : Fin 2048) (j : Fin 1024) :
    (res_main_v150 (launchContents m c) : FVec Ideal S4x2048x1024 .f32) (ix3 b s j) = Lat.dqpre (args m c) b s j := by
  unfold res_main_v150
  clean_types
  pointwise
  simp only [r91, r67, r97]
  exact turn_slices (fun l => (args m c).dq b s ⟨j.val / 128 * 128 + l.val, by omega⟩) _ _ ⟨j.val % 128, by omega⟩

theorem r1 (c : Dev nD) (k : Fin 256) (j : Fin 1024) :
    (res_main_v1 (launchContents m c) : FVec Ideal S256x1024 .f32) (ix2 k j) = (args m c).wq k j := by
  unfold res_main_v1
  clean_types
  pointwise
  rfl

theorem r2 (c : Dev nD) (k : Fin 128) (j : Fin 1536) :
    (res_main_v2 (launchContents m c) : FVec Ideal S128x1536 .f32) (ix2 k j) = (args m c).wkv k j := by
  unfold res_main_v2
  clean_types
  pointwise
  rfl

theorem r153 (c : Dev nD) (b : Fin 4) (s : Fin 2048) (l : Fin 256) :
    (res_main_v153 (launchContents m c) : FVec Ideal S4x2048x256 .f32) (ix3 b s l) = Lat.dqn (args m c) b s l := by
  unfold res_main_v153
  clean_types
  pointwise
  simp only [r150, r1]
  rfl

/-! ## The keys, the values and the shared rotary key -/

theorem r90 (c : Dev nD) (b : Fin 4) (s : Fin 2048) (h : Fin 8) (l : Fin 128) :
    (res_main_v90 (launchContents m c) : FVec Ideal S4x2048x8x128 .f32) (ix4 b s h l) = (args m c).dk b s ⟨h.val * 128 + l.val, by omega⟩ := by
  unfold res_main_v90
  clean_types
  pointwise
  rfl

theorem r94 (c : Dev nD) (b : Fin 4) (s : Fin 2048) (l : Fin 128) :
    (res_main_v94 (launchContents m c) : FVec Ideal S4x2048x128 .f32) (ix3 b s l) = ∑ h : Fin 8, (args m c).dk b s ⟨h.val * 128 + l.val, by omega⟩ := by
  unfold res_main_v94
  clean_types
  pointwise
  simp only [r90, Fin.sum_univ_one, zero_add]

theorem r114 (c : Dev nD) (b : Fin 4) (s : Fin 2048) (l : Fin 128) :
    (res_main_v114 (launchContents m c) : FVec Ideal S4x2048x128 .f32) (ix3 b s l) = Lat.dkpe (args m c) b s l := by
  unfold res_main_v114
  clean_types
  pointwise
  simp only [r94]
  unfold Lat.dkpe
  by_cases h1 : l.val < 64
  · have : ¬(64 ≤ l.val ∧ l.val < 96) := by omega
    simp only [h1, this, if_false, Finset.sum_const_zero, dite_true]
  by_cases h2 : l.val < 96
  · have e : 64 + (l.val - 64) = l.val := by omega
    have h3 : 64 ≤ l.val ∧ l.val < 96 := by omega
    have h4 : l.val - 64 < 32 := by omega
    simp only [h1, h3, h4, e, dite_true, dite_false, and_self, if_true]
  · have h3 : ¬(64 ≤ l.val ∧ l.val < 96) := by omega
    have h4 : ¬l.val - 64 < 32 := by omega
    simp only [h1, h3, h4, dite_false, if_false, Finset.sum_const_zero]

theorem r115 (c : Dev nD) (b : Fin 4) (s : Fin 2048) (l : Fin 128) :
    (res_main_v115 (launchContents m c) : FVec Ideal S4x2048x128 .f32) (ix3 b s l) = Lat.dkpe (args m c) b s l * (args m c).sin b s l := by
  unfold res_main_v115
  clean_types
  pointwise
  simp only [r114]
  rfl

theorem r126 (c : Dev nD) (b : Fin 4) (s : Fin 2048) (j : Fin 1536) :
    (res_main_v126 (launchContents m c) : FVec Ideal S4x2048x1536 .f32) (ix3 b s j) = Lat.dkv (args m c) b s j := by
  unfold res_main_v126
  clean_types
  pointwise
  simp only [r90]
  simp only [Nat.div_add_mod']
  rfl

theorem r129 (c : Dev nD) (b : Fin 4) (s : Fin 2048) (l : Fin 128) :
    (res_main_v129 (launchContents m c) : FVec Ideal S4x2048x128 .f32) (ix3 b s l) = Lat.dkn (args m c) b s l := by
  unfold res_main_v129
  clean_types
  pointwise
  simp only [r126, r2]
  rfl

/-! ## The two latents and their norms -/

theorem r6 (c : Dev nD) (b : Fin 4) (s : Fin 2048) (l : Fin 256) :
    (res_main_v6 (launchContents m c) : FVec Ideal S4x2048x256 .f32) (ix3 b s l) = Lat.qlat (args m c) b s l := by
  unfold res_main_v6
  clean_types
  pointwise [res_main_v0]
  rfl

theorem r7 (c : Dev nD) (b : Fin 4) (s : Fin 2048) (l : Fin 128) :
    (res_main_v7 (launchContents m c) : FVec Ideal S4x2048x128 .f32) (ix3 b s l) = Lat.klat (args m c) b s l := by
  unfold res_main_v7
  clean_types
  pointwise [res_main_v0]
  rfl

theorem r15 (c : Dev nD) (b : Fin 4) (s : Fin 2048) :
    (res_main_v15 (launchContents m c) : FVec Ideal S4x2048x1 .f32) (ix3 b s 0) = RowNorm.ms Lat.lenQ (Lat.qlat (args m c) b s) := by
  unfold res_main_v15
  clean_types
  pointwise
  simp only [r6, zero_add]
  rfl

theorem r16 (c : Dev nD) (b : Fin 4) (s : Fin 2048) :
    (res_main_v16 (launchContents m c) : FVec Ideal S4x2048x1 .f32) (ix3 b s 0) = RowNorm.rs Lat.lenQ (Lat.qlat (args m c) b s) := by
  unfold res_main_v16
  clean_types
  pointwise
  simp only [r15]
  rfl

theorem r21 (c : Dev nD) (b : Fin 4) (s : Fin 2048) (l : Fin 256) :
    (res_main_v21 (launchContents m c) : FVec Ideal S4x2048x256 .f32) (ix3 b s l) = RowNorm.xh Lat.lenQ (Lat.qlat (args m c) b s) l := by
  unfold res_main_v21
  clean_types
  pointwise
  simp only [r6, r16]
  rfl

theorem r22 (c : Dev nD) (l : Fin 256) :
    (res_main_v22 (launchContents m c) : FVec Ideal S1x1x256 .f32) (ix3 0 0 l) = (args m c).qn l := by
  unfold res_main_v22
  clean_types
  pointwise
  rfl

theorem r24 (c : Dev nD) (b : Fin 4) (s : Fin 2048) (l : Fin 256) :
    (res_main_v24 (launchContents m c) : FVec Ideal S4x2048x256 .f32) (ix3 b s l) = RowNorm.xh Lat.lenQ (Lat.qlat (args m c) b s) l * (args m c).qn l := by
  unfold res_main_v24
  clean_types
  pointwise
  simp only [r21, r22]

theorem r158 (c : Dev nD) (b : Fin 4) (s : Fin 2048) (l : Fin 256) :
    (res_main_v158 (launchContents m c) : FVec Ideal S4x2048x256 .f32) (ix3 b s l) = Lat.dqn (args m c) b s l * (args m c).qn l := by
  unfold res_main_v158
  clean_types
  pointwise
  simp only [r153, r22]

theorem r169 (c : Dev nD) (b : Fin 4) (s : Fin 2048) (l : Fin 256) :
    (res_main_v169 (launchContents m c) : FVec Ideal S4x2048x256 .f32) (ix3 b s l) = RowNorm.inner Lat.lenQ (Lat.qlat (args m c) b s) (fun k => Lat.dqn (args m c) b s k * (args m c).qn k) := by
  unfold res_main_v169
  clean_types
  pointwise
  simp only [r6, r158, r16, r15, Fin.sum_univ_one, zero_add]
  rfl

theorem r33 (c : Dev nD) (b : Fin 4) (s : Fin 2048) :
    (res_main_v33 (launchContents m c) : FVec Ideal S4x2048x1 .f32) (ix3 b s 0) = RowNorm.ms Lat.lenK (Lat.klat (args m c) b s) := by
  unfold res_main_v33
  clean_types
  pointwise
  simp only [r7, zero_add]
  rfl

theorem r34 (c : Dev nD) (b : Fin 4) (s : Fin 2048) :
    (res_main_v34 (launchContents m c) : FVec Ideal S4x2048x1 .f32) (ix3 b s 0) = RowNorm.rs Lat.lenK (Lat.klat (args m c) b s) := by
  unfold res_main_v34
  clean_types
  pointwise
  simp only [r33]
  rfl

theorem r39 (c : Dev nD) (b : Fin 4) (s : Fin 2048) (l : Fin 128) :
    (res_main_v39 (launchContents m c) : FVec Ideal S4x2048x128 .f32) (ix3 b s l) = RowNorm.xh Lat.lenK (Lat.klat (args m c) b s) l := by
  unfold res_main_v39
  clean_types
  pointwise
  simp only [r7, r34]
  rfl

theorem r40 (c : Dev nD) (l : Fin 128) :
    (res_main_v40 (launchContents m c) : FVec Ideal S1x1x128 .f32) (ix3 0 0 l) = (args m c).kn l := by
  unfold res_main_v40
  clean_types
  pointwise
  rfl

theorem r42 (c : Dev nD) (b : Fin 4) (s : Fin 2048) (l : Fin 128) :
    (res_main_v42 (launchContents m c) : FVec Ideal S4x2048x128 .f32) (ix3 b s l) = RowNorm.xh Lat.lenK (Lat.klat (args m c) b s) l * (args m c).kn l := by
  unfold res_main_v42
  clean_types
  pointwise
  simp only [r39, r40]

theorem r134 (c : Dev nD) (b : Fin 4) (s : Fin 2048) (l : Fin 128) :
    (res_main_v134 (launchContents m c) : FVec Ideal S4x2048x128 .f32) (ix3 b s l) = Lat.dkn (args m c) b s l * (args m c).kn l := by
  unfold res_main_v134
  clean_types
  pointwise
  simp only [r129, r40]

theorem r145 (c : Dev nD) (b : Fin 4) (s : Fin 2048) (l : Fin 128) :
    (res_main_v145 (launchContents m c) : FVec Ideal S4x2048x128 .f32) (ix3 b s l) = RowNorm.inner Lat.lenK (Lat.klat (args m c) b s) (fun k => Lat.dkn (args m c) b s k * (args m c).kn k) := by
  unfold res_main_v145
  clean_types
  pointwise
  simp only [r7, r134, r34, r33, Fin.sum_univ_one, zero_add]
  rfl

/-! ## The results -/

set_option maxHeartbeats 1000000 in
/-- The five results of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v175) = (fun y => Lat.dp (args m c) (y 0) (y 1) (y 2) : FVec Ideal S4x2048x512 .bf16)
      ∧ r.2.mem ((c.tc : Thread nD τ).loc main_v152) = (fun y => Lat.dwq (args m c) (y 0) (y 1) : FVec Ideal S256x1024 .f32)
      ∧ r.2.mem ((c.tc : Thread nD τ).loc main_v128) = (fun y => Lat.dwkv (args m c) (y 0) (y 1) : FVec Ideal S128x1536 .f32)
      ∧ r.2.mem ((c.tc : Thread nD τ).loc main_v176) = (fun y => Lat.dqnw (args m c) (y 1) : FVec Ideal S1x256 .f32)
      ∧ r.2.mem ((c.tc : Thread nD τ).loc main_v177) = (fun y => Lat.dknw (args m c) (y 1) : FVec Ideal S1x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (run m ρ)
  obtain ⟨h0, h1, h2, h3, h4, hk⟩ := h c
  refine ⟨h0.trans (funext fun y => ?_), h1.trans (funext fun y => ?_), h2.trans (funext fun y => ?_),
    h3.trans (funext fun y => ?_), h4.trans (funext fun y => ?_), hk⟩ <;>
    clear h0 h1 h2 h3 h4 hk h <;> clean_types <;> idx_vars y
  · pointwise
    simp only [r158, r16, r6, r169, r134, r34, r7, r145, r114, r115]
    unfold Lat.dp
    by_cases h : y2.val < 256
    · rw [dif_pos h, dif_pos h]
      rfl
    by_cases h1 : y2.val - 256 < 128
    · rw [dif_neg h, dif_neg h, dif_pos h1, dif_pos h1]
      rfl
    · rw [dif_neg h, dif_neg h, dif_neg h1, dif_neg h1]
      exact turn_slices (Lat.dkpe (args m c) y0 y1) ((args m c).cos y0 y1) ((args m c).sin y0 y1) ⟨y2.val - 256 - 128, by omega⟩
  · pointwise
    simp only [r150, r24]
    exact Finset.sum_congr rfl fun b _ => Finset.sum_congr rfl fun s _ => mul_comm _ _
  · pointwise
    simp only [r126, r42]
    exact Finset.sum_congr rfl fun b _ => Finset.sum_congr rfl fun s _ => mul_comm _ _
  · pointwise [Cert.ReferenceIdeal.Value.sum_first_two]
    simp only [r21, r153, Fin.sum_univ_one, zero_add]
    exact Finset.sum_congr rfl fun b _ => Finset.sum_congr rfl fun s _ => mul_comm _ _
  · pointwise [Cert.ReferenceIdeal.Value.sum_first_two]
    simp only [r39, r129, Fin.sum_univ_one, zero_add]
    exact Finset.sum_congr rfl fun b _ => Finset.sum_congr rfl fun s _ => mul_comm _ _

end Cert.Reference12Ideal.Value
-- ==== Proof.LatClaim.lean ====
/-
  The claims about the latents' gradient: the reference's frame, and that the idealized kernel and the reference leave
  the same five arrays on every input.
-/
module

public import proofs.«01_k».proof.Proof.LatArrays
public import proofs.«01_k».proof.Proof.LatRef
public import proofs.«01_k».proof.Defs
public import Idealize.ShloMosaic.Adequacy
public import Idealize.ShloMosaic.Init

@[expose] public section

noncomputable section

open Idealize.ShloMosaic Idealize.SL.Sem

namespace Cert.LatClaim

/-- The reference leaves its arguments as they were; it has no semaphores. -/
theorem frame_reference : quiescent_Reference12Ideal := fun m ρ _ =>
  (θ_run _ _ _).mono (fun r h => ⟨fun c => (h c).2.2.2.2.2, sem_eq_zero_of_no_sems rfl r.2⟩)
    (Cert.Reference12Ideal.Value.run_spec m ρ)

/-- Both runs leave the five arrays of the specification at the kernel's arguments. -/
theorem same_results : algebraic_Kernel12Ideal_Reference12Ideal := fun m ρ m' ρ' _ hag => by
  have e : ∀ c, Cert.Reference12Ideal.Value.args m' c = Cert.Kernel12Ideal.Value.args m c := fun c => by
    obtain ⟨h0, h1, h2, h3, h4, h5, h6, h7, h8, h9⟩ := hag c
    unfold Cert.Reference12Ideal.Value.args
    rw [h0, h1, h2, h3, h4, h5, h6, h7, h8, h9]
    rfl
  refine ⟨fun c y => Lat.dp (Cert.Kernel12Ideal.Value.args m c) (y 0) (y 1) (y 2),
    fun c y => Lat.dwq (Cert.Kernel12Ideal.Value.args m c) (y 0) (y 1),
    fun c y => Lat.dwkv (Cert.Kernel12Ideal.Value.args m c) (y 0) (y 1),
    fun c y => Lat.dqnw (Cert.Kernel12Ideal.Value.args m c) (y 1),
    fun c y => Lat.dknw (Cert.Kernel12Ideal.Value.args m c) (y 1),
    (θ_run _ _ _).mono (fun r h c => ?_) (Cert.Kernel12Ideal.Value.run_blocks m ρ),
    (θ_run _ _ _).mono (fun r h c => ?_) (Cert.Reference12Ideal.Value.run_spec m' ρ')⟩
  · obtain ⟨h0, h1, h2, h3, h4, hk⟩ := h c
    exact ⟨h0.trans (Cert.Kernel12Ideal.Value.final_dp m c), h1.trans (Cert.Kernel12Ideal.Value.final_dwq m c),
      h2.trans (Cert.Kernel12Ideal.Value.final_dwkv m c), h3.trans (Cert.Kernel12Ideal.Value.final_dqnw m c),
      h4.trans (Cert.Kernel12Ideal.Value.final_dknw m c), hk⟩
  · have hc := h c
    rw [e c] at hc
    exact hc

end Cert.LatClaim
-- ==== Proof.LossBlock.lean ====
/-
  What one grid point of the output product with the loss leaves in its four output blocks, as terms of its input blocks
  and, for the two sums, of what the point before left: the first point starts them from zero.
-/
module

public import proofs.«01_k».proof.Proof.Gen.Kernel13Ideal.Value
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.Kernel13Ideal.Value

open Cert.Kernel13Ideal Cert.Kernel13Ideal.Gen

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The three groups of rows of the point's weight. -/
def wLo (c : Dev nD) (t : Fin cfg0.N) : Vec F S256x1024 .bf16 :=
  View.ld (iblk m c 6 t : Vec F S1024x1024 .bf16) (Rect.unit ![0, 0] ![256, 1024] inb_S1024x1024_S256x1024_0_0)
def wMid (c : Dev nD) (t : Fin cfg0.N) : Vec F S512x1024 .bf16 :=
  View.ld (iblk m c 6 t : Vec F S1024x1024 .bf16) (Rect.unit ![256, 0] ![512, 1024] inb_S1024x1024_S512x1024_256_0)
def wHi (c : Dev nD) (t : Fin cfg0.N) : Vec F S256x1024 .bf16 :=
  View.ld (iblk m c 6 t : Vec F S1024x1024 .bf16) (Rect.unit ![768, 0] ![256, 1024] inb_S1024x1024_S256x1024_768_0)

/-- The first two groups' part of the product, and the third group's branch. -/
def partAt (c : Dev nD) (t : Fin cfg0.N) : FVec F S512x1024 .f32 :=
  k0_pay7 (iblk m c 3 t) (iblk m c 4 t) (iblk m c 2 t) (wLo m c t) (wMid m c t)
def glaAt (c : Dev nD) (t : Fin cfg0.N) : FVec F S512x256 .bf16 := k0_pay8 (iblk m c 5 t)

/-- The product, the reciprocal roots, the normalised rows and the errors. -/
def yAt (c : Dev nD) (t : Fin cfg0.N) : FVec F S1x512x1024 .bf16 := k0_pay10 (partAt m c t) (glaAt m c t) (wHi m c t)
def rsAt (c : Dev nD) (t : Fin cfg0.N) : FVec F S512x1 .f32 :=
  k0_pay13 (partAt m c t) (glaAt m c t) (wHi m c t) (iblk m c 0 t) (iblk m c 1 t)
def xhAt (c : Dev nD) (t : Fin cfg0.N) : FVec F S512x1024 .f32 :=
  k0_pay14 (partAt m c t) (glaAt m c t) (wHi m c t) (iblk m c 0 t) (iblk m c 1 t)
def errAt (c : Dev nD) (t : Fin cfg0.N) : FVec F S512x1024 .f32 :=
  k0_pay15 (partAt m c t) (glaAt m c t) (wHi m c t) (iblk m c 0 t) (iblk m c 1 t) (iblk m c 7 t) (iblk m c 8 t)

/-- The point's block of the gradient at the residual stream. -/
def dxAt (c : Dev nD) (t : Fin cfg0.N) : FVec F S1x512x1024 .f32 :=
  k0_pay4 (k0_pay12 (iblk m c 7 t)) (rsAt m c t) (xhAt m c t) (errAt m c t)

/-- One step of each of the two sums from `acc`. -/
def lossStep (c : Dev nD) (t : Fin cfg0.N) (acc : Vec F S1x1 .f32) : Vec F S1x1 .f32 :=
  k0_pay1 (k0_pay16 acc) (k0_pay17 (partAt m c t) (glaAt m c t) (wHi m c t) (iblk m c 0 t) (iblk m c 1 t) (iblk m c 7 t) (iblk m c 8 t))
    (Scalar.ofBits .f32 0x44800000#32)
def dfwStep (c : Dev nD) (t : Fin cfg0.N) (acc : Vec F S1x1024 .f32) : Vec F S1x1024 .f32 :=
  k0_pay3 (xhAt m c t) (errAt m c t) acc

/-- What the point before `t` left. -/
abbrev prev (c : Dev nD) (t : Fin cfg0.N) := outsAt0 m c (t.val - 1) (Nat.lt_of_le_of_lt (Nat.sub_le _ _) t.isLt)

set_option maxHeartbeats 1000000 in
theorem outs_B (c : Dev nD) (t : Fin cfg0.N) (h0 : ¬t.val % 16 = 0) :
    outsAt0 m c t.val t.isLt
      = (dxAt m c t, yAt m c t, lossStep m c t (prev m c t).2.2.1, dfwStep m c t (prev m c t).2.2.2) := by
  rw [outsAt0_B m c t h0]
  unfold out0_B_9 out0_B_10 out0_B_11 out0_B_12
  rw [View.read_writes_eq_canon _ _ _ (fun y => cover0_B_9 (y := y) ..),
    View.read_writes_eq_canon _ _ _ (fun y => cover0_B_10 (y := y) ..),
    View.read_writes_eq_canon _ _ _ (fun y => cover0_B_11 (y := y) ..),
    View.read_writes_eq_canon _ _ _ (fun y => cover0_B_12 (y := y) ..)]
  unfold kernelRun0_B
  dsimp only
  sl_unfold_words
  rw [View.canon_unit_zero hz3, View.canon_unit_zero hz3, View.canon_unit_zero hz2, View.canon_unit_zero hz2]
  simp only [View.readAt_eq_ld, Memref.IsWhole.read_unread, View.ld_unit_zero (S := S1x512x512) hz3,
    View.ld_unit_zero (S := S1x512x256) hz3, View.ld_unit_zero (S := S1x512x1024) hz3, View.ld_unit_zero (S := S1x1x1024) hz3,
    View.ld_unit_zero (S := S1x1024) hz2, View.ld_unit_zero (S := S1x1) hz2]
  rfl

set_option maxHeartbeats 1000000 in
theorem outs_A (c : Dev nD) (t : Fin cfg0.N) (h0 : t.val % 16 = 0) :
    outsAt0 m c t.val t.isLt = (dxAt m c t, yAt m c t, lossStep m c t k0_pay5, dfwStep m c t k0_pay6) := by
  rw [outsAt0_A m c t h0]
  unfold out0_A_9 out0_A_10 out0_A_11 out0_A_12
  rw [View.read_writes_eq_canon _ _ _ (fun y => cover0_A_9 (y := y) ..),
    View.read_writes_eq_canon _ _ _ (fun y => cover0_A_10 (y := y) ..),
    View.read_writes_eq_canon _ _ _ (fun y => cover0_A_11 (y := y) ..),
    View.read_writes_eq_canon _ _ _ (fun y => cover0_A_12 (y := y) ..)]
  unfold kernelRun0_A
  dsimp only
  sl_unfold_words
  rw [View.canon_unit_zero hz3, View.canon_unit_zero hz3, View.canon_cons_unit_zero (S := S1x1) hz2,
    View.canon_cons_unit_zero (S := S1x1024) hz2]
  simp only [View.readAt_eq_ld, Memref.IsWhole.read_unread, View.ld_unit_zero (S := S1x512x512) hz3,
    View.ld_unit_zero (S := S1x512x256) hz3, View.ld_unit_zero (S := S1x512x1024) hz3, View.ld_unit_zero (S := S1x1x1024) hz3,
    View.ld_unit_zero (S := S1x1024) hz2, View.ld_unit_zero (S := S1x1) hz2, View.readCov_unit_zero (S := S1x1) _ hz2,
    View.readCov_unit_zero (S := S1x1024) _ hz2]
  rfl

end Cert.Kernel13Ideal.Value
-- ==== Proof.LossSpec.lean ====
/-
  The last layer's output product with the final norm and the loss, as functions of the arguments' entries: the residual
  stream behind the layer, the error of its normalised row, the loss, and the gradients at the stream and at the gain.
-/
module

public import proofs.«01_k».proof.Proof.MixSpec
public import proofs.«01_k».proof.Proof.RowNorm

@[expose] public section

noncomputable section

open Idealize.ShloMosaic

namespace Cert.Loss

open Cert.Norm (len)

/-- One half and two, as the programs print them. -/
abbrev half : EReal := Ideal.ofBits FTy.f32 1056964608#32
abbrev two : EReal := Ideal.ofBits FTy.f32 1073741824#32
/-- The reciprocal of the row's length. -/
abbrev step : EReal := Ideal.ofBits FTy.f32 981467136#32

theorem half_eq : half = ((1 / 2 : ℝ) : EReal) := by
  simp [half, Ideal.ofBits, Ideal.ieee, -EReal.coe_mul]; norm_num
theorem two_eq : two = ((2 : ℝ) : EReal) := by
  simp [two, Ideal.ofBits, Ideal.ieee, -EReal.coe_mul]; norm_num
theorem step_eq : step = ((1 / 1024 : ℝ) : EReal) := by
  simp [step, Ideal.ofBits, Ideal.ieee, -EReal.coe_mul]; norm_num

/-- The arguments, entry by entry: sequence, row, column. -/
structure Args where
  mix : Mix.Branches
  x : Fin 4 → Fin 2048 → Fin 1024 → EReal
  gate : Fin 4 → Fin 1024 → EReal
  fw : Fin 1024 → EReal
  target : Fin 4 → Fin 2048 → Fin 1024 → EReal

variable (A : Args) (b : Fin 4) (s : Fin 2048)

/-- The residual stream behind the layer. -/
def xn (l : Fin 1024) : EReal := A.x b s l + A.gate b l * Mix.y A.mix b s l
/-- The error of the normalised row. -/
def err (l : Fin 1024) : EReal := RowNorm.xh len (xn A b s) l * A.fw l - A.target b s l
/-- The loss: half the sum over the rows of the mean squared error. -/
def loss : EReal := half * ∑ b, ∑ s, Ideal.div (∑ l, err A b s l * err A b s l) len
/-- The gradient at the final norm's result. -/
def dy (l : Fin 1024) : EReal := err A b s l * step
/-- The gradient at the residual stream. -/
def dx (l : Fin 1024) : EReal := RowNorm.chain len (xn A b s) (fun k => dy A b s k * A.fw k) l
/-- The gradient at the final norm's gain. -/
def dfw (l : Fin 1024) : EReal := ∑ b, ∑ s, dy A b s l * RowNorm.xh len (xn A b s) l

/-- The gradient at the norm's result as the chain rule states it: through the half, the mean and the square. -/
theorem dy_chain (e : EReal) : Ideal.div half len * (two * e) = e * step := by
  rw [half_eq, two_eq, step_eq, Norm.div_len, ← mul_assoc, ← EReal.coe_mul, ← EReal.coe_mul, mul_comm]
  norm_num

/-- A half taken into a sum. -/
theorem half_sum {n : ℕ} (f : Fin n → EReal) : half * ∑ k, f k = ∑ k, half * f k := by
  have h0 : (0 : EReal) ≤ ((1 / 2 : ℝ) : EReal) := by exact_mod_cast (by norm_num : (0 : ℝ) ≤ 1 / 2)
  rw [half_eq]
  induction n with
  | zero => simp
  | succ n ih => rw [Fin.sum_univ_succ, Fin.sum_univ_succ, EReal.left_distrib_of_nonneg_of_ne_top h0 (EReal.coe_ne_top _), ih]

end Cert.Loss
-- ==== Proof.LossReads.lean ====
/-
  What the output product with the loss reads: the arguments on a device, the block of each window at a grid point and
  the entries of the input blocks. Point `t` is block `t % 4` of 512 rows of sequence `t / 4`.
-/
module

public import proofs.«01_k».proof.Proof.LossBlock
public import proofs.«01_k».proof.Proof.LossSpec
public import Idealize.ShloMosaic.Lib.Pointwise
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem

namespace Cert.Kernel13Ideal.Value

open Cert.Kernel13Ideal Cert.Kernel13Ideal.Gen

variable (m : (ℓ : Loc nD τ sig) → Buf (Elt Ideal) ℓ)

/-- The sequence of point `t`. -/
abbrev seqOf (t : Fin cfg0.N) : Fin 4 := ⟨t.val / 4, by have := t.isLt; have : cfg0.N = 16 := N_0; omega⟩
/-- Row `r` of point `t`'s block, as a row of its sequence. -/
abbrev rowOf (t : Fin cfg0.N) (r : Fin 512) : Fin 2048 := ⟨t.val % 4 * 512 + r.val, by have := r.isLt; omega⟩

/-- The kernel's arguments on a device. -/
def args (c : Dev nD) : Loss.Args where
  mix := {
    r := fun b s k => m ((c : Thread nD τ).loc main_arg2) (ix3 b s k)
    o := fun b s k => m ((c : Thread nD τ).loc main_arg3) (ix3 b s k)
    z := fun b s k => m ((c : Thread nD τ).loc main_arg4) (ix3 b s ⟨512 + k.val, by omega⟩)
    g := fun b s k => m ((c : Thread nD τ).loc main_arg5) (ix3 b s k)
    w := fun k l => m ((c : Thread nD τ).loc main_arg6) (ix2 k l) }
  x := fun b s l => m ((c : Thread nD τ).loc main_arg0) (ix3 b s l)
  gate := fun b l => m ((c : Thread nD τ).loc main_arg1) (ix2 b l)
  fw := fun l => m ((c : Thread nD τ).loc main_arg7) (ix1 l)
  target := fun b s l => m ((c : Thread nD τ).loc main_arg8) (ix3 b s l)

/-- The block of each window at point `t`. -/
theorem idx : ∀ t : Fin cfg0.N,
    win0_0.index t = ![t.val / 4, t.val % 4, 0] ∧ win0_1.index t = ![t.val / 4, 0, 0] ∧ win0_2.index t = ![t.val / 4, t.val % 4, 0]
    ∧ win0_3.index t = ![t.val / 4, t.val % 4, 0] ∧ win0_4.index t = ![t.val / 4, t.val % 4, 1]
    ∧ win0_5.index t = ![t.val / 4, t.val % 4, 0] ∧ win0_6.index t = ![0, 0] ∧ win0_7.index t = ![0, 0]
    ∧ win0_8.index t = ![t.val / 4, t.val % 4, 0] ∧ win0_9.index t = ![t.val / 4, t.val % 4, 0]
    ∧ win0_10.index t = ![t.val / 4, t.val % 4, 0] ∧ win0_11.index t = ![0, 0] ∧ win0_12.index t = ![0, 0] :=
  (by decide +kernel : ∀ t : Fin grid0.N,
    win0_0.index t = ![t.val / 4, t.val % 4, 0] ∧ win0_1.index t = ![t.val / 4, 0, 0] ∧ win0_2.index t = ![t.val / 4, t.val % 4, 0]
    ∧ win0_3.index t = ![t.val / 4, t.val % 4, 0] ∧ win0_4.index t = ![t.val / 4, t.val % 4, 1]
    ∧ win0_5.index t = ![t.val / 4, t.val % 4, 0] ∧ win0_6.index t = ![0, 0] ∧ win0_7.index t = ![0, 0]
    ∧ win0_8.index t = ![t.val / 4, t.val % 4, 0] ∧ win0_9.index t = ![t.val / 4, t.val % 4, 0]
    ∧ win0_10.index t = ![t.val / 4, t.val % 4, 0] ∧ win0_11.index t = ![0, 0] ∧ win0_12.index t = ![0, 0])

theorem readX (c : Dev nD) (t : Fin cfg0.N) (r : Fin 512) (l : Fin 1024) :
    (iblk m c 0 t : Vec Ideal S1x512x1024 .f32) (ix3 0 r l) = (args m c).x (seqOf t) (rowOf t r) l := by
  unfold args; blk_ext [iblk, V, idx t]
theorem readGate (c : Dev nD) (t : Fin cfg0.N) (l : Fin 1024) :
    (iblk m c 1 t : Vec Ideal S1x1x1024 .f32) (ix3 0 0 l) = (args m c).gate (seqOf t) l := by
  unfold args; blk_ext! [iblk, V, idx t]
theorem readR (c : Dev nD) (t : Fin cfg0.N) (r : Fin 512) (k : Fin 256) :
    (iblk m c 2 t : Vec Ideal S1x512x256 .bf16) (ix3 0 r k) = (args m c).mix.r (seqOf t) (rowOf t r) k := by
  unfold args; blk_ext [iblk, V, idx t]
theorem readO (c : Dev nD) (t : Fin cfg0.N) (r : Fin 512) (k : Fin 512) :
    (iblk m c 3 t : Vec Ideal S1x512x512 .f32) (ix3 0 r k) = (args m c).mix.o (seqOf t) (rowOf t r) k := by
  unfold args; blk_ext [iblk, V, idx t]
theorem readZ (c : Dev nD) (t : Fin cfg0.N) (r : Fin 512) (k : Fin 512) :
    (iblk m c 4 t : Vec Ideal S1x512x512 .bf16) (ix3 0 r k) = (args m c).mix.z (seqOf t) (rowOf t r) k := by
  unfold args; blk_ext [iblk, V, idx t]
theorem readG (c : Dev nD) (t : Fin cfg0.N) (r : Fin 512) (k : Fin 256) :
    (iblk m c 5 t : Vec Ideal S1x512x256 .bf16) (ix3 0 r k) = (args m c).mix.g (seqOf t) (rowOf t r) k := by
  unfold args; blk_ext [iblk, V, idx t]
theorem readW (c : Dev nD) (t : Fin cfg0.N) (k l : Fin 1024) :
    (iblk m c 6 t : Vec Ideal S1024x1024 .bf16) (ix2 k l) = (args m c).mix.w k l := by
  unfold args; blk_ext! [iblk, V, idx t]
theorem readFw (c : Dev nD) (t : Fin cfg0.N) (l : Fin 1024) :
    (iblk m c 7 t : Vec Ideal S1x1024 .f32) (ix2 0 l) = (args m c).fw l := by
  unfold args; blk_ext! [iblk, V, idx t]
theorem readTarget (c : Dev nD) (t : Fin cfg0.N) (r : Fin 512) (l : Fin 1024) :
    (iblk m c 8 t : Vec Ideal S1x512x1024 .f32) (ix3 0 r l) = (args m c).target (seqOf t) (rowOf t r) l := by
  unfold args; blk_ext [iblk, V, idx t]

/-- The three groups of the weight's rows. -/
theorem wLo_apply (c : Dev nD) (t : Fin cfg0.N) (k : Fin 256) (l : Fin 1024) :
    wLo m c t (ix2 k l) = (args m c).mix.w ⟨k.val, by omega⟩ l := by
  rw [← readW m c t]; pointwise [wLo]
theorem wMid_apply (c : Dev nD) (t : Fin cfg0.N) (k : Fin 512) (l : Fin 1024) :
    wMid m c t (ix2 k l) = (args m c).mix.w ⟨256 + k.val, by omega⟩ l := by
  rw [← readW m c t]; pointwise [wMid]
theorem wHi_apply (c : Dev nD) (t : Fin cfg0.N) (k : Fin 256) (l : Fin 1024) :
    wHi m c t (ix2 k l) = (args m c).mix.w ⟨768 + k.val, by omega⟩ l := by
  rw [← readW m c t]; pointwise [wHi]

end Cert.Kernel13Ideal.Value
-- ==== Proof.LossPoint.lean ====
/-
  What a grid point of the output product with the loss computes, entry by entry, in terms of the specification.
-/
module

public import proofs.«01_k».proof.Proof.LossReads

@[expose] public section

set_option maxRecDepth 16384

noncomputable section

open Idealize.ShloMosaic Idealize.ShloMosaic.TcCoe Idealize.SL.Sem

namespace Cert.Kernel13Ideal.Value

open Cert.Kernel13Ideal Cert.Kernel13Ideal.Gen
open Cert.Norm (len)

variable (m : (ℓ : Loc nD τ sig) → Buf (Elt Ideal) ℓ)
variable (c : Dev nD) (t : Fin cfg0.N) (r : Fin 512)

/-- The product of the point's rows. -/
theorem prod_apply (l : Fin 1024) :
    k0_pay9 (partAt m c t) (glaAt m c t) (wHi m c t) (ix2 r l) = Mix.y (args m c).mix (seqOf t) (rowOf t r) l := by
  pointwise [k0_pay9, partAt, glaAt, k0_pay7, k0_pay8]
  simp only [readR, readO, readZ, readG, wLo_apply, wMid_apply, wHi_apply]
  rw [Mix.y_groups]
  simp only [Mix.silu, Mix.sig, zero_sub]

theorem yAt_apply (l : Fin 1024) : yAt m c t (ix3 0 r l) = Mix.y (args m c).mix (seqOf t) (rowOf t r) l := by
  pointwise [yAt, k0_pay10]
  exact prod_apply m c t r l

/-- The residual stream behind the layer, at the point's rows. -/
theorem xn_apply (l : Fin 1024) : k0_pay11 (partAt m c t) (glaAt m c t) (wHi m c t) (iblk m c 0 t) (iblk m c 1 t) (ix2 r l)
    = Loss.xn (args m c) (seqOf t) (rowOf t r) l := by
  pointwise [k0_pay11]
  simp only [readX, readGate, prod_apply]
  rfl

theorem rsAt_apply : rsAt m c t (ix2 r 0) = RowNorm.rs len (Loss.xn (args m c) (seqOf t) (rowOf t r)) := by
  pointwise [rsAt, k0_pay13]
  simp only [xn_apply]
  rfl

theorem xhAt_apply (l : Fin 1024) :
    xhAt m c t (ix2 r l) = RowNorm.xh len (Loss.xn (args m c) (seqOf t) (rowOf t r)) l := by
  have h : k0_pay13 (partAt m c t) (glaAt m c t) (wHi m c t) (iblk m c 0 t) (iblk m c 1 t) (ix2 r 0)
    = RowNorm.rs len (Loss.xn (args m c) (seqOf t) (rowOf t r)) := rsAt_apply m c t r
  pointwise [xhAt, k0_pay14]
  simp only [xn_apply, h]
  rfl

theorem errAt_apply (l : Fin 1024) : errAt m c t (ix2 r l) = Loss.err (args m c) (seqOf t) (rowOf t r) l := by
  have h := xhAt_apply m c t r l
  unfold xhAt at h
  pointwise [errAt, k0_pay15, k0_pay12]
  rw [h, readFw, readTarget]
  rfl

theorem dxAt_apply (l : Fin 1024) : dxAt m c t (ix3 0 r l) = Loss.dx (args m c) (seqOf t) (rowOf t r) l := by
  unfold Loss.dx
  rw [← RowNorm.closed_eq_chain Norm.len_eq (by norm_num)]
  pointwise [dxAt, k0_pay4, k0_pay2, k0_pay12]
  simp only [rsAt_apply, xhAt_apply, errAt_apply, readFw]
  rfl

theorem lossStep_apply (acc : Vec Ideal S1x1 .f32) : lossStep m c t acc (ix2 0 0) = acc (ix2 0 0)
    + ∑ r, Loss.half * Ideal.div (∑ l, Loss.err (args m c) (seqOf t) (rowOf t r) l * Loss.err (args m c) (seqOf t) (rowOf t r) l) len := by
  have h : ∀ r l, k0_pay15 (partAt m c t) (glaAt m c t) (wHi m c t) (iblk m c 0 t) (iblk m c 1 t) (iblk m c 7 t) (iblk m c 8 t)
    (ix2 r l) = Loss.err (args m c) (seqOf t) (rowOf t r) l := errAt_apply m c t
  rw [← Loss.half_sum]
  pointwise [lossStep, k0_pay1, k0_pay16, k0_pay17]
  simp only [h]

theorem dfwStep_apply (acc : Vec Ideal S1x1024 .f32) (l : Fin 1024) : dfwStep m c t acc (ix2 0 l) = acc (ix2 0 l)
    + ∑ r, Loss.dy (args m c) (seqOf t) (rowOf t r) l * RowNorm.xh len (Loss.xn (args m c) (seqOf t) (rowOf t r)) l := by
  pointwise [dfwStep, k0_pay3, k0_pay2]
  simp only [xhAt_apply, errAt_apply]
  rfl

end Cert.Kernel13Ideal.Value
-- ==== Proof.LossArrays.lean ====
/-
  The four results of the output product with the loss, each array whole: the product and the gradient at the residual
  stream from their blocks, the loss and the gain's gradient from the last point.
-/
module

public import proofs.«01_k».proof.Proof.LossPoint

@[expose] public section

set_option maxRecDepth 16384

noncomputable section

open Idealize.ShloMosaic Idealize.ShloMosaic.TcCoe Idealize.SL.Sem

namespace Cert.Kernel13Ideal.Value

open Cert.Kernel13Ideal Cert.Kernel13Ideal.Gen
open Cert.Norm (len)

variable (m : (ℓ : Loc nD τ sig) → Buf (Elt Ideal) ℓ)

/-- The first two outputs at any point are its blocks of the gradient and of the product. -/
theorem out_blocks (c : Dev nD) (t : Fin cfg0.N) :
    (outsAt0 m c t.val t.isLt).1 = dxAt m c t ∧ (outsAt0 m c t.val t.isLt).2.1 = yAt m c t := by
  by_cases h0 : t.val % 16 = 0
  · rw [outs_A m c t h0]; exact ⟨rfl, rfl⟩
  · rw [outs_B m c t h0]; exact ⟨rfl, rfl⟩

theorem final_dx (c : Dev nD) : (dats m 0 c).arrAt 9 cfg0.N
    = (fun y => Loss.dx (args m c) (y 0) (y 1) (y 2) : FVec Ideal S4x2048x1024 .f32) := by
  refine (dats m 0 c).arrAt_eq_of_covers 9 _ (by decide +kernel) fun t hf y => ?_
  blk_simp
  rw [after0_9, (out_blocks m c t).1]
  idx_vars y
  obtain rfl : y0 = 0 := Subsingleton.elim _ _
  refine (dxAt_apply m c t y1 y2).trans (congr (congr (congrArg (Loss.dx (args m c)) ?_) ?_) ?_) <;>
    (apply Fin.ext; blk_simp [idx t] <;> simp)

theorem final_y (c : Dev nD) : (dats m 0 c).arrAt 10 cfg0.N
    = (fun y => Mix.y (args m c).mix (y 0) (y 1) (y 2) : FVec Ideal S4x2048x1024 .bf16) := by
  refine (dats m 0 c).arrAt_eq_of_covers 10 _ (by decide +kernel) fun t hf y => ?_
  blk_simp
  rw [after0_10, (out_blocks m c t).2]
  idx_vars y
  obtain rfl : y0 = 0 := Subsingleton.elim _ _
  refine (yAt_apply m c t y1 y2).trans (congr (congr (congrArg (Mix.y (args m c).mix) ?_) ?_) ?_) <;>
    (apply Fin.ext; blk_simp [idx t] <;> simp)

/-- A sum started at the first point and added to at every other: over all rows of all sequences. -/
theorem total {ι : Type} (out : (n : ℕ) → n < cfg0.N → ι → EReal) (g : ι → Fin 4 → Fin 2048 → EReal)
    (first : ∀ t : Fin cfg0.N, t.val % 16 = 0 → ∀ i, out t.val t.isLt i = ∑ r, g i (seqOf t) (rowOf t r))
    (next : ∀ t : Fin cfg0.N, ¬t.val % 16 = 0 → ∀ i, out t.val t.isLt i
      = out (t.val - 1) (Nat.lt_of_le_of_lt (Nat.sub_le _ _) t.isLt) i + ∑ r, g i (seqOf t) (rowOf t r))
    (t : Fin cfg0.N) (ht : t.val = 15) (i : ι) : out t.val t.isLt i = ∑ b, ∑ s, g i b s := by
  have hN : cfg0.N = 16 := N_0
  refine (Pipeline.eq_sum_fin_of_reset_step_apply_last out 16 (fun _ => 0)
    (fun t i => ∑ r, g i (seqOf t) (rowOf t r)) (fun t h i => (first t h i).trans (zero_add _).symm) next (le_of_eq hN) t
    (by omega) i).trans ?_
  rw [zero_add]
  exact Fin.sum_points_lanes_congr (A := 4) (L := 2048) 4 (g := g i) (fun t k ha hl => rfl)

theorem final_loss (c : Dev nD) : (dats m 0 c).arrAt 11 cfg0.N = (fun _ => Loss.loss (args m c) : FVec Ideal S1x1 .f32) := by
  refine (dats m 0 c).arrAt_eq_of_covers 11 _ (by decide +kernel) fun t hf y => ?_
  have ht := (flush0_11 t).mp hf
  have hN : cfg0.N = 16 := N_0
  have htl := t.isLt
  blk_simp
  rw [after0_11]
  idx_vars y
  obtain rfl : y0 = 0 := Subsingleton.elim _ _
  obtain rfl : y1 = 0 := Subsingleton.elim _ _
  refine (total (fun n h (_ : Unit) => (outsAt0 m c n h).2.2.1 (ix2 0 0))
    (fun _ b s => Loss.half * Ideal.div (∑ l, Loss.err (args m c) b s l * Loss.err (args m c) b s l) len)
    (fun t h _ => by rw [outs_A m c t h]; refine (lossStep_apply m c t _).trans ?_; pointwise [k0_pay5])
    (fun t h _ => by rw [outs_B m c t h]; exact lossStep_apply m c t _) t (by omega) ()).trans ?_
  simp only [Loss.loss, Loss.half_sum]

theorem final_dfw (c : Dev nD) : (dats m 0 c).arrAt 12 cfg0.N
    = (fun y => Loss.dfw (args m c) (y 1) : FVec Ideal S1x1024 .f32) := by
  refine (dats m 0 c).arrAt_eq_of_covers 12 _ (by decide +kernel) fun t hf y => ?_
  have ht := (flush0_12 t).mp hf
  have hN : cfg0.N = 16 := N_0
  have htl := t.isLt
  blk_simp
  rw [after0_12]
  idx_vars y
  obtain rfl : y0 = 0 := Subsingleton.elim _ _
  refine (total (fun n h (i : Fin 1024) => (outsAt0 m c n h).2.2.2 (ix2 0 i))
    (fun i b s => Loss.dy (args m c) b s i * RowNorm.xh len (Loss.xn (args m c) b s) i)
    (fun t h i => by rw [outs_A m c t h]; refine (dfwStep_apply m c t _ i).trans ?_; pointwise [k0_pay6])
    (fun t h i => by rw [outs_B m c t h]; exact dfwStep_apply m c t _ i) t (by omega) y1).trans
    (show Loss.dfw (args m c) y1 = _ from congrArg (Loss.dfw (args m c)) ?_) <;> (apply Fin.ext; blk_simp [idx t] <;> simp)

end Cert.Kernel13Ideal.Value
-- ==== Proof.LossRef.lean ====
/-
  The reference of the output product with the loss: its intermediate arrays by name, their entries, and the four results
  of a run.
-/
module

public import proofs.«01_k».proof.Proof.Gen.Reference13Ideal.Run
public import proofs.«01_k».proof.Proof.LossSpec
public import proofs.«01_k».proof.Proof.Ref
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference13Ideal.Value

open Cert.Reference13Ideal Cert.Reference13Ideal.Gen
open Cert.Norm (len)

section Arrays

variable {F : FTy → Type} [FloatOps F] (m : (ℓ : Loc nD τ sig) → Buf (Elt F) ℓ) (c : Dev nD)

/-- The residual stream behind the layer, as the reference writes it. -/
def xnArr : FVec F S4x2048x1024 .f32 :=
  addf (m ((c.tc : Thread nD τ).loc main_arg0)) (mulf (broadcastInDim S4x2048x1024 ![0, 1, 2]
    bcast_S4x1x1024_S4x2048x1024_0_1_2 (broadcastInDim S4x1x1024 ![0, 2] bcast_S4x1024_S4x1x1024_0_2 (m ((c.tc :
    Thread nD τ).loc main_arg1)))) (Host.dotGeneral dot_S4x2048x1024_S1024x1024_S4x2048x1024_2_0_01_1_n_n none
    ((concatenate S4x2048x1024 2 [⟨S4x2048x256, ((extf .f32 (m ((c.tc : Thread nD τ).loc main_arg2)) bitsLt_bf16_f32)
    : (⟨S4x2048x256, .f32⟩ : BufTy).Contents (Elt F))⟩, ⟨S4x2048x512, ((mulf (m ((c.tc : Thread nD τ).loc main_arg3))
    (mulf (extf .f32 (extractStridedSlice S4x2048x512 ![0, 0, 512] (m ((c.tc : Thread nD τ).loc main_arg4))
    slices_S4x2048x1024_S4x2048x512_0_0_512) bitsLt_bf16_f32) (Host.divf (broadcastInDim S4x2048x512 ![]
    bcast_S_S4x2048x512 (constant S_ .f32 0x3F800000#32)) (addf (broadcastInDim S4x2048x512 ![] bcast_S_S4x2048x512
    (constant S_ .f32 0x3F800000#32)) (Host.exp (Host.negf (extf .f32 (extractStridedSlice S4x2048x512 ![0, 0, 512] (m
    ((c.tc : Thread nD τ).loc main_arg4)) slices_S4x2048x1024_S4x2048x512_0_0_512) bitsLt_bf16_f32))))))) :
    (⟨S4x2048x512, .f32⟩ : BufTy).Contents (Elt F))⟩, ⟨S4x2048x256, ((extf .f32 (m ((c.tc : Thread nD τ).loc
    main_arg5)) bitsLt_bf16_f32) : (⟨S4x2048x256, .f32⟩ : BufTy).Contents (Elt F))⟩]
    concatenates_S4x2048x256_S4x2048x512_S4x2048x256_S4x2048x1024_d2 : (⟨S4x2048x1024, .f32⟩ : BufTy).Contents (Elt
    F))) (m ((c.tc : Thread nD τ).loc main_arg6))))
/-- Its rows' mean squares plus the small constant. -/
def msArr : FVec F S4x2048x1 .f32 :=
  addf (Host.divf (broadcastInDim S4x2048x1 ![0, 1] bcast_S4x2048_S4x2048x1_0_1 (Host.reduceAdd (mulf (xnArr m c)
    (xnArr m c)) (constant S_ .f32 0x00000000#32) reducesTo_S4x2048x1024_S4x2048_d2 h_S_)) (broadcastInDim S4x2048x1
    ![] bcast_S_S4x2048x1 (constant S_ .f32 0x44800000#32))) (broadcastInDim S4x2048x1 ![] bcast_S_S4x2048x1 (constant
    S_ .f32 0x358637BD#32))
/-- The reciprocal roots of these. -/
def rsArr : FVec F S4x2048x1 .f32 :=
  Host.rsqrt (msArr m c)
/-- The normalised rows. -/
def xhArr : FVec F S4x2048x1024 .f32 :=
  mulf (xnArr m c) (broadcastInDim S4x2048x1024 ![0, 1, 2] bcast_S4x2048x1_S4x2048x1024_0_1_2 (rsArr m c))
/-- Their error. -/
def errArr : FVec F S4x2048x1024 .f32 :=
  subf (mulf (xhArr m c) (broadcastInDim S4x2048x1024 ![0, 1, 2] bcast_S1x1x1024_S4x2048x1024_0_1_2 (broadcastInDim
    S1x1x1024 ![2] bcast_S1024_S1x1x1024_2 (m ((c.tc : Thread nD τ).loc main_arg7))))) (m ((c.tc : Thread nD τ).loc
    main_arg8))
/-- The gradient at the final norm's result. -/
def dyArr : FVec F S4x2048x1024 .f32 :=
  mulf (broadcastInDim S4x2048x1024 ![0, 1] bcast_S4x2048_S4x2048x1024_0_1 (Host.divf (broadcastInDim S4x2048 ![]
    bcast_S_S4x2048 (mulf (constant S_ .f32 0x3F000000#32) (constant S_ .f32 0x3F800000#32))) (broadcastInDim S4x2048
    ![] bcast_S_S4x2048 (constant S_ .f32 0x44800000#32)))) (mulf (broadcastInDim S4x2048x1024 ![]
    bcast_S_S4x2048x1024 (constant S_ .f32 0x40000000#32)) (errArr m c))

end Arrays

variable (m : (ℓ : Loc nD τ sig) → Buf (Elt Ideal) ℓ)

/-- The reference's arguments on a device. -/
def args (c : Dev nD) : Loss.Args where
  mix := {
    r := fun b s k => m ((c.tc : Thread nD τ).loc main_arg2) (ix3 b s k)
    o := fun b s k => m ((c.tc : Thread nD τ).loc main_arg3) (ix3 b s k)
    z := fun b s k => m ((c.tc : Thread nD τ).loc main_arg4) (ix3 b s ⟨512 + k.val, by omega⟩)
    g := fun b s k => m ((c.tc : Thread nD τ).loc main_arg5) (ix3 b s k)
    w := fun k l => m ((c.tc : Thread nD τ).loc main_arg6) (ix2 k l) }
  x := fun b s l => m ((c.tc : Thread nD τ).loc main_arg0) (ix3 b s l)
  gate := fun b l => m ((c.tc : Thread nD τ).loc main_arg1) (ix2 b l)
  fw := fun l => m ((c.tc : Thread nD τ).loc main_arg7) (ix1 l)
  target := fun b s l => m ((c.tc : Thread nD τ).loc main_arg8) (ix3 b s l)

variable (c : Dev nD) (b : Fin 4) (s : Fin 2048) (l : Fin 1024)

theorem xn_apply : xnArr m c (ix3 b s l) = Loss.xn (args m c) b s l := by
  unfold xnArr
  clean_types
  pointwise
  rfl

theorem ms_apply : msArr m c (ix3 b s 0) = RowNorm.ms len (Loss.xn (args m c) b s) := by
  pointwise [msArr]
  simp only [xn_apply]
  rfl

theorem rs_apply : rsArr m c (ix3 b s 0) = RowNorm.rs len (Loss.xn (args m c) b s) := by
  pointwise [rsArr]
  rw [ms_apply]
  rfl

theorem xh_apply : xhArr m c (ix3 b s l) = RowNorm.xh len (Loss.xn (args m c) b s) l := by
  pointwise [xhArr]
  rw [xn_apply, rs_apply]
  rfl

theorem err_apply : errArr m c (ix3 b s l) = Loss.err (args m c) b s l := by
  unfold errArr
  clean_types
  pointwise
  rw [xh_apply]
  rfl

theorem dy_apply : dyArr m c (ix3 b s l) = Loss.dy (args m c) b s l := by
  pointwise [dyArr]
  rw [err_apply]
  exact Loss.dy_chain _

theorem r63 : (res_main_v63 m c : FVec Ideal S4x2048x1024 .f32) (ix3 b s l) = Loss.dx (args m c) b s l := by
  unfold res_main_v63
  rw [← xnArr, ← msArr, ← rsArr, ← xhArr, ← errArr, ← dyArr]
  clean_types
  pointwise
  simp only [Fin.sum_univ_one, xn_apply, rs_apply, ms_apply, dy_apply]
  rfl

theorem r64 : (res_main_v64 m c : FVec Ideal S1x1 .f32) (ix2 0 0) = Loss.loss (args m c) := by
  unfold res_main_v64
  rw [← xnArr, ← msArr, ← rsArr, ← xhArr, ← errArr]
  clean_types
  pointwise
  simp only [err_apply]
  rfl

theorem r65 : (res_main_v65 m c : FVec Ideal S1x1024 .f32) (ix2 0 l) = Loss.dfw (args m c) l := by
  unfold res_main_v65
  rw [← xnArr, ← msArr, ← rsArr, ← xhArr, ← errArr, ← dyArr]
  clean_types
  pointwise [Cert.ReferenceIdeal.Value.sum_first_two]
  simp only [Fin.sum_univ_one, xh_apply, dy_apply]
  exact Finset.sum_congr rfl fun b _ => Finset.sum_congr rfl fun s _ => mul_comm _ _

/-- The four results of a run of the reference. -/
theorem run_spec (ρ : Dev nD → PrngReg) :
    θ_run defs (onTc (τ := τ) (main (F := Ideal))) ⟨m, fun _ => 0, ρ⟩ fun r => ∀ c : Dev nD,
      r.2.mem ((c.tc : Thread nD τ).loc main_v63) = (fun y => Loss.dx (args m c) (y 0) (y 1) (y 2) : FVec Ideal S4x2048x1024 .f32)
      ∧ r.2.mem ((c.tc : Thread nD τ).loc main_v12) = (fun y => Mix.y (args m c).mix (y 0) (y 1) (y 2) : FVec Ideal S4x2048x1024 .bf16)
      ∧ r.2.mem ((c.tc : Thread nD τ).loc main_v64) = (fun _ => Loss.loss (args m c) : FVec Ideal S1x1 .f32)
      ∧ r.2.mem ((c.tc : Thread nD τ).loc main_v65) = (fun y => Loss.dfw (args m c) (y 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r h c => ?_) (run m ρ)
  obtain ⟨h0, h1, h2, h3, hk⟩ := h c
  refine ⟨h0.trans (funext fun y => ?_), h1.trans (funext fun y => ?_), h2.trans (funext fun y => ?_), h3.trans (funext fun y => ?_), hk⟩ <;>
    clear h0 h1 h2 h3 hk h <;> idx_vars y
  · exact r63 m c y0 y1 y2
  · clean_types
    pointwise
    rfl
  · obtain rfl : y0 = 0 := Subsingleton.elim _ _
    obtain rfl : y1 = 0 := Subsingleton.elim _ _
    exact r64 m c
  · obtain rfl : y0 = 0 := Subsingleton.elim _ _
    exact r65 m c y1

end Cert.Reference13Ideal.Value
-- ==== Proof.LossClaim.lean ====
/-
  The claims about the output product with the loss: the reference's frame, and that the idealized kernel and the
  reference leave the same four arrays on every input.
-/
module

public import proofs.«01_k».proof.Proof.LossArrays
public import proofs.«01_k».proof.Proof.LossRef
public import proofs.«01_k».proof.Defs
public import Idealize.ShloMosaic.Adequacy
public import Idealize.ShloMosaic.Init

@[expose] public section

noncomputable section

open Idealize.ShloMosaic Idealize.SL.Sem

namespace Cert.LossClaim

/-- The reference leaves its arguments as they were; it has no semaphores. -/
theorem frame_reference : quiescent_Reference13Ideal := fun m ρ _ =>
  (θ_run _ _ _).mono (fun r h => ⟨fun c => (h c).2.2.2.2, sem_eq_zero_of_no_sems rfl r.2⟩)
    (Cert.Reference13Ideal.Value.run_spec m ρ)

/-- Both runs leave the four arrays of the specification at the kernel's arguments. -/
theorem same_results : algebraic_Kernel13Ideal_Reference13Ideal := fun m ρ m' ρ' _ hag => by
  have e : ∀ c, Cert.Reference13Ideal.Value.args m' c = Cert.Kernel13Ideal.Value.args m c := fun c => by
    obtain ⟨h0, h1, h2, h3, h4, h5, h6, h7, h8⟩ := hag c
    unfold Cert.Reference13Ideal.Value.args
    rw [h0, h1, h2, h3, h4, h5, h6, h7, h8]
    rfl
  refine ⟨fun c y => Loss.dx (Cert.Kernel13Ideal.Value.args m c) (y 0) (y 1) (y 2),
    fun c y => Mix.y (Cert.Kernel13Ideal.Value.args m c).mix (y 0) (y 1) (y 2),
    fun c _ => Loss.loss (Cert.Kernel13Ideal.Value.args m c),
    fun c y => Loss.dfw (Cert.Kernel13Ideal.Value.args m c) (y 1),
    (θ_run _ _ _).mono (fun r h c => ?_) (Cert.Kernel13Ideal.Value.run_blocks m ρ),
    (θ_run _ _ _).mono (fun r h c => ?_) (Cert.Reference13Ideal.Value.run_spec m' ρ')⟩
  · obtain ⟨h0, h1, h2, h3, hk⟩ := h c
    exact ⟨h0.trans (Cert.Kernel13Ideal.Value.final_dx m c), h1.trans (Cert.Kernel13Ideal.Value.final_y m c),
      h2.trans (Cert.Kernel13Ideal.Value.final_loss m c), h3.trans (Cert.Kernel13Ideal.Value.final_dfw m c), hk⟩
  · have hc := h c
    rw [e c] at hc
    exact hc

end Cert.LossClaim
-- ==== Proof.lean ====
/-
  The claims about the calls put together: the projection's input-side gradient and its weight's, the output product's
  gradient, the projection forward and the output product forward, the optimiser steps of the conditioning weight, the
  conditioning bias and the four sharded weights, the latents' gradient, and the last layer's output product with the
  final norm and the loss.
-/
module

public import proofs.«01_k».proof.Proof.BackClaim
public import proofs.«01_k».proof.Proof.WeightClaim
public import proofs.«01_k».proof.Proof.OutClaim
public import proofs.«01_k».proof.Proof.ProjClaim
public import proofs.«01_k».proof.Proof.MixClaim
public import proofs.«01_k».proof.Proof.AdaWClaim
public import proofs.«01_k».proof.Proof.AdaBClaim
public import proofs.«01_k».proof.Proof.LayerClaim
public import proofs.«01_k».proof.Proof.LayerUqClaim
public import proofs.«01_k».proof.Proof.LayerUkvClaim
public import proofs.«01_k».proof.Proof.LayerOutClaim
public import proofs.«01_k».proof.Proof.LatClaim
public import proofs.«01_k».proof.Proof.LossClaim
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal

@[expose] public section

noncomputable section

namespace Cert.Proof

theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Pre_finite.facts,
  fun m ρ _ => Cert.Kernel.Gen.frame m ρ,
  fun m ρ _ => Cert.KernelIdeal.Gen.frame m ρ,
  BackClaim.frame_reference,
  fun m ρ _ => Cert.Kernel2.Gen.frame m ρ,
  fun m ρ _ => Cert.Kernel2Ideal.Gen.frame m ρ,
  WeightClaim.frame_reference,
  fun m ρ _ => Cert.Kernel3.Gen.frame m ρ,
  fun m ρ _ => Cert.Kernel3Ideal.Gen.frame m ρ,
  fun m ρ _ => Cert.Kernel3Ideal.Gen.frame m ρ,
  OutClaim.frame_reference,
  fun m ρ _ => OutClaim.frame_reference m ρ trivial,
  fun m ρ _ => Cert.Kernel4.Gen.frame m ρ,
  fun m ρ _ => Cert.Kernel4Ideal.Gen.frame m ρ,
  Proj.frame_reference,
  fun m ρ _ => Cert.Kernel5.Gen.frame m ρ,
  fun m ρ _ => Cert.Kernel5Ideal.Gen.frame m ρ,
  MixClaim.frame_reference,
  fun m ρ _ => Cert.Kernel6.Gen.frame m ρ,
  fun m ρ _ => Cert.Kernel6Ideal.Gen.frame m ρ,
  AdaWClaim.frame_reference,
  fun m ρ _ => Cert.Kernel7.Gen.frame m ρ,
  fun m ρ _ => Cert.Kernel7Ideal.Gen.frame m ρ,
  AdaBClaim.frame_reference,
  fun m ρ _ => Cert.Kernel8.Gen.frame m ρ,
  fun m ρ _ => Cert.Kernel8Ideal.Gen.frame m ρ,
  LayerClaim.frame_reference,
  fun m ρ _ => Cert.Kernel9.Gen.frame m ρ,
  fun m ρ _ => Cert.Kernel9Ideal.Gen.frame m ρ,
  LayerUqClaim.frame_reference,
  fun m ρ _ => Cert.Kernel10.Gen.frame m ρ,
  fun m ρ _ => Cert.Kernel10Ideal.Gen.frame m ρ,
  LayerUkvClaim.frame_reference,
  fun m ρ _ => Cert.Kernel11.Gen.frame m ρ,
  fun m ρ _ => Cert.Kernel11Ideal.Gen.frame m ρ,
  LayerOutClaim.frame_reference,
  fun m ρ _ => Cert.Kernel12.Gen.frame m ρ,
  fun m ρ _ => Cert.Kernel12Ideal.Gen.frame m ρ,
  LatClaim.frame_reference,
  fun m ρ _ => Cert.Kernel13.Gen.frame m ρ,
  fun m ρ _ => Cert.Kernel13Ideal.Gen.frame m ρ,
  LossClaim.frame_reference,
  trivial,
  BackClaim.same_results,
  trivial,
  WeightClaim.same_results,
  trivial,
  OutClaim.same_results,
  trivial,
  Proj.same_results,
  trivial,
  MixClaim.same_results,
  trivial,
  AdaWClaim.same_results,
  trivial,
  AdaBClaim.same_results,
  trivial,
  LayerClaim.same_results,
  trivial,
  LayerUqClaim.same_results,
  trivial,
  LayerUkvClaim.same_results,
  trivial,
  LayerOutClaim.same_results,
  trivial,
  LatClaim.same_results,
  trivial,
  LossClaim.same_results⟩

end Cert.Proof

end
